-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_log_decays [hPre_log_decays : Cert.Pre_log_decays.Facts] (m : (ℓ : Loc Cert.KernelIdeal.nD Cert.KernelIdeal.τ Cert.KernelIdeal.sig) → Buf (Elt Ideal) ℓ) : Prop :=
  ∀ c : Dev Cert.KernelIdeal.nD,
    (Cert.Pre_log_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_log_decays [hPre_log_decays : Cert.Pre_log_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_log_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutRefIdeal (m : (ℓ : Loc Cert.GlaOutRefIdeal.nD Cert.GlaOutRefIdeal.τ Cert.GlaOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_log_decays [hKernelIdeal : Cert.KernelIdeal.Facts] [hPre_log_decays : Cert.Pre_log_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_log_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_log_decays [hReferenceIdeal : Cert.ReferenceIdeal.Facts] [hPre_log_decays : Cert.Pre_log_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_log_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2)
      ∧ r.2.mem ((c.tc : Thread Cert.GlaOut.nD Cert.GlaOut.τ).loc Cert.GlaOut.main_arg3) = m ((c.tc : Thread Cert.GlaOut.nD Cert.GlaOut.τ).loc Cert.GlaOut.main_arg3)
      ∧ r.2.mem ((c.tc : Thread Cert.GlaOut.nD Cert.GlaOut.τ).loc Cert.GlaOut.main_arg4) = m ((c.tc : Thread Cert.GlaOut.nD Cert.GlaOut.τ).loc Cert.GlaOut.main_arg4)
      ∧ r.2.mem ((c.tc : Thread Cert.GlaOut.nD Cert.GlaOut.τ).loc Cert.GlaOut.main_arg5) = m ((c.tc : Thread Cert.GlaOut.nD Cert.GlaOut.τ).loc Cert.GlaOut.main_arg5)
      ∧ r.2.mem ((c.tc : Thread Cert.GlaOut.nD Cert.GlaOut.τ).loc Cert.GlaOut.main_arg6) = m ((c.tc : Thread Cert.GlaOut.nD Cert.GlaOut.τ).loc Cert.GlaOut.main_arg6)
      ∧ r.2.mem ((c.tc : Thread Cert.GlaOut.nD Cert.GlaOut.τ).loc Cert.GlaOut.main_arg7) = m ((c.tc : Thread Cert.GlaOut.nD Cert.GlaOut.τ).loc Cert.GlaOut.main_arg7)
      ∧ r.2.mem ((c.tc : Thread Cert.GlaOut.nD Cert.GlaOut.τ).loc Cert.GlaOut.main_arg8) = m ((c.tc : Thread Cert.GlaOut.nD Cert.GlaOut.τ).loc Cert.GlaOut.main_arg8)
      ∧ r.2.mem ((c.tc : Thread Cert.GlaOut.nD Cert.GlaOut.τ).loc Cert.GlaOut.main_arg9) = m ((c.tc : Thread Cert.GlaOut.nD Cert.GlaOut.τ).loc Cert.GlaOut.main_arg9))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
      ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3)
      ∧ r.2.mem ((c.tc : Thread Cert.GlaOutIdeal.nD Cert.GlaOutIdeal.τ).loc Cert.GlaOutIdeal.main_arg4) = m ((c.tc : Thread Cert.GlaOutIdeal.nD Cert.GlaOutIdeal.τ).loc Cert.GlaOutIdeal.main_arg4)
      ∧ r.2.mem ((c.tc : Thread Cert.GlaOutIdeal.nD Cert.GlaOutIdeal.τ).loc Cert.GlaOutIdeal.main_arg5) = m ((c.tc : Thread Cert.GlaOutIdeal.nD Cert.GlaOutIdeal.τ).loc Cert.GlaOutIdeal.main_arg5)
      ∧ r.2.mem ((c.tc : Thread Cert.GlaOutIdeal.nD Cert.GlaOutIdeal.τ).loc Cert.GlaOutIdeal.main_arg6) = m ((c.tc : Thread Cert.GlaOutIdeal.nD Cert.GlaOutIdeal.τ).loc Cert.GlaOutIdeal.main_arg6)
      ∧ r.2.mem ((c.tc : Thread Cert.GlaOutIdeal.nD Cert.GlaOutIdeal.τ).loc Cert.GlaOutIdeal.main_arg7) = m ((c.tc : Thread Cert.GlaOutIdeal.nD Cert.GlaOutIdeal.τ).loc Cert.GlaOutIdeal.main_arg7)
      ∧ r.2.mem ((c.tc : Thread Cert.GlaOutIdeal.nD Cert.GlaOutIdeal.τ).loc Cert.GlaOutIdeal.main_arg8) = m ((c.tc : Thread Cert.GlaOutIdeal.nD Cert.GlaOutIdeal.τ).loc Cert.GlaOutIdeal.main_arg8)
      ∧ r.2.mem ((c.tc : Thread Cert.GlaOutIdeal.nD Cert.GlaOutIdeal.τ).loc Cert.GlaOutIdeal.main_arg9) = m ((c.tc : Thread Cert.GlaOutIdeal.nD Cert.GlaOutIdeal.τ).loc Cert.GlaOutIdeal.main_arg9))
      ∧ r.2.sem = fun _ => 0)

def quiescent_GlaOutRefIdeal [hGlaOutRefIdeal : Cert.GlaOutRefIdeal.Facts] : Prop :=
  ∀ (m : (ℓ : Loc Cert.GlaOutRefIdeal.nD Cert.GlaOutRefIdeal.τ Cert.GlaOutRefIdeal.sig) → Buf (Elt Ideal) ℓ) (g : Dev Cert.GlaOutRefIdeal.nD → PrngReg), Pre_GlaOutRefIdeal m →
    θ_run (Cert.GlaOutRefIdeal.defs (F := Ideal)) (onTc (τ := Cert.GlaOutRefIdeal.τ) (Cert.GlaOutRefIdeal.main (F := Ideal))) ⟨m, fun _ => 0, g⟩ (fun r => (∀ c : Dev Cert.GlaOutRefIdeal.nD,
      r.2.mem ((c.tc : Thread Cert.GlaOutRefIdeal.nD Cert.GlaOutRefIdeal.τ).loc Cert.GlaOutRefIdeal.main_arg0) = m ((c.tc : Thread Cert.GlaOutRefIdeal.nD Cert.GlaOutRefIdeal.τ).loc Cert.GlaOutRefIdeal.main_arg0)
      ∧ r.2.mem ((c.tc : Thread Cert.GlaOutRefIdeal.nD Cert.GlaOutRefIdeal.τ).loc Cert.GlaOutRefIdeal.main_arg1) = m ((c.tc : Thread Cert.GlaOutRefIdeal.nD Cert.GlaOutRefIdeal.τ).loc Cert.GlaOutRefIdeal.main_arg1)
      ∧ r.2.mem ((c.tc : Thread Cert.GlaOutRefIdeal.nD Cert.GlaOutRefIdeal.τ).loc Cert.GlaOutRefIdeal.main_arg2) = m ((c.tc : Thread Cert.GlaOutRefIdeal.nD Cert.GlaOutRefIdeal.τ).loc Cert.GlaOutRefIdeal.main_arg2)
      ∧ r.2.mem ((c.tc : Thread Cert.GlaOutRefIdeal.nD Cert.GlaOutRefIdeal.τ).loc Cert.GlaOutRefIdeal.main_arg3) = m ((c.tc : Thread Cert.GlaOutRefIdeal.nD Cert.GlaOutRefIdeal.τ).loc Cert.GlaOutRefIdeal.main_arg3)
      ∧ r.2.mem ((c.tc : Thread Cert.GlaOutRefIdeal.nD Cert.GlaOutRefIdeal.τ).loc Cert.GlaOutRefIdeal.main_arg4) = m ((c.tc : Thread Cert.GlaOutRefIdeal.nD Cert.GlaOutRefIdeal.τ).loc Cert.GlaOutRefIdeal.main_arg4)
      ∧ r.2.mem ((c.tc : Thread Cert.GlaOutRefIdeal.nD Cert.GlaOutRefIdeal.τ).loc Cert.GlaOutRefIdeal.main_arg5) = m ((c.tc : Thread Cert.GlaOutRefIdeal.nD Cert.GlaOutRefIdeal.τ).loc Cert.GlaOutRefIdeal.main_arg5)
      ∧ r.2.mem ((c.tc : Thread Cert.GlaOutRefIdeal.nD Cert.GlaOutRefIdeal.τ).loc Cert.GlaOutRefIdeal.main_arg6) = m ((c.tc : Thread Cert.GlaOutRefIdeal.nD Cert.GlaOutRefIdeal.τ).loc Cert.GlaOutRefIdeal.main_arg6)
      ∧ r.2.mem ((c.tc : Thread Cert.GlaOutRefIdeal.nD Cert.GlaOutRefIdeal.τ).loc Cert.GlaOutRefIdeal.main_arg7) = m ((c.tc : Thread Cert.GlaOutRefIdeal.nD Cert.GlaOutRefIdeal.τ).loc Cert.GlaOutRefIdeal.main_arg7)
      ∧ r.2.mem ((c.tc : Thread Cert.GlaOutRefIdeal.nD Cert.GlaOutRefIdeal.τ).loc Cert.GlaOutRefIdeal.main_arg8) = m ((c.tc : Thread Cert.GlaOutRefIdeal.nD Cert.GlaOutRefIdeal.τ).loc Cert.GlaOutRefIdeal.main_arg8)
      ∧ r.2.mem ((c.tc : Thread Cert.GlaOutRefIdeal.nD Cert.GlaOutRefIdeal.τ).loc Cert.GlaOutRefIdeal.main_arg9) = m ((c.tc : Thread Cert.GlaOutRefIdeal.nD Cert.GlaOutRefIdeal.τ).loc Cert.GlaOutRefIdeal.main_arg9))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8)
      ∧ r.2.mem ((c.tc : Thread Cert.EvenOut.nD Cert.EvenOut.τ).loc Cert.EvenOut.main_arg9) = m ((c.tc : Thread Cert.EvenOut.nD Cert.EvenOut.τ).loc Cert.EvenOut.main_arg9)
      ∧ r.2.mem ((c.tc : Thread Cert.EvenOut.nD Cert.EvenOut.τ).loc Cert.EvenOut.main_arg10) = m ((c.tc : Thread Cert.EvenOut.nD Cert.EvenOut.τ).loc Cert.EvenOut.main_arg10))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
      ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
      ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8)
      ∧ r.2.mem ((c.tc : Thread Cert.EvenOutRefIdeal.nD Cert.EvenOutRefIdeal.τ).loc Cert.EvenOutRefIdeal.main_arg9) = m ((c.tc : Thread Cert.EvenOutRefIdeal.nD Cert.EvenOutRefIdeal.τ).loc Cert.EvenOutRefIdeal.main_arg9)
      ∧ r.2.mem ((c.tc : Thread Cert.EvenOutRefIdeal.nD Cert.EvenOutRefIdeal.τ).loc Cert.EvenOutRefIdeal.main_arg10) = m ((c.tc : Thread Cert.EvenOutRefIdeal.nD Cert.EvenOutRefIdeal.τ).loc Cert.EvenOutRefIdeal.main_arg10))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2)
      ∧ r.2.mem ((c.tc : Thread Cert.GlaIn.nD Cert.GlaIn.τ).loc Cert.GlaIn.main_arg3) = m ((c.tc : Thread Cert.GlaIn.nD Cert.GlaIn.τ).loc Cert.GlaIn.main_arg3)
      ∧ r.2.mem ((c.tc : Thread Cert.GlaIn.nD Cert.GlaIn.τ).loc Cert.GlaIn.main_arg4) = m ((c.tc : Thread Cert.GlaIn.nD Cert.GlaIn.τ).loc Cert.GlaIn.main_arg4)
      ∧ r.2.mem ((c.tc : Thread Cert.GlaIn.nD Cert.GlaIn.τ).loc Cert.GlaIn.main_arg5) = m ((c.tc : Thread Cert.GlaIn.nD Cert.GlaIn.τ).loc Cert.GlaIn.main_arg5))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
      ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
      ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
      ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1)
      ∧ r.2.mem ((c.tc : Thread Cert.GlaInRefIdeal.nD Cert.GlaInRefIdeal.τ).loc Cert.GlaInRefIdeal.main_arg2) = m ((c.tc : Thread Cert.GlaInRefIdeal.nD Cert.GlaInRefIdeal.τ).loc Cert.GlaInRefIdeal.main_arg2)
      ∧ r.2.mem ((c.tc : Thread Cert.GlaInRefIdeal.nD Cert.GlaInRefIdeal.τ).loc Cert.GlaInRefIdeal.main_arg3) = m ((c.tc : Thread Cert.GlaInRefIdeal.nD Cert.GlaInRefIdeal.τ).loc Cert.GlaInRefIdeal.main_arg3)
      ∧ r.2.mem ((c.tc : Thread Cert.GlaInRefIdeal.nD Cert.GlaInRefIdeal.τ).loc Cert.GlaInRefIdeal.main_arg4) = m ((c.tc : Thread Cert.GlaInRefIdeal.nD Cert.GlaInRefIdeal.τ).loc Cert.GlaInRefIdeal.main_arg4)
      ∧ r.2.mem ((c.tc : Thread Cert.GlaInRefIdeal.nD Cert.GlaInRefIdeal.τ).loc Cert.GlaInRefIdeal.main_arg5) = m ((c.tc : Thread Cert.GlaInRefIdeal.nD Cert.GlaInRefIdeal.τ).loc Cert.GlaInRefIdeal.main_arg5))
      ∧ r.2.sem = fun _ => 0)

def preserves_Kernel_KernelIdeal : Prop :=
  True

def algebraic_KernelIdeal_ReferenceIdeal_pre_log_decays [hKernelIdeal : Cert.KernelIdeal.Facts] [hReferenceIdeal : Cert.ReferenceIdeal.Facts] [hPre_log_decays : Cert.Pre_log_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_log_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GlaOut_GlaOutIdeal : Prop :=
  True

def algebraic_GlaOutIdeal_GlaOutRefIdeal [hGlaOutIdeal : Cert.GlaOutIdeal.Facts] [hGlaOutRefIdeal : Cert.GlaOutRefIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutRefIdeal.nD Cert.GlaOutRefIdeal.τ Cert.GlaOutRefIdeal.sig) → Buf (Elt Ideal) ℓ) (g' : Dev Cert.GlaOutRefIdeal.nD → PrngReg), Pre_GlaOutIdeal m →
    (∀ c : Dev Cert.GlaOutIdeal.nD,
      m' ((c.tc : Thread Cert.GlaOutRefIdeal.nD Cert.GlaOutRefIdeal.τ).loc Cert.GlaOutRefIdeal.main_arg0) = m ((c.tc : Thread Cert.GlaOutIdeal.nD Cert.GlaOutIdeal.τ).loc Cert.GlaOutIdeal.main_arg0)
      ∧ m' ((c.tc : Thread Cert.GlaOutRefIdeal.nD Cert.GlaOutRefIdeal.τ).loc Cert.GlaOutRefIdeal.main_arg1) = m ((c.tc : Thread Cert.GlaOutIdeal.nD Cert.GlaOutIdeal.τ).loc Cert.GlaOutIdeal.main_arg1)
      ∧ m' ((c.tc : Thread Cert.GlaOutRefIdeal.nD Cert.GlaOutRefIdeal.τ).loc Cert.GlaOutRefIdeal.main_arg2) = m ((c.tc : Thread Cert.GlaOutIdeal.nD Cert.GlaOutIdeal.τ).loc Cert.GlaOutIdeal.main_arg2)
      ∧ m' ((c.tc : Thread Cert.GlaOutRefIdeal.nD Cert.GlaOutRefIdeal.τ).loc Cert.GlaOutRefIdeal.main_arg3) = m ((c.tc : Thread Cert.GlaOutIdeal.nD Cert.GlaOutIdeal.τ).loc Cert.GlaOutIdeal.main_arg3)
      ∧ m' ((c.tc : Thread Cert.GlaOutRefIdeal.nD Cert.GlaOutRefIdeal.τ).loc Cert.GlaOutRefIdeal.main_arg4) = m ((c.tc : Thread Cert.GlaOutIdeal.nD Cert.GlaOutIdeal.τ).loc Cert.GlaOutIdeal.main_arg4)
      ∧ m' ((c.tc : Thread Cert.GlaOutRefIdeal.nD Cert.GlaOutRefIdeal.τ).loc Cert.GlaOutRefIdeal.main_arg5) = m ((c.tc : Thread Cert.GlaOutIdeal.nD Cert.GlaOutIdeal.τ).loc Cert.GlaOutIdeal.main_arg5)
      ∧ m' ((c.tc : Thread Cert.GlaOutRefIdeal.nD Cert.GlaOutRefIdeal.τ).loc Cert.GlaOutRefIdeal.main_arg6) = m ((c.tc : Thread Cert.GlaOutIdeal.nD Cert.GlaOutIdeal.τ).loc Cert.GlaOutIdeal.main_arg6)
      ∧ m' ((c.tc : Thread Cert.GlaOutRefIdeal.nD Cert.GlaOutRefIdeal.τ).loc Cert.GlaOutRefIdeal.main_arg7) = m ((c.tc : Thread Cert.GlaOutIdeal.nD Cert.GlaOutIdeal.τ).loc Cert.GlaOutIdeal.main_arg7)
      ∧ m' ((c.tc : Thread Cert.GlaOutRefIdeal.nD Cert.GlaOutRefIdeal.τ).loc Cert.GlaOutRefIdeal.main_arg8) = m ((c.tc : Thread Cert.GlaOutIdeal.nD Cert.GlaOutIdeal.τ).loc Cert.GlaOutIdeal.main_arg8)
      ∧ m' ((c.tc : Thread Cert.GlaOutRefIdeal.nD Cert.GlaOutRefIdeal.τ).loc Cert.GlaOutRefIdeal.main_arg9) = m ((c.tc : Thread Cert.GlaOutIdeal.nD Cert.GlaOutIdeal.τ).loc Cert.GlaOutIdeal.main_arg9)) →
    ∃ (v0 : (c : Dev Cert.GlaOutIdeal.nD) → Buf (Elt Ideal) ((c.tc : Thread Cert.GlaOutIdeal.nD Cert.GlaOutIdeal.τ).loc Cert.GlaOutIdeal.main_v10)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v10) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
          ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3)
          ∧ r.2.mem ((c.tc : Thread Cert.GlaOutIdeal.nD Cert.GlaOutIdeal.τ).loc Cert.GlaOutIdeal.main_arg4) = m ((c.tc : Thread Cert.GlaOutIdeal.nD Cert.GlaOutIdeal.τ).loc Cert.GlaOutIdeal.main_arg4)
          ∧ r.2.mem ((c.tc : Thread Cert.GlaOutIdeal.nD Cert.GlaOutIdeal.τ).loc Cert.GlaOutIdeal.main_arg5) = m ((c.tc : Thread Cert.GlaOutIdeal.nD Cert.GlaOutIdeal.τ).loc Cert.GlaOutIdeal.main_arg5)
          ∧ r.2.mem ((c.tc : Thread Cert.GlaOutIdeal.nD Cert.GlaOutIdeal.τ).loc Cert.GlaOutIdeal.main_arg6) = m ((c.tc : Thread Cert.GlaOutIdeal.nD Cert.GlaOutIdeal.τ).loc Cert.GlaOutIdeal.main_arg6)
          ∧ r.2.mem ((c.tc : Thread Cert.GlaOutIdeal.nD Cert.GlaOutIdeal.τ).loc Cert.GlaOutIdeal.main_arg7) = m ((c.tc : Thread Cert.GlaOutIdeal.nD Cert.GlaOutIdeal.τ).loc Cert.GlaOutIdeal.main_arg7)
          ∧ r.2.mem ((c.tc : Thread Cert.GlaOutIdeal.nD Cert.GlaOutIdeal.τ).loc Cert.GlaOutIdeal.main_arg8) = m ((c.tc : Thread Cert.GlaOutIdeal.nD Cert.GlaOutIdeal.τ).loc Cert.GlaOutIdeal.main_arg8)
          ∧ r.2.mem ((c.tc : Thread Cert.GlaOutIdeal.nD Cert.GlaOutIdeal.τ).loc Cert.GlaOutIdeal.main_arg9) = m ((c.tc : Thread Cert.GlaOutIdeal.nD Cert.GlaOutIdeal.τ).loc Cert.GlaOutIdeal.main_arg9))
      ∧ θ_run (Cert.GlaOutRefIdeal.defs (F := Ideal)) (onTc (τ := Cert.GlaOutRefIdeal.τ) (Cert.GlaOutRefIdeal.main (F := Ideal))) ⟨m', fun _ => 0, g'⟩ (fun r => ∀ c : Dev Cert.GlaOutRefIdeal.nD,
          r.2.mem ((c.tc : Thread Cert.GlaOutRefIdeal.nD Cert.GlaOutRefIdeal.τ).loc Cert.GlaOutRefIdeal.main_v79) = v0 c
          ∧ r.2.mem ((c.tc : Thread Cert.GlaOutRefIdeal.nD Cert.GlaOutRefIdeal.τ).loc Cert.GlaOutRefIdeal.main_arg0) = m' ((c.tc : Thread Cert.GlaOutRefIdeal.nD Cert.GlaOutRefIdeal.τ).loc Cert.GlaOutRefIdeal.main_arg0)
          ∧ r.2.mem ((c.tc : Thread Cert.GlaOutRefIdeal.nD Cert.GlaOutRefIdeal.τ).loc Cert.GlaOutRefIdeal.main_arg1) = m' ((c.tc : Thread Cert.GlaOutRefIdeal.nD Cert.GlaOutRefIdeal.τ).loc Cert.GlaOutRefIdeal.main_arg1)
          ∧ r.2.mem ((c.tc : Thread Cert.GlaOutRefIdeal.nD Cert.GlaOutRefIdeal.τ).loc Cert.GlaOutRefIdeal.main_arg2) = m' ((c.tc : Thread Cert.GlaOutRefIdeal.nD Cert.GlaOutRefIdeal.τ).loc Cert.GlaOutRefIdeal.main_arg2)
          ∧ r.2.mem ((c.tc : Thread Cert.GlaOutRefIdeal.nD Cert.GlaOutRefIdeal.τ).loc Cert.GlaOutRefIdeal.main_arg3) = m' ((c.tc : Thread Cert.GlaOutRefIdeal.nD Cert.GlaOutRefIdeal.τ).loc Cert.GlaOutRefIdeal.main_arg3)
          ∧ r.2.mem ((c.tc : Thread Cert.GlaOutRefIdeal.nD Cert.GlaOutRefIdeal.τ).loc Cert.GlaOutRefIdeal.main_arg4) = m' ((c.tc : Thread Cert.GlaOutRefIdeal.nD Cert.GlaOutRefIdeal.τ).loc Cert.GlaOutRefIdeal.main_arg4)
          ∧ r.2.mem ((c.tc : Thread Cert.GlaOutRefIdeal.nD Cert.GlaOutRefIdeal.τ).loc Cert.GlaOutRefIdeal.main_arg5) = m' ((c.tc : Thread Cert.GlaOutRefIdeal.nD Cert.GlaOutRefIdeal.τ).loc Cert.GlaOutRefIdeal.main_arg5)
          ∧ r.2.mem ((c.tc : Thread Cert.GlaOutRefIdeal.nD Cert.GlaOutRefIdeal.τ).loc Cert.GlaOutRefIdeal.main_arg6) = m' ((c.tc : Thread Cert.GlaOutRefIdeal.nD Cert.GlaOutRefIdeal.τ).loc Cert.GlaOutRefIdeal.main_arg6)
          ∧ r.2.mem ((c.tc : Thread Cert.GlaOutRefIdeal.nD Cert.GlaOutRefIdeal.τ).loc Cert.GlaOutRefIdeal.main_arg7) = m' ((c.tc : Thread Cert.GlaOutRefIdeal.nD Cert.GlaOutRefIdeal.τ).loc Cert.GlaOutRefIdeal.main_arg7)
          ∧ r.2.mem ((c.tc : Thread Cert.GlaOutRefIdeal.nD Cert.GlaOutRefIdeal.τ).loc Cert.GlaOutRefIdeal.main_arg8) = m' ((c.tc : Thread Cert.GlaOutRefIdeal.nD Cert.GlaOutRefIdeal.τ).loc Cert.GlaOutRefIdeal.main_arg8)
          ∧ r.2.mem ((c.tc : Thread Cert.GlaOutRefIdeal.nD Cert.GlaOutRefIdeal.τ).loc Cert.GlaOutRefIdeal.main_arg9) = m' ((c.tc : Thread Cert.GlaOutRefIdeal.nD Cert.GlaOutRefIdeal.τ).loc Cert.GlaOutRefIdeal.main_arg9))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)
      ∧ m' ((c.tc : Thread Cert.EvenOutRefIdeal.nD Cert.EvenOutRefIdeal.τ).loc Cert.EvenOutRefIdeal.main_arg9) = m ((c.tc : Thread Cert.EvenOutIdeal.nD Cert.EvenOutIdeal.τ).loc Cert.EvenOutIdeal.main_arg9)
      ∧ m' ((c.tc : Thread Cert.EvenOutRefIdeal.nD Cert.EvenOutRefIdeal.τ).loc Cert.EvenOutRefIdeal.main_arg10) = m ((c.tc : Thread Cert.EvenOutIdeal.nD Cert.EvenOutIdeal.τ).loc Cert.EvenOutIdeal.main_arg10)) →
    ∃ (v0 : (c : Dev Cert.EvenOutIdeal.nD) → Buf (Elt Ideal) ((c.tc : Thread Cert.EvenOutIdeal.nD Cert.EvenOutIdeal.τ).loc Cert.EvenOutIdeal.main_v12)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v12) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
          ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
          ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v66) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8)
          ∧ r.2.mem ((c.tc : Thread Cert.EvenOutRefIdeal.nD Cert.EvenOutRefIdeal.τ).loc Cert.EvenOutRefIdeal.main_arg9) = m' ((c.tc : Thread Cert.EvenOutRefIdeal.nD Cert.EvenOutRefIdeal.τ).loc Cert.EvenOutRefIdeal.main_arg9)
          ∧ r.2.mem ((c.tc : Thread Cert.EvenOutRefIdeal.nD Cert.EvenOutRefIdeal.τ).loc Cert.EvenOutRefIdeal.main_arg10) = m' ((c.tc : Thread Cert.EvenOutRefIdeal.nD Cert.EvenOutRefIdeal.τ).loc Cert.EvenOutRefIdeal.main_arg10))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v86_0)) (v1 : (c : Dev Cert.EvenInIdeal.nD) → Buf (Elt Ideal) ((c.tc : Thread Cert.EvenInIdeal.nD Cert.EvenInIdeal.τ).loc Cert.EvenInIdeal.main_v88)) (v2 : (c : Dev Cert.EvenInIdeal.nD) → Buf (Elt Ideal) ((c.tc : Thread Cert.EvenInIdeal.nD Cert.EvenInIdeal.τ).loc Cert.EvenInIdeal.main_v90)) (v3 : (c : Dev Cert.EvenInIdeal.nD) → Buf (Elt Ideal) ((c.tc : Thread Cert.EvenInIdeal.nD Cert.EvenInIdeal.τ).loc Cert.EvenInIdeal.main_v86_3)) (v4 : (c : Dev Cert.EvenInIdeal.nD) → Buf (Elt Ideal) ((c.tc : Thread Cert.EvenInIdeal.nD Cert.EvenInIdeal.τ).loc Cert.EvenInIdeal.main_v92)) (v5 : (c : Dev Cert.EvenInIdeal.nD) → Buf (Elt Ideal) ((c.tc : Thread Cert.EvenInIdeal.nD Cert.EvenInIdeal.τ).loc Cert.EvenInIdeal.main_v94)) (v6 : (c : Dev Cert.EvenInIdeal.nD) → Buf (Elt Ideal) ((c.tc : Thread Cert.EvenInIdeal.nD Cert.EvenInIdeal.τ).loc Cert.EvenInIdeal.main_v86_6)) (v7 : (c : Dev Cert.EvenInIdeal.nD) → Buf (Elt Ideal) ((c.tc : Thread Cert.EvenInIdeal.nD Cert.EvenInIdeal.τ).loc Cert.EvenInIdeal.main_v97)) (v8 : (c : Dev Cert.EvenInIdeal.nD) → Buf (Elt Ideal) ((c.tc : Thread Cert.EvenInIdeal.nD Cert.EvenInIdeal.τ).loc Cert.EvenInIdeal.main_v98)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v86_0) = v0 c
          ∧ r.2.mem ((c.tc : Thread Cert.EvenInIdeal.nD Cert.EvenInIdeal.τ).loc Cert.EvenInIdeal.main_v88) = v1 c
          ∧ r.2.mem ((c.tc : Thread Cert.EvenInIdeal.nD Cert.EvenInIdeal.τ).loc Cert.EvenInIdeal.main_v90) = v2 c
          ∧ r.2.mem ((c.tc : Thread Cert.EvenInIdeal.nD Cert.EvenInIdeal.τ).loc Cert.EvenInIdeal.main_v86_3) = v3 c
          ∧ r.2.mem ((c.tc : Thread Cert.EvenInIdeal.nD Cert.EvenInIdeal.τ).loc Cert.EvenInIdeal.main_v92) = v4 c
          ∧ r.2.mem ((c.tc : Thread Cert.EvenInIdeal.nD Cert.EvenInIdeal.τ).loc Cert.EvenInIdeal.main_v94) = v5 c
          ∧ r.2.mem ((c.tc : Thread Cert.EvenInIdeal.nD Cert.EvenInIdeal.τ).loc Cert.EvenInIdeal.main_v86_6) = v6 c
          ∧ r.2.mem ((c.tc : Thread Cert.EvenInIdeal.nD Cert.EvenInIdeal.τ).loc Cert.EvenInIdeal.main_v97) = v7 c
          ∧ r.2.mem ((c.tc : Thread Cert.EvenInIdeal.nD Cert.EvenInIdeal.τ).loc Cert.EvenInIdeal.main_v98) = v8 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v287) = v0 c
          ∧ r.2.mem ((c.tc : Thread Cert.EvenInRefIdeal.nD Cert.EvenInRefIdeal.τ).loc Cert.EvenInRefIdeal.main_v124) = v1 c
          ∧ r.2.mem ((c.tc : Thread Cert.EvenInRefIdeal.nD Cert.EvenInRefIdeal.τ).loc Cert.EvenInRefIdeal.main_v125) = v2 c
          ∧ r.2.mem ((c.tc : Thread Cert.EvenInRefIdeal.nD Cert.EvenInRefIdeal.τ).loc Cert.EvenInRefIdeal.main_v288) = v3 c
          ∧ r.2.mem ((c.tc : Thread Cert.EvenInRefIdeal.nD Cert.EvenInRefIdeal.τ).loc Cert.EvenInRefIdeal.main_v291) = v4 c
          ∧ r.2.mem ((c.tc : Thread Cert.EvenInRefIdeal.nD Cert.EvenInRefIdeal.τ).loc Cert.EvenInRefIdeal.main_v294) = v5 c
          ∧ r.2.mem ((c.tc : Thread Cert.EvenInRefIdeal.nD Cert.EvenInRefIdeal.τ).loc Cert.EvenInRefIdeal.main_v295) = v6 c
          ∧ r.2.mem ((c.tc : Thread Cert.EvenInRefIdeal.nD Cert.EvenInRefIdeal.τ).loc Cert.EvenInRefIdeal.main_v296) = v7 c
          ∧ r.2.mem ((c.tc : Thread Cert.EvenInRefIdeal.nD Cert.EvenInRefIdeal.τ).loc Cert.EvenInRefIdeal.main_v283) = v8 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)
      ∧ m' ((c.tc : Thread Cert.GlaInRefIdeal.nD Cert.GlaInRefIdeal.τ).loc Cert.GlaInRefIdeal.main_arg2) = m ((c.tc : Thread Cert.GlaInIdeal.nD Cert.GlaInIdeal.τ).loc Cert.GlaInIdeal.main_arg2)
      ∧ m' ((c.tc : Thread Cert.GlaInRefIdeal.nD Cert.GlaInRefIdeal.τ).loc Cert.GlaInRefIdeal.main_arg3) = m ((c.tc : Thread Cert.GlaInIdeal.nD Cert.GlaInIdeal.τ).loc Cert.GlaInIdeal.main_arg3)
      ∧ m' ((c.tc : Thread Cert.GlaInRefIdeal.nD Cert.GlaInRefIdeal.τ).loc Cert.GlaInRefIdeal.main_arg4) = m ((c.tc : Thread Cert.GlaInIdeal.nD Cert.GlaInIdeal.τ).loc Cert.GlaInIdeal.main_arg4)
      ∧ m' ((c.tc : Thread Cert.GlaInRefIdeal.nD Cert.GlaInRefIdeal.τ).loc Cert.GlaInRefIdeal.main_arg5) = m ((c.tc : Thread Cert.GlaInIdeal.nD Cert.GlaInIdeal.τ).loc Cert.GlaInIdeal.main_arg5)) →
    ∃ (v0 : (c : Dev Cert.GlaInIdeal.nD) → Buf (Elt Ideal) ((c.tc : Thread Cert.GlaInIdeal.nD Cert.GlaInIdeal.τ).loc Cert.GlaInIdeal.main_v12_0)) (v1 : (c : Dev Cert.GlaInIdeal.nD) → Buf (Elt Ideal) ((c.tc : Thread Cert.GlaInIdeal.nD Cert.GlaInIdeal.τ).loc Cert.GlaInIdeal.main_v12_1)) (v2 : (c : Dev Cert.GlaInIdeal.nD) → Buf (Elt Ideal) ((c.tc : Thread Cert.GlaInIdeal.nD Cert.GlaInIdeal.τ).loc Cert.GlaInIdeal.main_v12_2)) (v3 : (c : Dev Cert.GlaInIdeal.nD) → Buf (Elt Ideal) ((c.tc : Thread Cert.GlaInIdeal.nD Cert.GlaInIdeal.τ).loc Cert.GlaInIdeal.main_v12_3)) (v4 : (c : Dev Cert.GlaInIdeal.nD) → Buf (Elt Ideal) ((c.tc : Thread Cert.GlaInIdeal.nD Cert.GlaInIdeal.τ).loc Cert.GlaInIdeal.main_v12_4)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v12_0) = v0 c
          ∧ r.2.mem ((c.tc : Thread Cert.GlaInIdeal.nD Cert.GlaInIdeal.τ).loc Cert.GlaInIdeal.main_v12_1) = v1 c
          ∧ r.2.mem ((c.tc : Thread Cert.GlaInIdeal.nD Cert.GlaInIdeal.τ).loc Cert.GlaInIdeal.main_v12_2) = v2 c
          ∧ r.2.mem ((c.tc : Thread Cert.GlaInIdeal.nD Cert.GlaInIdeal.τ).loc Cert.GlaInIdeal.main_v12_3) = v3 c
          ∧ r.2.mem ((c.tc : Thread Cert.GlaInIdeal.nD Cert.GlaInIdeal.τ).loc Cert.GlaInIdeal.main_v12_4) = v4 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
          ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
          ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
          ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v53) = v0 c
          ∧ r.2.mem ((c.tc : Thread Cert.GlaInRefIdeal.nD Cert.GlaInRefIdeal.τ).loc Cert.GlaInRefIdeal.main_v54) = v1 c
          ∧ r.2.mem ((c.tc : Thread Cert.GlaInRefIdeal.nD Cert.GlaInRefIdeal.τ).loc Cert.GlaInRefIdeal.main_v55) = v2 c
          ∧ r.2.mem ((c.tc : Thread Cert.GlaInRefIdeal.nD Cert.GlaInRefIdeal.τ).loc Cert.GlaInRefIdeal.main_v56) = v3 c
          ∧ r.2.mem ((c.tc : Thread Cert.GlaInRefIdeal.nD Cert.GlaInRefIdeal.τ).loc Cert.GlaInRefIdeal.main_v57) = v4 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1)
          ∧ r.2.mem ((c.tc : Thread Cert.GlaInRefIdeal.nD Cert.GlaInRefIdeal.τ).loc Cert.GlaInRefIdeal.main_arg2) = m' ((c.tc : Thread Cert.GlaInRefIdeal.nD Cert.GlaInRefIdeal.τ).loc Cert.GlaInRefIdeal.main_arg2)
          ∧ r.2.mem ((c.tc : Thread Cert.GlaInRefIdeal.nD Cert.GlaInRefIdeal.τ).loc Cert.GlaInRefIdeal.main_arg3) = m' ((c.tc : Thread Cert.GlaInRefIdeal.nD Cert.GlaInRefIdeal.τ).loc Cert.GlaInRefIdeal.main_arg3)
          ∧ r.2.mem ((c.tc : Thread Cert.GlaInRefIdeal.nD Cert.GlaInRefIdeal.τ).loc Cert.GlaInRefIdeal.main_arg4) = m' ((c.tc : Thread Cert.GlaInRefIdeal.nD Cert.GlaInRefIdeal.τ).loc Cert.GlaInRefIdeal.main_arg4)
          ∧ r.2.mem ((c.tc : Thread Cert.GlaInRefIdeal.nD Cert.GlaInRefIdeal.τ).loc Cert.GlaInRefIdeal.main_arg5) = m' ((c.tc : Thread Cert.GlaInRefIdeal.nD Cert.GlaInRefIdeal.τ).loc Cert.GlaInRefIdeal.main_arg5))

def Claim : Prop :=
  ∃ (hKernel : Cert.Kernel.Facts) (hKernelIdeal : Cert.KernelIdeal.Facts) (hReferenceIdeal : Cert.ReferenceIdeal.Facts) (hGlaOut : Cert.GlaOut.Facts) (hGlaOutIdeal : Cert.GlaOutIdeal.Facts) (hGlaOutRefIdeal : Cert.GlaOutRefIdeal.Facts) (hEvenOut : Cert.EvenOut.Facts) (hEvenOutIdeal : Cert.EvenOutIdeal.Facts) (hEvenOutRefIdeal : Cert.EvenOutRefIdeal.Facts) (hEvenIn : Cert.EvenIn.Facts) (hEvenInIdeal : Cert.EvenInIdeal.Facts) (hEvenInRefIdeal : Cert.EvenInRefIdeal.Facts) (hGlaIn : Cert.GlaIn.Facts) (hGlaInIdeal : Cert.GlaInIdeal.Facts) (hGlaInRefIdeal : Cert.GlaInRefIdeal.Facts) (hPre_log_decays : Cert.Pre_log_decays.Facts),
    quiescent_Kernel (hKernel := hKernel)
    ∧ quiescent_KernelIdeal (hKernelIdeal := hKernelIdeal)
    ∧ quiescent_KernelIdeal_pre_log_decays (hKernelIdeal := hKernelIdeal) (hPre_log_decays := hPre_log_decays)
    ∧ quiescent_ReferenceIdeal (hReferenceIdeal := hReferenceIdeal)
    ∧ quiescent_ReferenceIdeal_pre_log_decays (hReferenceIdeal := hReferenceIdeal) (hPre_log_decays := hPre_log_decays)
    ∧ quiescent_GlaOut (hGlaOut := hGlaOut)
    ∧ quiescent_GlaOutIdeal (hGlaOutIdeal := hGlaOutIdeal)
    ∧ quiescent_GlaOutRefIdeal (hGlaOutRefIdeal := hGlaOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ preserves_Kernel_KernelIdeal
    ∧ algebraic_KernelIdeal_ReferenceIdeal_pre_log_decays (hKernelIdeal := hKernelIdeal) (hReferenceIdeal := hReferenceIdeal) (hPre_log_decays := hPre_log_decays)
    ∧ preserves_GlaOut_GlaOutIdeal
    ∧ algebraic_GlaOutIdeal_GlaOutRefIdeal (hGlaOutIdeal := hGlaOutIdeal) (hGlaOutRefIdeal := hGlaOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_EvenIn_EvenInIdeal
    ∧ algebraic_EvenInIdeal_EvenInRefIdeal (hEvenInIdeal := hEvenInIdeal) (hEvenInRefIdeal := hEvenInRefIdeal)
    ∧ preserves_GlaIn_GlaInIdeal
    ∧ algebraic_GlaInIdeal_GlaInRefIdeal (hGlaInIdeal := hGlaInIdeal) (hGlaInRefIdeal := hGlaInRefIdeal)
-- ==== Pre_log_decays.lean ====
abbrev S128x8x512 : Shape := ⟨3, ![128, 8, 512]⟩
abbrev S128x8x1024 : Shape := ⟨3, ![128, 8, 1024]⟩
abbrev S128x4x128x256 : Shape := ⟨4, ![128, 4, 128, 256]⟩
abbrev S_ : Shape := ⟨0, ![]⟩

class Facts : Prop where
  bcast_S_S128x8x512 : S_.BroadcastsInDim S128x8x512 (![] : Fin 0 → Fin S128x8x512.rank)

variable [Facts]

def fn {F : FTy → Type} [FloatOps F] (main_arg0 : FVec F S128x8x512 .f32) (main_arg1 : FVec F S128x8x512 .f32) (main_arg2 : FVec F S128x8x1024 .f32) (main_arg3 : FVec F S128x8x512 .f32) (main_arg4 : FVec F S128x4x128x256 .f32) : IVec S128x8x512 1 :=
  let main_cst : FVec F S_ .f32 := constant S_ .f32 0x00000000#32
  let main_v0 : FVec F S128x8x512 .f32 := broadcastInDim S128x8x512 ![] bcast_S_S128x8x512 main_cst
  let main_v1 : IVec S128x8x512 1 := cmpf .ole main_arg3 main_v0
  main_v1
-- ==== Kernel.lean ====
abbrev S128x8x512 : Shape := ⟨3, ![128, 8, 512]⟩
abbrev S128x8x1024 : Shape := ⟨3, ![128, 8, 1024]⟩
abbrev S128x4x128x256 : Shape := ⟨4, ![128, 4, 128, 256]⟩
abbrev S2x8x512 : Shape := ⟨3, ![2, 8, 512]⟩
abbrev S2x8x1024 : Shape := ⟨3, ![2, 8, 1024]⟩
abbrev S2x4x128x256 : Shape := ⟨4, ![2, 4, 128, 256]⟩
abbrev S8x128x256 : Shape := ⟨3, ![8, 128, 256]⟩
abbrev S1x1x128x256 : Shape := ⟨4, ![1, 1, 128, 256]⟩
abbrev S128x256 : Shape := ⟨2, ![128, 256]⟩
abbrev S1x128x256 : Shape := ⟨3, ![1, 128, 256]⟩
abbrev S2x512 : Shape := ⟨2, ![2, 512]⟩
abbrev S1x2x512 : Shape := ⟨3, ![1, 2, 512]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩
abbrev S16x128 : Shape := ⟨2, ![16, 128]⟩
abbrev S16x1 : Shape := ⟨2, ![16, 1]⟩
abbrev S1x128 : Shape := ⟨2, ![1, 128]⟩
abbrev S16x16 : Shape := ⟨2, ![16, 16]⟩
abbrev S128x128 : Shape := ⟨2, ![128, 128]⟩
abbrev S128 : Shape := ⟨1, ![128]⟩
abbrev S128x1 : Shape := ⟨2, ![128, 1]⟩
abbrev S1x8x256 : Shape := ⟨3, ![1, 8, 256]⟩
abbrev S8x256 : Shape := ⟨2, ![8, 256]⟩
abbrev S16x256 : Shape := ⟨2, ![16, 256]⟩
abbrev S16 : Shape := ⟨1, ![16]⟩

abbrev nBuf : Space → Nat
  | .hbm => 7
  | .vmem => 15
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S128x8x1024, .f32⟩
  | .hbm, ⟨3, _⟩ => ⟨S128x8x512, .f32⟩
  | .hbm, ⟨4, _⟩ => ⟨S128x4x128x256, .f32⟩
  | .hbm, ⟨5, _⟩ => ⟨S128x8x1024, .f32⟩
  | .hbm, ⟨6, _⟩ => ⟨S128x4x128x256, .f32⟩
  | .local _ .vmem, ⟨0, _⟩ => ⟨S2x8x512, .f32⟩
  | .local _ .vmem, ⟨1, _⟩ => ⟨S2x8x512, .f32⟩
  | .local _ .vmem, ⟨2, _⟩ => ⟨S2x8x512, .f32⟩
  | .local _ .vmem, ⟨3, _⟩ => ⟨S2x8x512, .f32⟩
  | .local _ .vmem, ⟨4, _⟩ => ⟨S2x8x1024, .f32⟩
  | .local _ .vmem, ⟨5, _⟩ => ⟨S2x8x1024, .f32⟩
  | .local _ .vmem, ⟨6, _⟩ => ⟨S2x8x512, .f32⟩
  | .local _ .vmem, ⟨7, _⟩ => ⟨S2x8x512, .f32⟩
  | .local _ .vmem, ⟨8, _⟩ => ⟨S2x4x128x256, .f32⟩
  | .local _ .vmem, ⟨9, _⟩ => ⟨S2x4x128x256, .f32⟩
  | .local _ .vmem, ⟨10, _⟩ => ⟨S2x8x1024, .f32⟩
  | .local _ .vmem, ⟨11, _⟩ => ⟨S2x8x1024, .f32⟩
  | .local _ .vmem, ⟨12, _⟩ => ⟨S2x4x128x256, .f32⟩
  | .local _ .vmem, ⟨13, _⟩ => ⟨S2x4x128x256, .f32⟩
  | .local _ .vmem, ⟨14, _⟩ => ⟨S8x128x256, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![64, 1, 1], ![false, false, false]⟩

def k0_cond4 (i : grid0.Coords) : BitVec 1 :=
  let arg2 : BitVec 32 := BitVec.ofNat 32 (i 2).val
  let c0_i32_8 : BitVec 32 := 0#32
  let v17 : BitVec 1 := Scalar.cmpi .eq arg2 c0_i32_8
  let v18 : BitVec 32 := Scalar.extui v17
  let c0_i32_9 : BitVec 32 := 0#32
  let v19 : BitVec 1 := Scalar.cmpi .ne v18 c0_i32_9
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S128x8x512 : Shape := ⟨3, ![128, 8, 512]⟩
abbrev S128x8x1024 : Shape := ⟨3, ![128, 8, 1024]⟩
abbrev S128x4x128x256 : Shape := ⟨4, ![128, 4, 128, 256]⟩
abbrev S128x8x4x128 : Shape := ⟨4, ![128, 8, 4, 128]⟩
abbrev S128x4x8x128 : Shape := ⟨4, ![128, 4, 8, 128]⟩
abbrev S128x8x4x256 : Shape := ⟨4, ![128, 8, 4, 256]⟩
abbrev S128x4x8x256 : Shape := ⟨4, ![128, 4, 8, 256]⟩
abbrev S_ : Shape := ⟨0, ![]⟩
abbrev S8x8 : Shape := ⟨2, ![8, 8]⟩
abbrev S8x8x1 : Shape := ⟨3, ![8, 8, 1]⟩
abbrev S128x4x8x1x128 : Shape := ⟨5, ![128, 4, 8, 1, 128]⟩
abbrev S128x4x1x8x128 : Shape := ⟨5, ![128, 4, 1, 8, 128]⟩
abbrev S128x4x8x8x128 : Shape := ⟨5, ![128, 4, 8, 8, 128]⟩
abbrev S128x4x8x8 : Shape := ⟨4, ![128, 4, 8, 8]⟩
abbrev S128x4x1x128 : Shape := ⟨4, ![128, 4, 1, 128]⟩
abbrev S128x4x128 : Shape := ⟨3, ![128, 4, 128]⟩
abbrev S128x4x128x1 : Shape := ⟨4, ![128, 4, 128, 1]⟩

abbrev nBuf : Space → Nat
  | .hbm => 66
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S128x8x512, .f32⟩
  | .hbm, ⟨2, _⟩ => ⟨S128x8x1024, .f32⟩
  | .hbm, ⟨3, _⟩ => ⟨S128x8x512, .f32⟩
  | .hbm, ⟨4, _⟩ => ⟨S128x4x128x256, .f32⟩
  | .hbm, ⟨5, _⟩ => ⟨S128x8x4x128, .f32⟩
  | .hbm, ⟨6, _⟩ => ⟨S128x4x8x128, .f32⟩
  | .hbm, ⟨7, _⟩ => ⟨S128x8x4x128, .f32⟩
  | .hbm, ⟨8, _⟩ => ⟨S128x4x8x128, .f32⟩
  | .hbm, ⟨9, _⟩ => ⟨S128x8x4x256, .f32⟩
  | .hbm, ⟨10, _⟩ => ⟨S128x4x8x256, .f32⟩
  | .hbm, ⟨11, _⟩ => ⟨S128x8x4x128, .f32⟩
  | .hbm, ⟨12, _⟩ => ⟨S128x4x8x128, .f32⟩
  | .hbm, ⟨13, _⟩ => ⟨S_, .i1⟩
  | .hbm, ⟨14, _⟩ => ⟨S8x8, .i1⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S_, .i1⟩
  | .hbm, ⟨22, _⟩ => ⟨S8x8, .i1⟩
  | .hbm, ⟨23, _⟩ => ⟨S8x8, .i1⟩
  | .hbm, ⟨24, _⟩ => ⟨S_, .f32⟩
  | .hbm, ⟨25, _⟩ => ⟨S_, .f32⟩
  | .hbm, ⟨26, _⟩ => ⟨S128x4x8x128, .f32⟩
  | .hbm, ⟨27, _⟩ => ⟨S128x4x8x128, .f32⟩
  | .hbm, ⟨28, _⟩ => ⟨S128x4x8x128, .f32⟩
  | .hbm, ⟨29, _⟩ => ⟨S128x4x8x256, .f32⟩
  | .hbm, ⟨30, _⟩ => ⟨S8x8x1, .i1⟩
  | .hbm, ⟨31, _⟩ => ⟨S128x4x8x1x128, .f32⟩
  | .hbm, ⟨32, _⟩ => ⟨S128x4x1x8x128, .f32⟩
  | .hbm, ⟨33, _⟩ => ⟨S128x4x8x8x128, .f32⟩
  | .hbm, ⟨34, _⟩ => ⟨S128x4x8x8x128, .f32⟩
  | .hbm, ⟨35, _⟩ => ⟨S128x4x8x8x128, .f32⟩
  | .hbm, ⟨36, _⟩ => ⟨S_, .f32⟩
  | .hbm, ⟨37, _⟩ => ⟨S_, .f32⟩
  | .hbm, ⟨38, _⟩ => ⟨S128x4x8x8x128, .i1⟩
  | .hbm, ⟨39, _⟩ => ⟨S128x4x8x8x128, .f32⟩
  | .hbm, ⟨40, _⟩ => ⟨S128x4x8x8x128, .f32⟩
  | .hbm, ⟨41, _⟩ => ⟨S128x4x8x8x128, .f32⟩
  | .hbm, ⟨42, _⟩ => ⟨S128x4x8x1x128, .f32⟩
  | .hbm, ⟨43, _⟩ => ⟨S128x4x1x8x128, .f32⟩
  | .hbm, ⟨44, _⟩ => ⟨S128x4x8x8x128, .f32⟩
  | .hbm, ⟨45, _⟩ => ⟨S128x4x8x8x128, .f32⟩
  | .hbm, ⟨46, _⟩ => ⟨S128x4x8x8x128, .f32⟩
  | .hbm, ⟨47, _⟩ => ⟨S128x4x8x8x128, .f32⟩
  | .hbm, ⟨48, _⟩ => ⟨S_, .f32⟩
  | .hbm, ⟨49, _⟩ => ⟨S128x4x8x8, .f32⟩
  | .hbm, ⟨50, _⟩ => ⟨S128x4x8x256, .f32⟩
  | .hbm, ⟨51, _⟩ => ⟨S128x4x8x256, .f32⟩
  | .hbm, ⟨52, _⟩ => ⟨S128x4x1x128, .f32⟩
  | .hbm, ⟨53, _⟩ => ⟨S128x4x128, .f32⟩
  | .hbm, ⟨54, _⟩ => ⟨S128x4x128, .f32⟩
  | .hbm, ⟨55, _⟩ => ⟨S128x4x128x1, .f32⟩
  | .hbm, ⟨56, _⟩ => ⟨S128x4x128x256, .f32⟩
  | .hbm, ⟨57, _⟩ => ⟨S128x4x128x256, .f32⟩
  | .hbm, ⟨58, _⟩ => ⟨S128x4x8x128, .f32⟩
  | .hbm, ⟨59, _⟩ => ⟨S128x4x8x128, .f32⟩
  | .hbm, ⟨60, _⟩ => ⟨S128x4x8x128, .f32⟩
  | .hbm, ⟨61, _⟩ => ⟨S128x4x8x128, .f32⟩
  | .hbm, ⟨62, _⟩ => ⟨S128x4x128x256, .f32⟩
  | .hbm, ⟨63, _⟩ => ⟨S128x4x128x256, .f32⟩
  | .hbm, ⟨64, _⟩ => ⟨S128x8x4x256, .f32⟩
  | .hbm, ⟨65, _⟩ => ⟨S128x8x1024, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v9 : Ref sig .tc := ⟨.hbm, 23, rfl⟩
abbrev main_call1_call0_cst : Ref sig .tc := ⟨.hbm, 24, rfl⟩
abbrev main_call1_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== GlaOut.lean ====
abbrev S4x4096x1024 : Shape := ⟨3, ![4, 4096, 1024]⟩
abbrev S4x6144 : Shape := ⟨2, ![4, 6144]⟩
abbrev S16384x1024 : Shape := ⟨2, ![16384, 1024]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S1x256 : Shape := ⟨2, ![1, 256]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256x256 : Shape := ⟨2, ![256, 256]⟩
abbrev S256x1 : Shape := ⟨2, ![256, 1]⟩
abbrev S1x1x1024 : Shape := ⟨3, ![1, 1, 1024]⟩
abbrev S1x256x1 : Shape := ⟨3, ![1, 256, 1]⟩
abbrev S256x4096 : Shape := ⟨2, ![256, 4096]⟩

abbrev nBuf : Space → Nat
  | .hbm => 21
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S4x4096x1024, .f32⟩
  | .hbm, ⟨3, _⟩ => ⟨S16384x1024, .f32⟩
  | .hbm, ⟨4, _⟩ => ⟨S256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S4x6x1024, .f32⟩
  | .hbm, ⟨15, _⟩ => ⟨S6x4x1024, .f32⟩
  | .hbm, ⟨16, _⟩ => ⟨S6x4x1x1024, .f32⟩
  | .hbm, ⟨17, _⟩ => ⟨S16384x1024, .f32⟩
  | .hbm, ⟨18, _⟩ => ⟨S1x256, .f32⟩
  | .hbm, ⟨19, _⟩ => ⟨S1024x1024, .bf16⟩
  | .hbm, ⟨20, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x256, .f32⟩
  | .local _ .vmem, ⟨9, _⟩ => ⟨S1024x1024, .bf16⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== GlaOutRefIdeal.lean ====
abbrev S4x4096x1024 : Shape := ⟨3, ![4, 4096, 1024]⟩
abbrev S4x6144 : Shape := ⟨2, ![4, 6144]⟩
abbrev S16384x1024 : Shape := ⟨2, ![16384, 1024]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x4096x4x256 : Shape := ⟨4, ![4, 4096, 4, 256]⟩
abbrev S_ : Shape := ⟨0, ![]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S4x6x1024 : Shape := ⟨3, ![4, 6, 1024]⟩
abbrev S4x1x1024 : Shape := ⟨3, ![4, 1, 1024]⟩
abbrev S4x1024 : Shape := ⟨2, ![4, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S4x4096x1024, .f32⟩
  | .hbm, ⟨3, _⟩ => ⟨S16384x1024, .f32⟩
  | .hbm, ⟨4, _⟩ => ⟨S256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S4x4096x4x256, .f32⟩
  | .hbm, ⟨11, _⟩ => ⟨S4x4096x4x256, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x256, .f32⟩
  | .hbm, ⟨23, _⟩ => ⟨S4x4096x4x256, .f32⟩
  | .hbm, ⟨24, _⟩ => ⟨S1x1x1x256, .f32⟩
  | .hbm, ⟨25, _⟩ => ⟨S4x4096x4x256, .f32⟩
  | .hbm, ⟨26, _⟩ => ⟨S4x4096x4x256, .f32⟩
  | .hbm, ⟨27, _⟩ => ⟨S4x4096x4x256, .f32⟩
  | .hbm, ⟨28, _⟩ => ⟨S4x4096x4x256, .f32⟩
  | .hbm, ⟨29, _⟩ => ⟨S4x4096x4x256, .f32⟩
  | .hbm, ⟨30, _⟩ => ⟨S_, .f32⟩
  | .hbm, ⟨31, _⟩ => ⟨S4x4096x4x256, .f32⟩
  | .hbm, ⟨32, _⟩ => ⟨S4x4096x4x256, .f32⟩
  | .hbm, ⟨33, _⟩ => ⟨S_, .f32⟩
  | .hbm, ⟨34, _⟩ => ⟨S4x4096x4x256, .f32⟩
  | .hbm, ⟨35, _⟩ => ⟨S4x4096x4x256, .f32⟩
  | .hbm, ⟨36, _⟩ => ⟨S4x4096x4x256, .f32⟩
  | .hbm, ⟨37, _⟩ => ⟨S4x4096x4x256, .f32⟩
  | .hbm, ⟨38, _⟩ => ⟨S4x4096x1024, .f32⟩
  | .hbm, ⟨39, _⟩ => ⟨S4x4096x1024, .f32⟩
  | .hbm, ⟨40, _⟩ => ⟨S4x6x1024, .f32⟩
  | .hbm, ⟨41, _⟩ => ⟨S4x1x1024, .f32⟩
  | .hbm, ⟨42, _⟩ => ⟨S4x1024, .f32⟩
  | .hbm, ⟨43, _⟩ => ⟨S4x1x1024, .f32⟩
  | .hbm, ⟨44, _⟩ => ⟨S4x1x1024, .f32⟩
  | .hbm, ⟨45, _⟩ => ⟨S4x1024, .f32⟩
  | .hbm, ⟨46, _⟩ => ⟨S4x1x1024, .f32⟩
  | .hbm, ⟨47, _⟩ => ⟨S4x1x1024, .f32⟩
  | .hbm, ⟨48, _⟩ => ⟨S4x1024, .f32⟩
  | .hbm, ⟨49, _⟩ => ⟨S4x1x1024, .f32⟩
  | .hbm, ⟨50, _⟩ => ⟨S4x1x1024, .f32⟩
  | .hbm, ⟨51, _⟩ => ⟨S4x1024, .f32⟩
  | .hbm, ⟨52, _⟩ => ⟨S4x1x1024, .f32⟩
  | .hbm, ⟨53, _⟩ => ⟨S4x1x1024, .f32⟩
  | .hbm, ⟨54, _⟩ => ⟨S4x1024, .f32⟩
  | .hbm, ⟨55, _⟩ => ⟨S4x1x1024, .f32⟩
  | .hbm, ⟨56, _⟩ => ⟨S4x1x1024, .f32⟩
  | .hbm, ⟨57, _⟩ => ⟨S4x1024, .f32⟩
  | .hbm, ⟨58, _⟩ => ⟨S4x1x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1, .f32⟩
  | .hbm, ⟨73, _⟩ => ⟨S4x4096x1024, .f32⟩
  | .hbm, ⟨74, _⟩ => ⟨S4x4096x1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x1x1024, .f32⟩
  | .hbm, ⟨80, _⟩ => ⟨S4x1x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S4x4096x4096, .f32⟩
  | .hbm, ⟨86, _⟩ => ⟨S_, .f32⟩
  | .hbm, ⟨87, _⟩ => ⟨S4x4096x4096, .f32⟩
  | .hbm, ⟨88, _⟩ => ⟨S4x4096x4096, .f32⟩
  | .hbm, ⟨89, _⟩ => ⟨S4x4096x4096, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S_, .f32⟩
  | .hbm, ⟨96, _⟩ => ⟨S4x4096, .f32⟩
  | .hbm, ⟨97, _⟩ => ⟨S4x4096x1, .f32⟩
  | .hbm, ⟨98, _⟩ => ⟨S_, .f32⟩
  | .hbm, ⟨99, _⟩ => ⟨S4x4096x1, .f32⟩
  | .hbm, ⟨100, _⟩ => ⟨S4x4096x1, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S4x4096x1, .f32⟩
  | .hbm, ⟨105, _⟩ => ⟨S4x4096x1024, .f32⟩
  | .hbm, ⟨106, _⟩ => ⟨S4x4096x1024, .f32⟩
  | .hbm, ⟨107, _⟩ => ⟨S1x1x1024, .f32⟩
  | .hbm, ⟨108, _⟩ => ⟨S4x4096x1024, .f32⟩
  | .hbm, ⟨109, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_6 : Ref sig .tc := ⟨.hbm, 95, rfl⟩
abbrev main_v68 : Ref sig .tc := ⟨.hbm, 96, rfl⟩
abbrev main_v69 : Ref sig .tc := ⟨.hbm, 97, rfl⟩
abbrev main_cst_7 : Ref sig .tc := ⟨.hbm, 98, rfl⟩
abbrev main_v70 : Ref sig .tc := ⟨.hbm, 99, rfl⟩
abbrev main_v71 : Ref sig .tc := ⟨.hbm, 100, rfl⟩
abbrev main_cst_8 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== EvenOut.lean ====
abbrev S4x4096x1024 : Shape := ⟨3, ![4, 4096, 1024]⟩
abbrev S4x6144 : Shape := ⟨2, ![4, 6144]⟩
abbrev S4x4096x512 : Shape := ⟨3, ![4, 4096, 512]⟩
abbrev S16384x128 : Shape := ⟨2, ![16384, 128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S16384x512 : Shape := ⟨2, ![16384, 512]⟩
abbrev S1x256x1024 : Shape := ⟨3, ![1, 256, 1024]⟩
abbrev S1x1x1x1024 : Shape := ⟨4, ![1, 1, 1, 1024]⟩
abbrev S256x512 : Shape := ⟨2, ![256, 512]⟩
abbrev S256x128 : Shape := ⟨2, ![256, 128]⟩
abbrev S256x1 : Shape := ⟨2, ![256, 1]⟩
abbrev S256x1024 : Shape := ⟨2, ![256, 1024]⟩
abbrev S1x1x1024 : Shape := ⟨3, ![1, 1, 1024]⟩
abbrev S1x256 : Shape := ⟨2, ![1, 256]⟩
abbrev S1x256x1 : Shape := ⟨3, ![1, 256, 1]⟩
abbrev S256x4096 : Shape := ⟨2, ![256, 4096]⟩

abbrev nBuf : Space → Nat
  | .hbm => 25
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S16384x128, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S_, .f32⟩
  | .hbm, ⟨15, _⟩ => ⟨S1x1024, .f32⟩
  | .hbm, ⟨16, _⟩ => ⟨S4x6x1024, .f32⟩
  | .hbm, ⟨17, _⟩ => ⟨S6x4x1024, .f32⟩
  | .hbm, ⟨18, _⟩ => ⟨S6x4x1x1024, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S1024x1024, .bf16⟩
  | .hbm, ⟨24, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S1024x1024, .bf16⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1024, .f32⟩
  | .local _ .vmem, ⟨22, _⟩ => ⟨S1024x4096, .bf16⟩
  | .local _ .vmem, ⟨23, _⟩ => ⟨S4096x1024, .bf16⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== EvenOutRefIdeal.lean ====
abbrev S4x4096x1024 : Shape := ⟨3, ![4, 4096, 1024]⟩
abbrev S4x6144 : Shape := ⟨2, ![4, 6144]⟩
abbrev S4x4096x512 : Shape := ⟨3, ![4, 4096, 512]⟩
abbrev S16384x128 : Shape := ⟨2, ![16384, 128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x12 : Shape := ⟨2, ![16384, 12]⟩
abbrev S4x4096x4x3 : Shape := ⟨4, ![4, 4096, 4, 3]⟩
abbrev S4x4096x4x1 : Shape := ⟨4, ![4, 4096, 4, 1]⟩
abbrev S4x4096x4x128 : Shape := ⟨4, ![4, 4096, 4, 128]⟩
abbrev S4x6x1024 : Shape := ⟨3, ![4, 6, 1024]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S16384x128, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S16384x12, .f32⟩
  | .hbm, ⟨12, _⟩ => ⟨S4x4096x4x3, .f32⟩
  | .hbm, ⟨13, _⟩ => ⟨S4x4096x4x1, .f32⟩
  | .hbm, ⟨14, _⟩ => ⟨S4x4096x4x128, .f32⟩
  | .hbm, ⟨15, _⟩ => ⟨S4x4096x4x128, .f32⟩
  | .hbm, ⟨16, _⟩ => ⟨S4x4096x4x128, .f32⟩
  | .hbm, ⟨17, _⟩ => ⟨S4x4096x4x1, .f32⟩
  | .hbm, ⟨18, _⟩ => ⟨S4x4096x4x128, .f32⟩
  | .hbm, ⟨19, _⟩ => ⟨S4x4096x4x128, .f32⟩
  | .hbm, ⟨20, _⟩ => ⟨S4x4096x4x128, .f32⟩
  | .hbm, ⟨21, _⟩ => ⟨S4x4096x4x128, .f32⟩
  | .hbm, ⟨22, _⟩ => ⟨S4x4096x4x1, .f32⟩
  | .hbm, ⟨23, _⟩ => ⟨S4x4096x4x128, .f32⟩
  | .hbm, ⟨24, _⟩ => ⟨S4x4096x4x128, .f32⟩
  | .hbm, ⟨25, _⟩ => ⟨S4x4096x4x128, .f32⟩
  | .hbm, ⟨26, _⟩ => ⟨S4x4096x4x128, .f32⟩
  | .hbm, ⟨27, _⟩ => ⟨S4x4096x512, .f32⟩
  | .hbm, ⟨28, _⟩ => ⟨S4x4096x1024, .f32⟩
  | .hbm, ⟨29, _⟩ => ⟨S4x4096x1024, .f32⟩
  | .hbm, ⟨30, _⟩ => ⟨S4x6x1024, .f32⟩
  | .hbm, ⟨31, _⟩ => ⟨S4x1x1024, .f32⟩
  | .hbm, ⟨32, _⟩ => ⟨S4x1024, .f32⟩
  | .hbm, ⟨33, _⟩ => ⟨S4x1x1024, .f32⟩
  | .hbm, ⟨34, _⟩ => ⟨S4x1x1024, .f32⟩
  | .hbm, ⟨35, _⟩ => ⟨S4x1024, .f32⟩
  | .hbm, ⟨36, _⟩ => ⟨S4x1x1024, .f32⟩
  | .hbm, ⟨37, _⟩ => ⟨S4x1x1024, .f32⟩
  | .hbm, ⟨38, _⟩ => ⟨S4x1024, .f32⟩
  | .hbm, ⟨39, _⟩ => ⟨S4x1x1024, .f32⟩
  | .hbm, ⟨40, _⟩ => ⟨S4x1x1024, .f32⟩
  | .hbm, ⟨41, _⟩ => ⟨S4x1024, .f32⟩
  | .hbm, ⟨42, _⟩ => ⟨S4x1x1024, .f32⟩
  | .hbm, ⟨43, _⟩ => ⟨S4x1x1024, .f32⟩
  | .hbm, ⟨44, _⟩ => ⟨S4x1024, .f32⟩
  | .hbm, ⟨45, _⟩ => ⟨S4x1x1024, .f32⟩
  | .hbm, ⟨46, _⟩ => ⟨S4x1x1024, .f32⟩
  | .hbm, ⟨47, _⟩ => ⟨S4x1024, .f32⟩
  | .hbm, ⟨48, _⟩ => ⟨S4x1x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x1x1024, .f32⟩
  | .hbm, ⟨70, _⟩ => ⟨S4x1x1024, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x4096, .f32⟩
  | .hbm, ⟨76, _⟩ => ⟨S_, .f32⟩
  | .hbm, ⟨77, _⟩ => ⟨S4x4096x4096, .f32⟩
  | .hbm, ⟨78, _⟩ => ⟨S4x4096x4096, .f32⟩
  | .hbm, ⟨79, _⟩ => ⟨S4x4096x4096, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst : Ref sig .tc := ⟨.hbm, 53, rfl⟩
abbrev main_v42 : Ref sig .tc := ⟨.hbm, 54, rfl⟩
abbrev main_v43 : Ref sig .tc := ⟨.hbm, 55, rfl⟩
abbrev main_cst_0 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call0_cst : Ref sig .tc := ⟨.hbm, 76, rfl⟩
abbrev main_call0_v0 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== EvenIn.lean ====
abbrev S4x4096x1024 : Shape := ⟨3, ![4, 4096, 1024]⟩
abbrev S4x6144 : Shape := ⟨2, ![4, 6144]⟩
abbrev S1024 : Shape := ⟨1, ![1024]⟩
abbrev S1024x3596 : Shape := ⟨2, ![1024, 3596]⟩
abbrev S1024x3584 : Shape := ⟨2, ![1024, 3584]⟩
abbrev S1024x12 : Shape := ⟨2, ![1024, 12]⟩
abbrev S_ : Shape := ⟨0, ![]⟩
abbrev S1024x128 : Shape := ⟨2, ![1024, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S64 : Shape := ⟨1, ![64]⟩
abbrev S1x64 : Shape := ⟨2, ![1, 64]⟩
abbrev S1x4096x1x128 : Shape := ⟨4, ![1, 4096, 1, 128]⟩
abbrev S32x1 : Shape := ⟨2, ![32, 1]⟩
abbrev S1x4096 : Shape := ⟨2, ![1, 4096]⟩
abbrev S32x4096 : Shape := ⟨2, ![32, 4096]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S1x1024 : Shape := ⟨2, ![1, 1024]⟩
abbrev S1024x512 : Shape := ⟨2, ![1024, 512]⟩
abbrev S512x1024 : Shape := ⟨2, ![512, 1024]⟩
abbrev S16384x512 : Shape := ⟨2, ![16384, 512]⟩
abbrev S4x512x4096 : Shape := ⟨3, ![4, 512, 4096]⟩
abbrev S16384x128 : Shape := ⟨2, ![16384, 128]⟩
abbrev S1x256x1024 : Shape := ⟨3, ![1, 256, 1024]⟩
abbrev S1x1x1x1024 : Shape := ⟨4, ![1, 1, 1, 1024]⟩
abbrev S256x128 : Shape := ⟨2, ![256, 128]⟩
abbrev S32x256 : Shape := ⟨2, ![32, 256]⟩
abbrev S256x512 : Shape := ⟨2, ![256, 512]⟩
abbrev S1x512x256 : Shape := ⟨3, ![1, 512, 256]⟩
abbrev S1x1x1024 : Shape := ⟨3, ![1, 1, 1024]⟩
abbrev S1x256 : Shape := ⟨2, ![1, 256]⟩
abbrev S1x256x1 : Shape := ⟨3, ![1, 256, 1]⟩
abbrev S256x1024 : Shape := ⟨2, ![256, 1024]⟩
abbrev S1x128 : Shape := ⟨2, ![1, 128]⟩
abbrev S512x256 : Shape := ⟨2, ![512, 256]⟩
abbrev S1x32x256 : Shape := ⟨3, ![1, 32, 256]⟩
abbrev S4x4x2x64x4096 : Shape := ⟨5, ![4, 4, 2, 64, 4096]⟩
abbrev S4x4096x4x2x64 : Shape := ⟨5, ![4, 4096, 4, 2, 64]⟩
abbrev S4x4096x512 : Shape := ⟨3, ![4, 4096, 512]⟩
abbrev S4x4096x4x128 : Shape := ⟨4, ![4, 4096, 4, 128]⟩
abbrev S4x4096x2x2x128 : Shape := ⟨5, ![4, 4096, 2, 2, 128]⟩
abbrev S4x512x512 : Shape := ⟨3, ![4, 512, 512]⟩
abbrev S4x512x2x2x128 : Shape := ⟨5, ![4, 512, 2, 2, 128]⟩
abbrev S16384x12 : Shape := ⟨2, ![16384, 12]⟩

abbrev nBuf : Space → Nat
  | .hbm => 124
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x3596, .f32⟩
  | .hbm, ⟨4, _⟩ => ⟨S1024x3584, .f32⟩
  | .hbm, ⟨5, _⟩ => ⟨S1024x3584, .bf16⟩
  | .hbm, ⟨6, _⟩ => ⟨S1024x12, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S4096, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S4096x32, .f32⟩
  | .hbm, ⟨39, _⟩ => ⟨S4096x64, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S4096, .i32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S4096, .f32⟩
  | .hbm, ⟨59, _⟩ => ⟨S4096x1, .f32⟩
  | .hbm, ⟨60, _⟩ => ⟨S1x64, .f32⟩
  | .hbm, ⟨61, _⟩ => ⟨S4096x64, .f32⟩
  | .hbm, ⟨62, _⟩ => ⟨S4096x64, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x128, .f32⟩
  | .hbm, ⟨67, _⟩ => ⟨S1x4096x1x128, .f32⟩
  | .hbm, ⟨68, _⟩ => ⟨S1x4096x1x128, .f32⟩
  | .hbm, ⟨69, _⟩ => ⟨S4096x128, .f32⟩
  | .hbm, ⟨70, _⟩ => ⟨S4096x64, .f32⟩
  | .hbm, ⟨71, _⟩ => ⟨S4096x128, .f32⟩
  | .hbm, ⟨72, _⟩ => ⟨S1x4096x1x128, .f32⟩
  | .hbm, ⟨73, _⟩ => ⟨S1x4096x1x128, .f32⟩
  | .hbm, ⟨74, _⟩ => ⟨S4096x128, .f32⟩
  | .hbm, ⟨75, _⟩ => ⟨S4096, .i32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S32x1, .f32⟩
  | .hbm, ⟨91, _⟩ => ⟨S4096, .f32⟩
  | .hbm, ⟨92, _⟩ => ⟨S1x4096, .f32⟩
  | .hbm, ⟨93, _⟩ => ⟨S32x4096, .f32⟩
  | .hbm, ⟨94, _⟩ => ⟨S32x4096, .f32⟩
  | .hbm, ⟨95, _⟩ => ⟨S32x4096, .f32⟩
  | .hbm, ⟨96, _⟩ => ⟨S32x4096, .f32⟩
  | .hbm, ⟨97, _⟩ => ⟨S32x4096, .f32⟩
  | .hbm, ⟨98, _⟩ => ⟨S4x6x1024, .f32⟩
  | .hbm, ⟨99, _⟩ => ⟨S6x4x1024, .f32⟩
  | .hbm, ⟨100, _⟩ => ⟨S6x4x1x1024, .f32⟩
  | .hbm, ⟨101, _⟩ => ⟨S1x1024, .f32⟩
  | .hbm, ⟨102, _⟩ => ⟨S1024x512, .bf16⟩
  | .hbm, ⟨103, _⟩ => ⟨S512x1024, .bf16⟩
  | .hbm, ⟨104, _⟩ => ⟨S16384x512, .f32⟩
  | .hbm, ⟨105, _⟩ => ⟨S4x512x4096, .f32⟩
  | .hbm, ⟨106, _⟩ => ⟨S16384x512, .f32⟩
  | .hbm, ⟨107, _⟩ => ⟨S16384x512, .f32⟩
  | .hbm, ⟨108, _⟩ => ⟨S16384x512, .f32⟩
  | .hbm, ⟨109, _⟩ => ⟨S16384x512, .f32⟩
  | .hbm, ⟨110, _⟩ => ⟨S16384x512, .f32⟩
  | .hbm, ⟨111, _⟩ => ⟨S16384x128, .f32⟩
  | .hbm, ⟨112, _⟩ => ⟨S4x4x2x64x4096, .f32⟩
  | .hbm, ⟨113, _⟩ => ⟨S4x4096x4x2x64, .f32⟩
  | .hbm, ⟨114, _⟩ => ⟨S4x4096x512, .f32⟩
  | .hbm, ⟨115, _⟩ => ⟨S4x4096x4x128, .f32⟩
  | .hbm, ⟨116, _⟩ => ⟨S4x4096x512, .f32⟩
  | .hbm, ⟨117, _⟩ => ⟨S4x4096x2x2x128, .f32⟩
  | .hbm, ⟨118, _⟩ => ⟨S4x4096x512, .f32⟩
  | .hbm, ⟨119, _⟩ => ⟨S4x4096x2x2x128, .f32⟩
  | .hbm, ⟨120, _⟩ => ⟨S4x4096x512, .f32⟩
  | .hbm, ⟨121, _⟩ => ⟨S4x512x512, .f32⟩
  | .hbm, ⟨122, _⟩ => ⟨S4x512x2x2x128, .f32⟩
  | .hbm, ⟨123, _⟩ => ⟨S16384x12, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x3584, .bf16⟩
  | .local _ .vmem, ⟨8, _⟩ => ⟨S1024x128, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S512x1024, .bf16⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S256x512, .f32⟩
  | .local _ .vmem, ⟨23, _⟩ => ⟨S256x512, .f32⟩
  | .local _ .vmem, ⟨24, _⟩ => ⟨S1x512x256, .f32⟩
  | .local _ .vmem, ⟨25, _⟩ => ⟨S1x512x256, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x128, .f32⟩
  | .local _ .vmem, ⟨37, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86_0 : Ref sig .tc := ⟨.hbm, 104, rfl⟩
abbrev main_v86_1 : Ref sig .tc := ⟨.hbm, 105, rfl⟩
abbrev main_v86_2 : Ref sig .tc := ⟨.hbm, 106, rfl⟩
abbrev main_v86_3 : Ref sig .tc := ⟨.hbm, 107, rfl⟩
abbrev main_v86_4 : Ref sig .tc := ⟨.hbm, 108, rfl⟩
abbrev main_v86_5 : Ref sig .tc := ⟨.hbm, 109, rfl⟩
abbrev main_v86_6 : Ref sig .tc := ⟨.hbm, 110, rfl⟩
abbrev main_v86_7 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S32x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== EvenInRefIdeal.lean ====
abbrev S4x4096x1024 : Shape := ⟨3, ![4, 4096, 1024]⟩
abbrev S4x6144 : Shape := ⟨2, ![4, 6144]⟩
abbrev S1024 : Shape := ⟨1, ![1024]⟩
abbrev S1024x3596 : Shape := ⟨2, ![1024, 3596]⟩
abbrev S4096 : Shape := ⟨1, ![4096]⟩
abbrev S4x6x1024 : Shape := ⟨3, ![4, 6, 1024]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3596 : Shape := ⟨3, ![4, 4096, 3596]⟩
abbrev S4x4096x512 : Shape := ⟨3, ![4, 4096, 512]⟩
abbrev S4x4096x256 : Shape := ⟨3, ![4, 4096, 256]⟩
abbrev S4x4096x12 : Shape := ⟨3, ![4, 4096, 12]⟩
abbrev S4x4096x4x2x64 : Shape := ⟨5, ![4, 4096, 4, 2, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x1x32 : Shape := ⟨4, ![4096, 1, 1, 32]⟩
abbrev S4x4096x4x2x32 : Shape := ⟨5, ![4, 4096, 4, 2, 32]⟩
abbrev S1x4096x1x1x32 : Shape := ⟨5, ![1, 4096, 1, 1, 32]⟩
abbrev S4x4096x4x128 : Shape := ⟨4, ![4, 4096, 4, 128]⟩
abbrev S4x4096x2x2x128 : Shape := ⟨5, ![4, 4096, 2, 2, 128]⟩
abbrev S64 : Shape := ⟨1, ![64]⟩
abbrev S1x64 : Shape := ⟨2, ![1, 64]⟩
abbrev S4096x64 : Shape := ⟨2, ![4096, 64]⟩
abbrev S4096x1x1x64 : Shape := ⟨4, ![4096, 1, 1, 64]⟩
abbrev S4x4096x2x2x64 : Shape := ⟨5, ![4, 4096, 2, 2, 64]⟩
abbrev S1x4096x1x1x64 : Shape := ⟨5, ![1, 4096, 1, 1, 64]⟩
abbrev S4x4096x2x128 : Shape := ⟨4, ![4, 4096, 2, 128]⟩
abbrev S4096x1x64 : Shape := ⟨3, ![4096, 1, 64]⟩
abbrev S4x4096x2x64 : Shape := ⟨4, ![4, 4096, 2, 64]⟩
abbrev S1x4096x1x64 : Shape := ⟨4, ![1, 4096, 1, 64]⟩
abbrev S16384x12 : Shape := ⟨2, ![16384, 12]⟩
abbrev S4x4096x1x2x128 : Shape := ⟨5, ![4, 4096, 1, 2, 128]⟩
abbrev S16384x512 : Shape := ⟨2, ![16384, 512]⟩
abbrev S4x512x2x2x128 : Shape := ⟨5, ![4, 512, 2, 2, 128]⟩

abbrev nBuf : Space → Nat
  | .hbm => 331
  | .vmem => 0
  | .smem => 0
  | _ => 0

abbrev hbmTy0_0 (i : Nat) : BufTy := match i % 128 with
  | 0 => ⟨S4x4096x1024, .f32⟩
  | 1 => ⟨S4x6144, .f32⟩
  | 2 => ⟨S1024, .f32⟩
  | 3 => ⟨S1024x3596, .f32⟩
  | 4 => ⟨S4096, .i32⟩
  | 5 => ⟨S4x6x1024, .f32⟩
  | 6 => ⟨S4x1x1024, .f32⟩
  | 7 => ⟨S4x1024, .f32⟩
  | 8 => ⟨S4x1x1024, .f32⟩
  | 9 => ⟨S4x1x1024, .f32⟩
  | 10 => ⟨S4x1024, .f32⟩
  | 11 => ⟨S4x1x1024, .f32⟩
  | 12 => ⟨S4x1x1024, .f32⟩
  | 13 => ⟨S4x1024, .f32⟩
  | 14 => ⟨S4x1x1024, .f32⟩
  | 15 => ⟨S4x1x1024, .f32⟩
  | 16 => ⟨S4x1024, .f32⟩
  | 17 => ⟨S4x1x1024, .f32⟩
  | 18 => ⟨S4x1x1024, .f32⟩
  | 19 => ⟨S4x1024, .f32⟩
  | 20 => ⟨S4x1x1024, .f32⟩
  | 21 => ⟨S4x1x1024, .f32⟩
  | 22 => ⟨S4x1024, .f32⟩
  | 23 => ⟨S4x1x1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | 40 => ⟨S_, .f32⟩
  | 41 => ⟨S4x1x1024, .f32⟩
  | 42 => ⟨S4x1x1024, .f32⟩
  | 43 => ⟨S4x4096x1024, .f32⟩
  | 44 => ⟨S4x4096x1024, .f32⟩
  | 45 => ⟨S4x4096x1024, .f32⟩
  | 46 => ⟨S4x4096x1024, .f32⟩
  | 47 => ⟨S4x4096x3596, .f32⟩
  | 48 => ⟨S4x4096x512, .f32⟩
  | 49 => ⟨S4x4096x512, .f32⟩
  | 50 => ⟨S4x4096x512, .f32⟩
  | 51 => ⟨S4x4096x512, .f32⟩
  | 52 => ⟨S4x4096x256, .f32⟩
  | 53 => ⟨S4x4096x256, .f32⟩
  | 54 => ⟨S4x4096x256, .f32⟩
  | 55 => ⟨S4x4096x256, .f32⟩
  | 56 => ⟨S4x4096x256, .f32⟩
  | 57 => ⟨S4x4096x256, .f32⟩
  | 58 => ⟨S4x4096x12, .f32⟩
  | 59 => ⟨S4x4096x4x2x64, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S4096, .f32⟩
  | 75 => ⟨S4096x1, .f32⟩
  | 76 => ⟨S1x32, .f32⟩
  | 77 => ⟨S4096x32, .f32⟩
  | 78 => ⟨S4096x32, .f32⟩
  | 79 => ⟨S4096x32, .f32⟩
  | 80 => ⟨S4096x1x1x32, .f32⟩
  | 81 => ⟨S4096x1x1x32, .f32⟩
  | 82 => ⟨S4096x1x1x32, .f32⟩
  | 83 => ⟨S4x4096x4x2x32, .f32⟩
  | 84 => ⟨S4x4096x4x2x32, .f32⟩
  | 85 => ⟨S1x4096x1x1x32, .f32⟩
  | 86 => ⟨S4x4096x4x2x32, .f32⟩
  | 87 => ⟨S4x4096x4x2x32, .f32⟩
  | 88 => ⟨S1x4096x1x1x32, .f32⟩
  | 89 => ⟨S4x4096x4x2x32, .f32⟩
  | 90 => ⟨S4x4096x4x2x32, .f32⟩
  | 91 => ⟨S4x4096x4x2x32, .f32⟩
  | 92 => ⟨S1x4096x1x1x32, .f32⟩
  | 93 => ⟨S4x4096x4x2x32, .f32⟩
  | 94 => ⟨S4x4096x4x2x32, .f32⟩
  | 95 => ⟨S1x4096x1x1x32, .f32⟩
  | 96 => ⟨S4x4096x4x2x32, .f32⟩
  | 97 => ⟨S4x4096x4x2x32, .f32⟩
  | 98 => ⟨S4x4096x4x2x32, .f32⟩
  | 99 => ⟨S4x4096x4x2x64, .f32⟩
  | 100 => ⟨S4x4096x4x2x64, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S4096, .f32⟩
  | 116 => ⟨S4096x1, .f32⟩
  | 117 => ⟨S1x32, .f32⟩
  | 118 => ⟨S4096x32, .f32⟩
  | 119 => ⟨S4096x32, .f32⟩
  | 120 => ⟨S4096x32, .f32⟩
  | 121 => ⟨S4096x1x1x32, .f32⟩
  | 122 => ⟨S4096x1x1x32, .f32⟩
  | 123 => ⟨S4096x1x1x32, .f32⟩
  | 124 => ⟨S4x4096x4x2x32, .f32⟩
  | 125 => ⟨S4x4096x4x2x32, .f32⟩
  | 126 => ⟨S1x4096x1x1x32, .f32⟩
  | 127 => ⟨S4x4096x4x2x32, .f32⟩
  | _ => ⟨S4x4096x1024, .f32⟩

abbrev hbmTy0_1 (i : Nat) : BufTy := match i % 128 with
  | 0 => ⟨S4x4096x4x2x32, .f32⟩
  | 1 => ⟨S1x4096x1x1x32, .f32⟩
  | 2 => ⟨S4x4096x4x2x32, .f32⟩
  | 3 => ⟨S4x4096x4x2x32, .f32⟩
  | 4 => ⟨S4x4096x4x2x32, .f32⟩
  | 5 => ⟨S1x4096x1x1x32, .f32⟩
  | 6 => ⟨S4x4096x4x2x32, .f32⟩
  | 7 => ⟨S4x4096x4x2x32, .f32⟩
  | 8 => ⟨S1x4096x1x1x32, .f32⟩
  | 9 => ⟨S4x4096x4x2x32, .f32⟩
  | 10 => ⟨S4x4096x4x2x32, .f32⟩
  | 11 => ⟨S4x4096x4x2x32, .f32⟩
  | 12 => ⟨S4x4096x4x2x64, .f32⟩
  | 13 => ⟨S4x4096x4x128, .f32⟩
  | 14 => ⟨S4x4096x2x2x128, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S4096, .f32⟩
  | 30 => ⟨S4096x1, .f32⟩
  | 31 => ⟨S1x64, .f32⟩
  | 32 => ⟨S4096x64, .f32⟩
  | 33 => ⟨S4096x64, .f32⟩
  | 34 => ⟨S4096x64, .f32⟩
  | 35 => ⟨S4096x1x1x64, .f32⟩
  | 36 => ⟨S4096x1x1x64, .f32⟩
  | 37 => ⟨S4096x1x1x64, .f32⟩
  | 38 => ⟨S4x4096x2x2x64, .f32⟩
  | 39 => ⟨S4x4096x2x2x64, .f32⟩
  | 40 => ⟨S1x4096x1x1x64, .f32⟩
  | 41 => ⟨S4x4096x2x2x64, .f32⟩
  | 42 => ⟨S4x4096x2x2x64, .f32⟩
  | 43 => ⟨S1x4096x1x1x64, .f32⟩
  | 44 => ⟨S4x4096x2x2x64, .f32⟩
  | 45 => ⟨S4x4096x2x2x64, .f32⟩
  | 46 => ⟨S4x4096x2x2x64, .f32⟩
  | 47 => ⟨S1x4096x1x1x64, .f32⟩
  | 48 => ⟨S4x4096x2x2x64, .f32⟩
  | 49 => ⟨S4x4096x2x2x64, .f32⟩
  | 50 => ⟨S1x4096x1x1x64, .f32⟩
  | 51 => ⟨S4x4096x2x2x64, .f32⟩
  | 52 => ⟨S4x4096x2x2x64, .f32⟩
  | 53 => ⟨S4x4096x2x2x64, .f32⟩
  | 54 => ⟨S4x4096x2x2x128, .f32⟩
  | 55 => ⟨S4x4096x2x128, .f32⟩
  | 56 => ⟨S4x4096x2x128, .f32⟩
  | 57 => ⟨S4x4096x2x128, .f32⟩
  | 58 => ⟨S4x4096x2x128, .f32⟩
  | 59 => ⟨S4x4096x2x128, .f32⟩
  | 60 => ⟨S4x4096x2x128, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S4096, .f32⟩
  | 76 => ⟨S4096x1, .f32⟩
  | 77 => ⟨S1x64, .f32⟩
  | 78 => ⟨S4096x64, .f32⟩
  | 79 => ⟨S4096x64, .f32⟩
  | 80 => ⟨S4096x64, .f32⟩
  | 81 => ⟨S4096x1x64, .f32⟩
  | 82 => ⟨S4096x1x64, .f32⟩
  | 83 => ⟨S4096x1x64, .f32⟩
  | 84 => ⟨S4x4096x2x64, .f32⟩
  | 85 => ⟨S4x4096x2x64, .f32⟩
  | 86 => ⟨S1x4096x1x64, .f32⟩
  | 87 => ⟨S4x4096x2x64, .f32⟩
  | 88 => ⟨S4x4096x2x64, .f32⟩
  | 89 => ⟨S1x4096x1x64, .f32⟩
  | 90 => ⟨S4x4096x2x64, .f32⟩
  | 91 => ⟨S4x4096x2x64, .f32⟩
  | 92 => ⟨S4x4096x2x64, .f32⟩
  | 93 => ⟨S1x4096x1x64, .f32⟩
  | 94 => ⟨S4x4096x2x64, .f32⟩
  | 95 => ⟨S4x4096x2x64, .f32⟩
  | 96 => ⟨S1x4096x1x64, .f32⟩
  | 97 => ⟨S4x4096x2x64, .f32⟩
  | 98 => ⟨S4x4096x2x64, .f32⟩
  | 99 => ⟨S4x4096x2x64, .f32⟩
  | 100 => ⟨S4x4096x2x128, .f32⟩
  | 101 => ⟨S64, .f32⟩
  | 102 => ⟨S_, .f32⟩
  | 103 => ⟨S64, .f32⟩
  | 104 => ⟨S64, .f32⟩
  | 105 => ⟨S_, .f32⟩
  | 106 => ⟨S64, .f32⟩
  | 107 => ⟨S64, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S4096, .f32⟩
  | 116 => ⟨S4096x1, .f32⟩
  | 117 => ⟨S1x64, .f32⟩
  | 118 => ⟨S4096x64, .f32⟩
  | 119 => ⟨S4096x64, .f32⟩
  | 120 => ⟨S4096x64, .f32⟩
  | 121 => ⟨S4096x1x64, .f32⟩
  | 122 => ⟨S4096x1x64, .f32⟩
  | 123 => ⟨S4096x1x64, .f32⟩
  | 124 => ⟨S4x4096x2x64, .f32⟩
  | 125 => ⟨S4x4096x2x64, .f32⟩
  | 126 => ⟨S1x4096x1x64, .f32⟩
  | 127 => ⟨S4x4096x2x64, .f32⟩
  | _ => ⟨S4x4096x1024, .f32⟩

abbrev hbmTy0_2 (i : Nat) : BufTy := match i % 128 with
  | 0 => ⟨S4x4096x2x64, .f32⟩
  | 1 => ⟨S1x4096x1x64, .f32⟩
  | 2 => ⟨S4x4096x2x64, .f32⟩
  | 3 => ⟨S4x4096x2x64, .f32⟩
  | 4 => ⟨S4x4096x2x64, .f32⟩
  | 5 => ⟨S1x4096x1x64, .f32⟩
  | 6 => ⟨S4x4096x2x64, .f32⟩
  | 7 => ⟨S4x4096x2x64, .f32⟩
  | 8 => ⟨S1x4096x1x64, .f32⟩
  | 9 => ⟨S4x4096x2x64, .f32⟩
  | 10 => ⟨S4x4096x2x64, .f32⟩
  | 11 => ⟨S4x4096x2x64, .f32⟩
  | 12 => ⟨S4x4096x2x128, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S4096, .f32⟩
  | 28 => ⟨S4096x1, .f32⟩
  | 29 => ⟨S1x64, .f32⟩
  | 30 => ⟨S4096x64, .f32⟩
  | 31 => ⟨S4096x64, .f32⟩
  | 32 => ⟨S4096x64, .f32⟩
  | 33 => ⟨S4096x1x64, .f32⟩
  | 34 => ⟨S4096x1x64, .f32⟩
  | 35 => ⟨S4096x1x64, .f32⟩
  | 36 => ⟨S4x4096x2x64, .f32⟩
  | 37 => ⟨S4x4096x2x64, .f32⟩
  | 38 => ⟨S1x4096x1x64, .f32⟩
  | 39 => ⟨S4x4096x2x64, .f32⟩
  | 40 => ⟨S4x4096x2x64, .f32⟩
  | 41 => ⟨S1x4096x1x64, .f32⟩
  | 42 => ⟨S4x4096x2x64, .f32⟩
  | 43 => ⟨S4x4096x2x64, .f32⟩
  | 44 => ⟨S4x4096x2x64, .f32⟩
  | 45 => ⟨S1x4096x1x64, .f32⟩
  | 46 => ⟨S4x4096x2x64, .f32⟩
  | 47 => ⟨S4x4096x2x64, .f32⟩
  | 48 => ⟨S1x4096x1x64, .f32⟩
  | 49 => ⟨S4x4096x2x64, .f32⟩
  | 50 => ⟨S4x4096x2x64, .f32⟩
  | 51 => ⟨S4x4096x2x64, .f32⟩
  | 52 => ⟨S4x4096x2x128, .f32⟩
  | 53 => ⟨S4x4096x12, .f32⟩
  | 54 => ⟨S4x4096x12, .f32⟩
  | 55 => ⟨S_, .f32⟩
  | 56 => ⟨S4x4096x12, .f32⟩
  | 57 => ⟨S4x4096x12, .f32⟩
  | 58 => ⟨S_, .f32⟩
  | 59 => ⟨S4x4096x12, .f32⟩
  | 60 => ⟨S4x4096x12, .f32⟩
  | 61 => ⟨S16384x12, .f32⟩
  | 62 => ⟨S4x4096x1x2x128, .f32⟩
  | 63 => ⟨S4x4096x1x2x128, .f32⟩
  | 64 => ⟨S4x4096x2x2x128, .f32⟩
  | 65 => ⟨S16384x512, .f32⟩
  | 66 => ⟨S16384x512, .f32⟩
  | 67 => ⟨S4x4096x1x2x128, .f32⟩
  | 68 => ⟨S4x4096x1x2x128, .f32⟩
  | 69 => ⟨S4x4096x2x2x128, .f32⟩
  | 70 => ⟨S4x4096x1x2x128, .f32⟩
  | 71 => ⟨S4x4096x1x2x128, .f32⟩
  | 72 => ⟨S4x4096x2x2x128, .f32⟩
  | 73 => ⟨S16384x512, .f32⟩
  | 74 => ⟨S4x512x2x2x128, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_7 : Ref sig .tc := ⟨.hbm, 102, rfl⟩
abbrev main_v90 : Ref sig .tc := ⟨.hbm, 103, rfl⟩
abbrev main_v91 : Ref sig .tc := ⟨.hbm, 104, rfl⟩
abbrev main_cst_8 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_9 : Ref sig .tc := ⟨.hbm, 109, rfl⟩
abbrev main_v95 : Ref sig .tc := ⟨.hbm, 110, rfl⟩
abbrev main_v96 : Ref sig .tc := ⟨.hbm, 111, rfl⟩
abbrev main_cst_10 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_cst_11 : Ref sig .tc := ⟨.hbm, 144, rfl⟩
abbrev main_v128 : Ref sig .tc := ⟨.hbm, 145, rfl⟩
abbrev main_v129 : Ref sig .tc := ⟨.hbm, 146, rfl⟩
abbrev main_cst_12 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_13 : Ref sig .tc := ⟨.hbm, 151, rfl⟩
abbrev main_v133 : Ref sig .tc := ⟨.hbm, 152, rfl⟩
abbrev main_v134 : Ref sig .tc := ⟨.hbm, 153, rfl⟩
abbrev main_cst_14 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_cst_15 : Ref sig .tc := ⟨.hbm, 190, rfl⟩
abbrev main_v170 : Ref sig .tc := ⟨.hbm, 191, rfl⟩
abbrev main_v171 : Ref sig .tc := ⟨.hbm, 192, rfl⟩
abbrev main_cst_16 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_cst_17 : Ref sig .tc := ⟨.hbm, 197, rfl⟩
abbrev main_v175 : Ref sig .tc := ⟨.hbm, 198, rfl⟩
abbrev main_v176 : Ref sig .tc := ⟨.hbm, 199, rfl⟩
abbrev main_cst_18 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_cst_19 : Ref sig .tc := ⟨.hbm, 230, rfl⟩
abbrev main_v206 : Ref sig .tc := ⟨.hbm, 231, rfl⟩
abbrev main_v207 : Ref sig .tc := ⟨.hbm, 232, rfl⟩
abbrev main_cst_20 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_cst_21 : Ref sig .tc := ⟨.hbm, 237, rfl⟩
abbrev main_v211 : Ref sig .tc := ⟨.hbm, 238, rfl⟩
abbrev main_v212 : Ref sig .tc := ⟨.hbm, 239, rfl⟩
abbrev main_cst_22 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_cst_23 : Ref sig .tc := ⟨.hbm, 270, rfl⟩
abbrev main_v242 : Ref sig .tc := ⟨.hbm, 271, rfl⟩
abbrev main_v243 : Ref sig .tc := ⟨.hbm, 272, rfl⟩
abbrev main_cst_24 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_cst_25 : Ref sig .tc := ⟨.hbm, 277, rfl⟩
abbrev main_v247 : Ref sig .tc := ⟨.hbm, 278, rfl⟩
abbrev main_v248 : Ref sig .tc := ⟨.hbm, 279, rfl⟩
abbrev main_cst_26 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_cst_27 : Ref sig .tc := ⟨.hbm, 311, rfl⟩
abbrev main_v279 : Ref sig .tc := ⟨.hbm, 312, rfl⟩
abbrev main_v280 : Ref sig .tc := ⟨.hbm, 313, rfl⟩
abbrev main_cst_28 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩

abbrev nD : Nat := 1
abbrev τ : Topo := Topo.v7x

variable {F : FTy → Type} [FloatOps F]
-- ==== GlaIn.lean ====
abbrev S4x4096x1024 : Shape := ⟨3, ![4, 4096, 1024]⟩
abbrev S4x6144 : Shape := ⟨2, ![4, 6144]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S1x1024 : Shape := ⟨2, ![1, 1024]⟩
abbrev S1x512 : Shape := ⟨2, ![1, 512]⟩
abbrev S16384x512 : Shape := ⟨2, ![16384, 512]⟩
abbrev S16384x1024 : Shape := ⟨2, ![16384, 1024]⟩
abbrev S1x256x1024 : Shape := ⟨3, ![1, 256, 1024]⟩
abbrev S1x1x1x1024 : Shape := ⟨4, ![1, 1, 1, 1024]⟩
abbrev S256x512 : Shape := ⟨2, ![256, 512]⟩
abbrev S256x1024 : Shape := ⟨2, ![256, 1024]⟩
abbrev S1x1x1024 : Shape := ⟨3, ![1, 1, 1024]⟩
abbrev S1x256 : Shape := ⟨2, ![1, 256]⟩
abbrev S1x256x1 : Shape := ⟨3, ![1, 256, 1]⟩
abbrev S1024x512 : Shape := ⟨2, ![1024, 512]⟩
abbrev S1024x1024 : Shape := ⟨2, ![1024, 1024]⟩
abbrev S256x128 : Shape := ⟨2, ![256, 128]⟩

abbrev nBuf : Space → Nat
  | .hbm => 27
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x3088, .f32⟩
  | .hbm, ⟨4, _⟩ => ⟨S16x512, .f32⟩
  | .hbm, ⟨5, _⟩ => ⟨S512, .f32⟩
  | .hbm, ⟨6, _⟩ => ⟨S1024x3072, .f32⟩
  | .hbm, ⟨7, _⟩ => ⟨S1024x3072, .bf16⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S128x512, .bf16⟩
  | .hbm, ⟨17, _⟩ => ⟨S4x6x1024, .f32⟩
  | .hbm, ⟨18, _⟩ => ⟨S6x4x1024, .f32⟩
  | .hbm, ⟨19, _⟩ => ⟨S6x4x1x1024, .f32⟩
  | .hbm, ⟨20, _⟩ => ⟨S1x1024, .f32⟩
  | .hbm, ⟨21, _⟩ => ⟨S1x512, .f32⟩
  | .hbm, ⟨22, _⟩ => ⟨S16384x512, .f32⟩
  | .hbm, ⟨23, _⟩ => ⟨S16384x512, .f32⟩
  | .hbm, ⟨24, _⟩ => ⟨S16384x1024, .f32⟩
  | .hbm, ⟨25, _⟩ => ⟨S16384x1024, .f32⟩
  | .hbm, ⟨26, _⟩ => ⟨S16384x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1024x128, .bf16⟩
  | .local _ .vmem, ⟨9, _⟩ => ⟨S128x512, .bf16⟩
  | .local _ .vmem, ⟨10, _⟩ => ⟨S1x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x512, .f32⟩
  | .local _ .vmem, ⟨20, _⟩ => ⟨S256x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== GlaInRefIdeal.lean ====
abbrev S4x4096x1024 : Shape := ⟨3, ![4, 4096, 1024]⟩
abbrev S4x6144 : Shape := ⟨2, ![4, 6144]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S4x6x1024 : Shape := ⟨3, ![4, 6, 1024]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3088 : Shape := ⟨3, ![4, 4096, 3088]⟩
abbrev S4x4096x512 : Shape := ⟨3, ![4, 4096, 512]⟩
abbrev S4x4096x16 : Shape := ⟨3, ![4, 4096, 16]⟩
abbrev S1x1x512 : Shape := ⟨3, ![1, 1, 512]⟩
abbrev S16384x512 : Shape := ⟨2, ![16384, 512]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x3088, .f32⟩
  | .hbm, ⟨4, _⟩ => ⟨S16x512, .f32⟩
  | .hbm, ⟨5, _⟩ => ⟨S512, .f32⟩
  | .hbm, ⟨6, _⟩ => ⟨S4x6x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x1x1024, .f32⟩
  | .hbm, ⟨14, _⟩ => ⟨S4x1024, .f32⟩
  | .hbm, ⟨15, _⟩ => ⟨S4x1x1024, .f32⟩
  | .hbm, ⟨16, _⟩ => ⟨S4x1x1024, .f32⟩
  | .hbm, ⟨17, _⟩ => ⟨S4x1024, .f32⟩
  | .hbm, ⟨18, _⟩ => ⟨S4x1x1024, .f32⟩
  | .hbm, ⟨19, _⟩ => ⟨S4x1x1024, .f32⟩
  | .hbm, ⟨20, _⟩ => ⟨S4x1024, .f32⟩
  | .hbm, ⟨21, _⟩ => ⟨S4x1x1024, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x4096x1024, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x3088, .f32⟩
  | .hbm, ⟨49, _⟩ => ⟨S4x4096x512, .f32⟩
  | .hbm, ⟨50, _⟩ => ⟨S4x4096x512, .f32⟩
  | .hbm, ⟨51, _⟩ => ⟨S4x4096x1024, .f32⟩
  | .hbm, ⟨52, _⟩ => ⟨S4x4096x1024, .f32⟩
  | .hbm, ⟨53, _⟩ => ⟨S4x4096x16, .f32⟩
  | .hbm, ⟨54, _⟩ => ⟨S4x4096x512, .f32⟩
  | .hbm, ⟨55, _⟩ => ⟨S1x1x512, .f32⟩
  | .hbm, ⟨56, _⟩ => ⟨S4x4096x512, .f32⟩
  | .hbm, ⟨57, _⟩ => ⟨S4x4096x512, .f32⟩
  | .hbm, ⟨58, _⟩ => ⟨S4x4096x512, .f32⟩
  | .hbm, ⟨59, _⟩ => ⟨S_, .f32⟩
  | .hbm, ⟨60, _⟩ => ⟨S4x4096x512, .f32⟩
  | .hbm, ⟨61, _⟩ => ⟨S4x4096x512, .f32⟩
  | .hbm, ⟨62, _⟩ => ⟨S4x4096x512, .f32⟩
  | .hbm, ⟨63, _⟩ => ⟨S4x4096x512, .f32⟩
  | .hbm, ⟨64, _⟩ => ⟨S4x4096x512, .i1⟩
  | .hbm, ⟨65, _⟩ => ⟨S4x4096x512, .f32⟩
  | .hbm, ⟨66, _⟩ => ⟨S4x4096x512, .f32⟩
  | .hbm, ⟨67, _⟩ => ⟨S4x4096x512, .f32⟩
  | .hbm, ⟨68, _⟩ => ⟨S4x4096x512, .f32⟩
  | .hbm, ⟨69, _⟩ => ⟨S4x4096x512, .f32⟩
  | .hbm, ⟨70, _⟩ => ⟨S4x4096x512, .f32⟩
  | .hbm, ⟨71, _⟩ => ⟨S4x4096x512, .f32⟩
  | .hbm, ⟨72, _⟩ => ⟨S4x4096x512, .f32⟩
  | .hbm, ⟨73, _⟩ => ⟨S4x4096x512, .f32⟩
  | .hbm, ⟨74, _⟩ => ⟨S_, .f32⟩
  | .hbm, ⟨75, _⟩ => ⟨S4x4096x512, .f32⟩
  | .hbm, ⟨76, _⟩ => ⟨S4x4096x512, .f32⟩
  | .hbm, ⟨77, _⟩ => ⟨S_, .f32⟩
  | .hbm, ⟨78, _⟩ => ⟨S4x4096x512, .f32⟩
  | .hbm, ⟨79, _⟩ => ⟨S4x4096x512, .f32⟩
  | .hbm, ⟨80, _⟩ => ⟨S16384x512, .f32⟩
  | .hbm, ⟨81, _⟩ => ⟨S16384x512, .f32⟩
  | .hbm, ⟨82, _⟩ => ⟨S16384x1024, .f32⟩
  | .hbm, ⟨83, _⟩ => ⟨S16384x1024, .f32⟩
  | .hbm, ⟨84, _⟩ => ⟨S16384x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call0_v0 : Ref sig .tc := ⟨.hbm, 58, rfl⟩
abbrev main_call0_call0_cst : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_v1 : Ref sig .tc := ⟨.hbm, 72, rfl⟩
abbrev main_v48 : Ref sig .tc := ⟨.hbm, 73, rfl⟩
abbrev main_cst_3 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== Proof.Gla.Setup.lean ====
/- What the runs of the recurrence's body are stated over: its branch conditions, and the staging memrefs and the
   scratch as the pipeline passes them. -/
module

public import proofs.«01_k».proof.Proof.Gen.KernelIdeal.Frame
public import proofs.«01_k».proof.Proof.Gen.KernelIdeal.Skeleton
public import Idealize.ShloMosaic.Lib.WholeRead

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first step of a sequence: the state is taken from the argument. -/
abbrev first (i : grid0.Coords) : Prop := (Scalar.cmpi .ne (Scalar.extui (Scalar.cmpi .eq (BitVec.ofNat 32 (i 2).val) 0#32)) 0#32) = 1#1

/-- The last step of a sequence: the state is handed back. -/
abbrev last (i : grid0.Coords) : Prop := k0_cond4 i = 1#1

/-- The word of the test whether the decays of a block, added up over its rows, stay within the bound. -/
def word (x : Vec F S2x8x512 .f32) : BitVec 1 := Scalar.cmpf .ole (k0_pay5 x) (Scalar.ofBits .f32 0x42A00000#32)

/-- The test as the first branch reads it. -/
abbrev takes1 (w : BitVec 1) : Prop := Scalar.cmpi .ne (Scalar.extui w : BitVec 32) 0#32 = 1#1
/-- The test as the second branch reads it, negated. -/
abbrev takes2 (w : BitVec 1) : Prop := Scalar.cmpi .ne (Scalar.extui (Scalar.xori w 1#1) : BitVec 32) 0#32 = 1#1

/-- Exactly one of the two branches is taken. -/
theorem takes_cases : ∀ w : BitVec 1, (w = 1#1 ∧ takes1 w ∧ ¬ takes2 w) ∨ (w ≠ 1#1 ∧ ¬ takes1 w ∧ takes2 w) := by decide

theorem first_all : ∀ t : Fin cfg0.N, first (grid0.coords t) :=
  (by decide +kernel : ∀ t : Fin grid0.N, first (grid0.coords t))

theorem last_all : ∀ t : Fin cfg0.N, last (grid0.coords t) :=
  (by decide +kernel : ∀ t : Fin grid0.N, last (grid0.coords t))

/-- No window is idle at any point. -/
theorem live : ∀ (w : Fin 7) (t : Fin cfg0.N), cfg0.idle w (grid0.coords t) = false
  | 0, _ => rfl | 1, _ => rfl | 2, _ => rfl | 3, _ => rfl | 4, _ => rfl | 5, _ => rfl
  | 6, t => by show (!(k0_cond4 (grid0.coords t) == 1#1)) = false; rw [last_all t]; rfl

/-! ## The memrefs -/

/-- A staging buffer of each output, through which its contents are stated. -/
abbrev viewO : View sig .tc .vmem S2x8x1024 .f32 := (Memref.whole cc0_stg5_0 : Memref sig .tc .vmem S2x8x1024 .f32).view
abbrev viewS : View sig .tc .vmem S2x4x128x256 .f32 := (Memref.whole cc0_stg6_0 : Memref sig .tc .vmem S2x4x128x256 .f32).view

/-- Each window's current staging memref at point `t`, as the pipeline passes it, and that it is whole. -/
abbrev stgQ (t : Fin cfg0.N) : Memref sig .tc .vmem S2x8x512 .f32 := win0_0.stage (cfg0.slots t 0)
abbrev wholeQ (t : Fin cfg0.N) : (stgQ t).IsWhole := hstage0_0 ((cfg0.slots t 0).cast nbuf0_0)
abbrev stgK (t : Fin cfg0.N) : Memref sig .tc .vmem S2x8x512 .f32 := win0_1.stage (cfg0.slots t 1)
abbrev wholeK (t : Fin cfg0.N) : (stgK t).IsWhole := hstage0_1 ((cfg0.slots t 1).cast nbuf0_1)
abbrev stgV (t : Fin cfg0.N) : Memref sig .tc .vmem S2x8x1024 .f32 := win0_2.stage (cfg0.slots t 2)
abbrev wholeV (t : Fin cfg0.N) : (stgV t).IsWhole := hstage0_2 ((cfg0.slots t 2).cast nbuf0_2)
abbrev stgG (t : Fin cfg0.N) : Memref sig .tc .vmem S2x8x512 .f32 := win0_3.stage (cfg0.slots t 3)
abbrev wholeG (t : Fin cfg0.N) : (stgG t).IsWhole := hstage0_3 ((cfg0.slots t 3).cast nbuf0_3)
abbrev stgS (t : Fin cfg0.N) : Memref sig .tc .vmem S2x4x128x256 .f32 := win0_4.stage (cfg0.slots t 4)
abbrev wholeS (t : Fin cfg0.N) : (stgS t).IsWhole := hstage0_4 ((cfg0.slots t 4).cast nbuf0_4)
abbrev stgO (t : Fin cfg0.N) : Memref sig .tc .vmem S2x8x1024 .f32 := win0_5.stage (cfg0.slots t 5)
abbrev wholeO (t : Fin cfg0.N) : (stgO t).IsWhole := hstage0_5 ((cfg0.slots t 5).cast nbuf0_5)
abbrev stgN (t : Fin cfg0.N) : Memref sig .tc .vmem S2x4x128x256 .f32 := win0_6.stage (cfg0.slots t 6)
abbrev wholeN (t : Fin cfg0.N) : (stgN t).IsWhole := hstage0_6 ((cfg0.slots t 6).cast nbuf0_6)
/-- The scratch that carries the states. -/
abbrev scr : Memref sig .tc .vmem S8x128x256 .f32 := Memref.whole cc0_scratch0

/-- The region's invariant with the scratch as a memref owned at some contents. -/
theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- A load of the whole of a whole memref's contents is those contents. -/
theorem load_all (mg : Memref sig .tc .vmem S2x8x512 .f32) (hg : mg.IsWhole) (g : Vec F S2x8x512 .f32) :
    View.readAt (Elt F) mg.view (Rect.unit ![0, 0, 0] S2x8x512.size inb_S2x8x512_S2x8x512_0_0_0).toLoadRect (hg.unread g) = g := by
  funext x
  rw [hg.readAt_unread]
  congr 1
  funext d
  fin_cases d <;> (apply Fin.ext; simp [LoadRect.idx, Rect.unit, Rect.toLoadRect])

end Cert.KernelIdeal.Gla

end
-- ==== Proof.Gla.RunSmall.lean ====
/- The run of the recurrence's body where the decays stay within the bound. -/
module

public import proofs.«01_k».proof.Proof.Gla.Setup

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The pieces the body's stores leave in the two outputs' buffers and in the scratch where the decays stay within the bound, last store first, with the proof that the body, run on whole memrefs holding the inputs, ends
    with the inputs as they were and those pieces written over what the other buffers held. -/
def runSmall (c : Dev nD) (i : grid0.Coords)
    (mq : Memref sig .tc .vmem S2x8x512 .f32) (hq : mq.IsWhole) (mk : Memref sig .tc .vmem S2x8x512 .f32) (hk : mk.IsWhole)
    (mv : Memref sig .tc .vmem S2x8x1024 .f32) (hv : mv.IsWhole) (mg : Memref sig .tc .vmem S2x8x512 .f32) (hg : mg.IsWhole)
    (ms : Memref sig .tc .vmem S2x4x128x256 .f32) (hs : ms.IsWhole) (mo : Memref sig .tc .vmem S2x8x1024 .f32) (ho : mo.IsWhole)
    (mn : Memref sig .tc .vmem S2x4x128x256 .f32) (hn : mn.IsWhole) (mc : Memref sig .tc .vmem S8x128x256 .f32) (hc : mc.IsWhole)
    (q k : Vec F S2x8x512 .f32) (v : Vec F S2x8x1024 .f32) (g : Vec F S2x8x512 .f32) (s : Vec F S2x4x128x256 .f32)
    (c0 : first i) (c1 : takes1 (word g)) (c2 : ¬ takes2 (word g)) (c3 : last i) :
    Σ' (Lo : List (View.Piece (Elt F) S2x8x1024 .f32)) (Ln : List (View.Piece (Elt F) S2x4x128x256 .f32)),
      { Lc : List (View.Piece (Elt F) S8x128x256 .f32) //
      ∀ (E : Set ℕ) (K : PUnit → sProp 𝕄),
        iprop(owns (c : Thread nD τ) mq fullShare q ∗ owns (c : Thread nD τ) mk fullShare k ∗ owns (c : Thread nD τ) mv fullShare v
            ∗ owns (c : Thread nD τ) mg fullShare g ∗ owns (c : Thread nD τ) ms fullShare s ∗ (∃ d, owns (c : Thread nD τ) mo fullShare d)
            ∗ (∃ d, owns (c : Thread nD τ) mn fullShare d) ∗ (∃ d, owns (c : Thread nD τ) mc fullShare d)
            ∗ (iprop(owns (c : Thread nD τ) mq fullShare q ∗ owns (c : Thread nD τ) mk fullShare k ∗ owns (c : Thread nD τ) mv fullShare v
                ∗ owns (c : Thread nD τ) mg fullShare g ∗ owns (c : Thread nD τ) ms fullShare s
                ∗ (∃ f, mo.view.loc (c : Thread nD τ) ↦[mo.view.set]{fullShare} mo.view.writes (Elt F) f Lo)
                ∗ (∃ f, mn.view.loc (c : Thread nD τ) ↦[mn.view.set]{fullShare} mn.view.writes (Elt F) f Ln)
                ∗ (∃ f, mc.view.loc (c : Thread nD τ) ↦[mc.view.set]{fullShare} mc.view.writes (Elt F) f Lc)) -∗ K ⟨⟩))
          ⊢ wp frame (wpE (defs₀ (F := F)) Variants.none c none) E
              (cc0_gla_recurrence i mq hq mk hk mv hv mg hg ms hs mo ho mn hn mc hc) K } := by
  refine ⟨?_, ?_, ?_, fun E K => ?run⟩
  case run =>
    sl_unfold [cc0_gla_recurrence]
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%ds, %fs, -, HS⟩, Hk⟩
    obtain rfl := hq.eq_unread e0; obtain rfl := hk.eq_unread e1; obtain rfl := hv.eq_unread e2; obtain rfl := hg.eq_unread e3; obtain rfl := hs.eq_unread e4
    sl_exec (disch := first | sl_exact c0 | sl_exact c3 | (sl_unfold_run_names; rw [load_all]; first | exact c1 | exact c2))
    sl_step
    iapply Hk
    isplitl [H0]; · iexists _; isplitr; · ipureintro; exact hq.read_unread _
                    iexact H0
    isplitl [H1]; · iexists _; isplitr; · ipureintro; exact hk.read_unread _
                    iexact H1
    isplitl [H2]; · iexists _; isplitr; · ipureintro; exact hv.read_unread _
                    iexact H2
    isplitl [H3]; · iexists _; isplitr; · ipureintro; exact hg.read_unread _
                    iexact H3
    isplitl [H4]; · iexists _; isplitr; · ipureintro; exact hs.read_unread _
                    iexact H4
    isplitl [H5]; · iexists _; iexact H5
    isplitl [H6]; · iexists _; iexact H6
    iexists _; iexact HS

end Cert.KernelIdeal.Gla

end
-- ==== Proof.Gla.RunLarge.lean ====
/- The run of the recurrence's body where the decays go past the bound. -/
module

public import proofs.«01_k».proof.Proof.Gla.RunSmall

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The pieces the body's stores leave in the two outputs' buffers and in the scratch where the decays go past the bound, last store first, with the proof that the body, run on whole memrefs holding the inputs, ends
    with the inputs as they were and those pieces written over what the other buffers held. -/
def runLarge (c : Dev nD) (i : grid0.Coords)
    (mq : Memref sig .tc .vmem S2x8x512 .f32) (hq : mq.IsWhole) (mk : Memref sig .tc .vmem S2x8x512 .f32) (hk : mk.IsWhole)
    (mv : Memref sig .tc .vmem S2x8x1024 .f32) (hv : mv.IsWhole) (mg : Memref sig .tc .vmem S2x8x512 .f32) (hg : mg.IsWhole)
    (ms : Memref sig .tc .vmem S2x4x128x256 .f32) (hs : ms.IsWhole) (mo : Memref sig .tc .vmem S2x8x1024 .f32) (ho : mo.IsWhole)
    (mn : Memref sig .tc .vmem S2x4x128x256 .f32) (hn : mn.IsWhole) (mc : Memref sig .tc .vmem S8x128x256 .f32) (hc : mc.IsWhole)
    (q k : Vec F S2x8x512 .f32) (v : Vec F S2x8x1024 .f32) (g : Vec F S2x8x512 .f32) (s : Vec F S2x4x128x256 .f32)
    (c0 : first i) (c1 : ¬ takes1 (word g)) (c2 : takes2 (word g)) (c3 : last i) :
    Σ' (Lo : List (View.Piece (Elt F) S2x8x1024 .f32)) (Ln : List (View.Piece (Elt F) S2x4x128x256 .f32)),
      { Lc : List (View.Piece (Elt F) S8x128x256 .f32) //
      ∀ (E : Set ℕ) (K : PUnit → sProp 𝕄),
        iprop(owns (c : Thread nD τ) mq fullShare q ∗ owns (c : Thread nD τ) mk fullShare k ∗ owns (c : Thread nD τ) mv fullShare v
            ∗ owns (c : Thread nD τ) mg fullShare g ∗ owns (c : Thread nD τ) ms fullShare s ∗ (∃ d, owns (c : Thread nD τ) mo fullShare d)
            ∗ (∃ d, owns (c : Thread nD τ) mn fullShare d) ∗ (∃ d, owns (c : Thread nD τ) mc fullShare d)
            ∗ (iprop(owns (c : Thread nD τ) mq fullShare q ∗ owns (c : Thread nD τ) mk fullShare k ∗ owns (c : Thread nD τ) mv fullShare v
                ∗ owns (c : Thread nD τ) mg fullShare g ∗ owns (c : Thread nD τ) ms fullShare s
                ∗ (∃ f, mo.view.loc (c : Thread nD τ) ↦[mo.view.set]{fullShare} mo.view.writes (Elt F) f Lo)
                ∗ (∃ f, mn.view.loc (c : Thread nD τ) ↦[mn.view.set]{fullShare} mn.view.writes (Elt F) f Ln)
                ∗ (∃ f, mc.view.loc (c : Thread nD τ) ↦[mc.view.set]{fullShare} mc.view.writes (Elt F) f Lc)) -∗ K ⟨⟩))
          ⊢ wp frame (wpE (defs₀ (F := F)) Variants.none c none) E
              (cc0_gla_recurrence i mq hq mk hk mv hv mg hg ms hs mo ho mn hn mc hc) K } := by
  refine ⟨?_, ?_, ?_, fun E K => ?run⟩
  case run =>
    sl_unfold [cc0_gla_recurrence]
    unfold owns
    iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%ds, %fs, -, HS⟩, Hk⟩
    obtain rfl := hq.eq_unread e0; obtain rfl := hk.eq_unread e1; obtain rfl := hv.eq_unread e2; obtain rfl := hg.eq_unread e3; obtain rfl := hs.eq_unread e4
    sl_exec (disch := first | sl_exact c0 | sl_exact c3 | (sl_unfold_run_names; rw [load_all]; first | exact c1 | exact c2))
    sl_step
    iapply Hk
    isplitl [H0]; · iexists _; isplitr; · ipureintro; exact hq.read_unread _
                    iexact H0
    isplitl [H1]; · iexists _; isplitr; · ipureintro; exact hk.read_unread _
                    iexact H1
    isplitl [H2]; · iexists _; isplitr; · ipureintro; exact hv.read_unread _
                    iexact H2
    isplitl [H3]; · iexists _; isplitr; · ipureintro; exact hg.read_unread _
                    iexact H3
    isplitl [H4]; · iexists _; isplitr; · ipureintro; exact hs.read_unread _
                    iexact H4
    isplitl [H5]; · iexists _; iexact H5
    isplitl [H6]; · iexists _; iexact H6
    iexists _; iexact HS

end Cert.KernelIdeal.Gla

end
-- ==== Proof.Gla.Frame.lean ====
/- The frame of the recurrence's program, over any float values: one body obligation whose two cases are the two runs,
   the launch, and the arguments unchanged. -/
module

public import proofs.«01_k».proof.Proof.Gla.RunLarge
public import Idealize.ShloMosaic.Lib.Claim

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point -/

/-- The log decays of the block of point `t`. -/
abbrev decays (c : Dev nD) (t : Fin cfg0.N) : Vec F S2x8x512 .f32 := iblk m c 3 t

/-- The run at a point whose decays stay within the bound. -/
abbrev small (c : Dev nD) (t : Fin cfg0.N) (h1 : takes1 (word (decays m c t))) (h2 : ¬ takes2 (word (decays m c t))) :=
  runSmall (F := F) c (grid0.coords t) (stgQ t) (wholeQ t) (stgK t) (wholeK t) (stgV t) (wholeV t) (stgG t) (wholeG t)
    (stgS t) (wholeS t) (stgO t) (wholeO t) (stgN t) (wholeN t) scr (Memref.isWhole_whole _)
    (iblk m c 0 t) (iblk m c 1 t) (iblk m c 2 t) (iblk m c 3 t) (iblk m c 4 t) (first_all t) h1 h2 (last_all t)

/-- The run at a point whose decays go past it. -/
abbrev large (c : Dev nD) (t : Fin cfg0.N) (h1 : ¬ takes1 (word (decays m c t))) (h2 : takes2 (word (decays m c t))) :=
  runLarge (F := F) c (grid0.coords t) (stgQ t) (wholeQ t) (stgK t) (wholeK t) (stgV t) (wholeV t) (stgG t) (wholeG t)
    (stgS t) (wholeS t) (stgO t) (wholeO t) (stgN t) (wholeN t) scr (Memref.isWhole_whole _)
    (iblk m c 0 t) (iblk m c 1 t) (iblk m c 2 t) (iblk m c 3 t) (iblk m c 4 t) (first_all t) h1 h2 (last_all t)

/-- The small run's pieces cover the whole block of outputs, -/
theorem small_cover_o (c : Dev nD) (t : Fin cfg0.N) (h1 : takes1 (word (decays m c t))) (h2 : ¬ takes2 (word (decays m c t))) (y : S2x8x1024.Idx) :
    ∃ pc ∈ (small m c t h1 h2).1, y ∈ pc.1.set :=
  View.cover_of_tiledL (small m c t h1 h2).1 S1x8x256.size (by sl_kernel_rfl) y

/-- and the whole block of new states. -/
theorem small_cover_n (c : Dev nD) (t : Fin cfg0.N) (h1 : takes1 (word (decays m c t))) (h2 : ¬ takes2 (word (decays m c t))) (y : S2x4x128x256.Idx) :
    ∃ pc ∈ (small m c t h1 h2).2.1, y ∈ pc.1.set :=
  View.cover_of_tiledL (small m c t h1 h2).2.1 S1x1x128x256.size (by sl_kernel_rfl) y

/-- The large run's pieces cover the whole block of outputs, -/
theorem large_cover_o (c : Dev nD) (t : Fin cfg0.N) (h1 : ¬ takes1 (word (decays m c t))) (h2 : takes2 (word (decays m c t))) (y : S2x8x1024.Idx) :
    ∃ pc ∈ (large m c t h1 h2).1, y ∈ pc.1.set :=
  View.cover_of_tiledL (large m c t h1 h2).1 S1x8x256.size (by sl_kernel_rfl) y

/-- and the whole block of new states. -/
theorem large_cover_n (c : Dev nD) (t : Fin cfg0.N) (h1 : ¬ takes1 (word (decays m c t))) (h2 : takes2 (word (decays m c t))) (y : S2x4x128x256.Idx) :
    ∃ pc ∈ (large m c t h1 h2).2.1, y ∈ pc.1.set :=
  View.cover_of_tiledL (large m c t h1 h2).2.1 S1x1x128x256.size (by sl_kernel_rfl) y

/-- The outputs and the new states point `t` leaves in its blocks. -/
def outs (c : Dev nD) (t : Fin cfg0.N) : Vec F S2x8x1024 .f32 × Vec F S2x4x128x256 .f32 :=
  if h : takes1 (word (decays m c t)) ∧ ¬ takes2 (word (decays m c t)) then
    (viewO.read (Elt F) (viewO.writes (Elt F) viewO.junk (small m c t h.1 h.2).1),
      viewS.read (Elt F) (viewS.writes (Elt F) viewS.junk (small m c t h.1 h.2).2.1))
  else if h : ¬ takes1 (word (decays m c t)) ∧ takes2 (word (decays m c t)) then
    (viewO.read (Elt F) (viewO.writes (Elt F) viewO.junk (large m c t h.1 h.2).1),
      viewS.read (Elt F) (viewS.writes (Elt F) viewS.junk (large m c t h.1 h.2).2.1))
  else (viewO.read (Elt F) viewO.junk, viewS.read (Elt F) viewS.junk)

theorem outs_small (c : Dev nD) (t : Fin cfg0.N) (h1 : takes1 (word (decays m c t))) (h2 : ¬ takes2 (word (decays m c t))) :
    outs m c t = (viewO.read (Elt F) (viewO.writes (Elt F) viewO.junk (small m c t h1 h2).1),
      viewS.read (Elt F) (viewS.writes (Elt F) viewS.junk (small m c t h1 h2).2.1)) := dif_pos ⟨h1, h2⟩

theorem outs_large (c : Dev nD) (t : Fin cfg0.N) (h1 : ¬ takes1 (word (decays m c t))) (h2 : takes2 (word (decays m c t))) :
    outs m c t = (viewO.read (Elt F) (viewO.writes (Elt F) viewO.junk (large m c t h1 h2).1),
      viewS.read (Elt F) (viewS.writes (Elt F) viewS.junk (large m c t h1 h2).2.1)) :=
  (dif_neg fun h => h1 h.1).trans (dif_pos ⟨h1, h2⟩)

/-! ## The pipeline's proof data -/

/-- The arrays as the region finds them; after the body each input's buffer at its block and the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t).1
    | ⟨6, _⟩ => (outs m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outs m c t).1 := by dsimp only [dats]
theorem after6 (c : Dev nD) (t : Fin cfg0.N) : (dats m 0 c).after 6 t = (outs m c t).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (stgQ t) fullShare ((dats m 0 c).before 0 t d))
    ∗ (∃ d, owns (c : Thread nD τ) (stgK t) fullShare ((dats m 0 c).before 1 t d))
    ∗ (∃ d, owns (c : Thread nD τ) (stgV t) fullShare ((dats m 0 c).before 2 t d))
    ∗ (∃ d, owns (c : Thread nD τ) (stgG t) fullShare ((dats m 0 c).before 3 t d))
    ∗ (∃ d, owns (c : Thread nD τ) (stgS t) fullShare ((dats m 0 c).before 4 t d))
    ∗ (∃ d, owns (c : Thread nD τ) (stgO t) fullShare ((dats m 0 c).before 5 t d))
    ∗ (∃ d, owns (c : Thread nD τ) (stgN t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A window that is not idle leaves its buffer at the proof data's contents. -/
theorem leaves_eq (c : Dev nD) (w : Fin 7) (t : Fin cfg0.N) :
    (dats (F := F) m 0 c).leavesExact w t = owns (c : Thread nD τ) ((cfg0.win w).stage (cfg0.slots t w)) fullShare ((dats m 0 c).after w t) := by
  unfold Dat.leavesExact; rw [live w t]

set_option maxHeartbeats 1600000 in
/-- The body at any point: the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, inv_eq]
  rw [leaves_eq m c 0 t, leaves_eq m c 1 t, leaves_eq m c 2 t, leaves_eq m c 3 t, leaves_eq m c 4 t, leaves_eq m c 5 t,
    leaves_eq m c 6 t, after0, after1, after2, after3, after4, after5, after6]
  rcases takes_cases (word (decays m c t)) with ⟨-, h1, h2⟩ | ⟨-, h1, h2⟩
  · rw [outs_small m c t h1 h2]; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((small m c t h1 h2).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%fT, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (small_cover_o m c t h1 h2)
    unfold owns; iexists _; isplitr
    swap; · iexact H6
    ipureintro; exact View.read_writes_of_cover _ _ _ _ _ (small_cover_n m c t h1 h2)
  · rw [outs_large m c t h1 h2]; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((large m c t h1 h2).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%fT, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (large_cover_o m c t h1 h2)
    unfold owns; iexists _; isplitr
    swap; · iexact H6
    ipureintro; exact View.read_writes_of_cover _ _ _ _ _ (large_cover_n m c t h1 h2)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every execution ends, with every array of the pipeline at what the proof data gives and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gla

end
-- ==== Proof.Gla.Head.lean ====
/- One head of one sequence of the recurrence, as the body computes it: eight rows of queries, keys, values and log
   decays padded to sixteen, their running sums, the scores, and the output and the state they give. The body's
   payloads for each sequence and head are these functions of that head's columns. -/
module

public import proofs.«01_k».proof.Proof.Gla.Frame

@[expose] public section

noncomputable section

namespace Cert.KernelIdeal.Gla

open Cert.KernelIdeal Cert.KernelIdeal.Gen
open Idealize.ShloMosaic

variable {F : FTy → Type} [FloatOps F]

/-- Eight rows of a head's key columns, padded with zeros to sixteen. -/
def rowsK (x : Vec F S1x8x128 .f32) : FVec F S16x128 .f32 :=
  concatenate S16x128 0 [⟨S8x128, shapeCast S8x128 x shapeCasts_S1x8x128_S8x128⟩,
    ⟨S8x128, broadcast S8x128 (Scalar.ofBits .f32 0x00000000#32 : F .f32)⟩] concatenates_S8x128_S8x128_S16x128_d0

/-- Eight rows of a head's value columns, padded with zeros to sixteen. -/
def rowsV (x : Vec F S1x8x256 .f32) : FVec F S16x256 .f32 :=
  concatenate S16x256 0 [⟨S8x256, shapeCast S8x256 x shapeCasts_S1x8x256_S8x256⟩,
    ⟨S8x256, broadcast S8x256 (Scalar.ofBits .f32 0x00000000#32 : F .f32)⟩] concatenates_S8x256_S8x256_S16x256_d0

/-- One doubling of the running sum: to each row its `n`-th row above, where there is one. -/
def sumStep (n : BitVec 32) (b : FVec F S16x128 .f32) : FVec F S16x128 .f32 :=
  addf b (select (broadcastTo S16x128 (shapeCast S16x1 (cmpi .sge (iota .tc S16x1 32 [0] iota_S16x1_d0_w32) (broadcast S16x1 n)) shapeCasts_S16x1_S16x1) broadcasts_S16x1_S16x128)
    (dynamicRotate 0 n none b rotates_S16x128_d0) (broadcast S16x128 (Scalar.ofBits .f32 0x00000000#32 : F .f32)))

/-- The running sums of a head's log decays. -/
def sums (g : Vec F S1x8x128 .f32) : FVec F S16x128 .f32 :=
  sumStep 8#32 (sumStep 4#32 (sumStep 2#32 (sumStep 1#32 (rowsK g))))

/-- The last row of the running sums: the log of the whole block's decay. -/
def total (b : FVec F S16x128 .f32) : FVec F S1x128 .f32 := extractStridedSlice S1x128 ![15, 0] b slices_S16x128_o15_0_S1x128

/-- The running sums' first row. -/
def start (b : FVec F S16x128 .f32) : FVec F S1x128 .f32 := extractStridedSlice S1x128 ![0, 0] b slices_S16x128_o0_0_S1x128

/-- A row repeated sixteen times. -/
def spread (x : FVec F S1x128 .f32) : FVec F S16x128 .f32 := broadcastTo S16x128 x broadcasts_S1x128_S16x128

/-- The block's decay of each key channel, as a column. -/
def decay (b : FVec F S16x128 .f32) : FVec F S128x1 .f32 :=
  shapeCast S128x1 (multiReduction .add [1] S128 (select (cmpi .eq (iota .tc S128x128 32 [0] iota_S128x128_d0_w32) (iota .tc S128x128 32 [1] iota_S128x128_d1_w32))
    (broadcastTo S128x128 (shapeCast S1x128 (exp (total b)) shapeCasts_S1x128_S1x128) broadcasts_S1x128_S128x128)
    (broadcast S128x128 (Scalar.ofBits .f32 0x00000000#32 : F .f32))) 0x00000000#32 reduces_S128x128_S128 (.inl rfl) rfl) shapeCasts_S128_S128x1

/-- The output of the head, from its decayed queries, its scores, its values and its state. -/
def outOf (qe : FVec F S16x128 .bf16) (att : FVec F S16x16 .f32) (v : FVec F S16x256 .f32) (s : FVec F S128x256 .f32) : FVec F S1x8x256 .f32 :=
  shapeCast S1x8x256 (extractStridedSlice S8x256 ![0, 0]
    (addf (matmul dot_S16x128_S128x256_S16x256_1_0_0_1_n_n none qe (truncf .bf16 s bitsLt_bf16_f32) (constant S16x256 .f32 0x00000000#32))
      (matmul dot_S16x16_S16x256_S16x256_1_0_0_1_n_n none att v (constant S16x256 .f32 0x00000000#32))) slices_S16x256_o0_0_S8x256) shapeCasts_S8x256_S1x8x256

/-- The new state of the head, from its decayed keys, its decay, its values and its state. -/
def stateOf (kd : FVec F S16x128 .bf16) (dc : FVec F S128x1 .f32) (v : FVec F S16x256 .f32) (s : FVec F S128x256 .f32) : FVec F S1x128x256 .f32 :=
  shapeCast S1x128x256 (addf (mulf (broadcastTo S128x256 dc broadcasts_S128x1_S128x256) s)
    (matmul dot_S16x128_S16x256_S128x256_0_0_1_1_n_n none kd (truncf .bf16 v bitsLt_bf16_f32) (constant S128x256 .f32 0x00000000#32))) shapeCasts_S128x256_S1x128x256

/-- A head's state out of the scratch. -/
def plane (s : Vec F S1x128x256 .f32) : FVec F S128x256 .f32 := shapeCast S128x256 s shapeCasts_S1x128x256_S128x256

/-! ## Where the decays are bounded: queries and keys are rescaled about the first row -/

/-- The queries rescaled. -/
def smallQ (q : FVec F S16x128 .f32) (b : FVec F S16x128 .f32) : FVec F S16x128 .f32 := mulf q (exp (subf b (spread (start b))))

/-- The keys rescaled the other way. -/
def smallK (k : FVec F S16x128 .f32) (b : FVec F S16x128 .f32) : FVec F S16x128 .f32 := mulf k (exp (subf (spread (start b)) b))

/-- The scores: the products of the rescaled queries and keys, at the rows from the key's own on. -/
def smallAtt (q k b : FVec F S16x128 .f32) : FVec F S16x16 .f32 :=
  select (cmpi .sge (iota .tc S16x16 32 [0] iota_S16x16_d0_w32) (iota .tc S16x16 32 [1] iota_S16x16_d1_w32))
    (matmul dot_S16x128_S16x128_S16x16_1_1_0_0_n_n none (truncf .bf16 (smallQ q b) bitsLt_bf16_f32) (truncf .bf16 (smallK k b) bitsLt_bf16_f32) (constant S16x16 .f32 0x00000000#32))
    (broadcast S16x16 (Scalar.ofBits .f32 0x00000000#32 : F .f32))

/-- The head's output. -/
def smallOut (q k : Vec F S1x8x128 .f32) (v : Vec F S1x8x256 .f32) (g : Vec F S1x8x128 .f32) (s : Vec F S1x128x256 .f32) : FVec F S1x8x256 .f32 :=
  outOf (truncf .bf16 (mulf (smallQ (rowsK q) (sums g)) (spread (exp (start (sums g))))) bitsLt_bf16_f32) (smallAtt (rowsK q) (rowsK k) (sums g)) (rowsV v) (plane s)

/-- The head's new state. -/
def smallState (k : Vec F S1x8x128 .f32) (v : Vec F S1x8x256 .f32) (g : Vec F S1x8x128 .f32) (s : Vec F S1x128x256 .f32) : FVec F S1x128x256 .f32 :=
  stateOf (truncf .bf16 (mulf (smallK (rowsK k) (sums g)) (spread (exp (subf (total (sums g)) (start (sums g)))))) bitsLt_bf16_f32) (decay (sums g)) (rowsV v) (plane s)

/-! ## Where they are not: the scores are summed one key at a time -/

/-- One key's scores against all queries. -/
def largeCol (q k b : FVec F S16x128 .f32) (j : Fin 2 → ℕ) (h : S16x128.Slices j S1x128) : FVec F S16x1 .f32 :=
  shapeCast S16x1 (multiReduction .add [1] S16
    (mulf (mulf q (broadcastTo S16x128 (extractStridedSlice S1x128 j k h) broadcasts_S1x128_S16x128))
      (exp (minimumf (subf b (broadcastTo S16x128 (extractStridedSlice S1x128 j b h) broadcasts_S1x128_S16x128)) (broadcast S16x128 (Scalar.ofBits .f32 0x00000000#32 : F .f32)))))
    0x00000000#32 reduces_S16x128_S16 (.inl rfl) rfl) shapeCasts_S16_S16x1

/-- That key's column put into the scores. -/
def largePut (n : BitVec 32) (col : FVec F S16x1 .f32) (a : FVec F S16x16 .f32) : FVec F S16x16 .f32 :=
  select (cmpi .eq (iota .tc S16x16 32 [1] iota_S16x16_d1_w32) (broadcast S16x16 n))
    (broadcastTo S16x16 (shapeCast S16x1 col shapeCasts_S16x1_S16x1) broadcasts_S16x1_S16x16) a

/-- The scores, at the rows from the key's own on. -/
def largeAtt (q k b : FVec F S16x128 .f32) : FVec F S16x16 .f32 :=
  select (cmpi .sle (subi (iota .tc S16x16 32 [1] iota_S16x16_d1_w32) (broadcast S16x16 0#32)) (iota .tc S16x16 32 [0] iota_S16x16_d0_w32))
    (largePut 7#32 (largeCol q k b ![7, 0] slices_S16x128_o7_0_S1x128)
    (largePut 6#32 (largeCol q k b ![6, 0] slices_S16x128_o6_0_S1x128)
    (largePut 5#32 (largeCol q k b ![5, 0] slices_S16x128_o5_0_S1x128)
    (largePut 4#32 (largeCol q k b ![4, 0] slices_S16x128_o4_0_S1x128)
    (largePut 3#32 (largeCol q k b ![3, 0] slices_S16x128_o3_0_S1x128)
    (largePut 2#32 (largeCol q k b ![2, 0] slices_S16x128_o2_0_S1x128)
    (largePut 1#32 (largeCol q k b ![1, 0] slices_S16x128_o1_0_S1x128)
    (largePut 0#32 (largeCol q k b ![0, 0] slices_S16x128_o0_0_S1x128)
      (broadcast S16x16 (Scalar.ofBits .f32 0x00000000#32 : F .f32))))))))))
    (broadcast S16x16 (Scalar.ofBits .f32 0x00000000#32 : F .f32))

/-- The head's output. -/
def largeOut (q k : Vec F S1x8x128 .f32) (v : Vec F S1x8x256 .f32) (g : Vec F S1x8x128 .f32) (s : Vec F S1x128x256 .f32) : FVec F S1x8x256 .f32 :=
  outOf (truncf .bf16 (mulf (rowsK q) (exp (sums g))) bitsLt_bf16_f32) (largeAtt (rowsK q) (rowsK k) (sums g)) (rowsV v) (plane s)

/-- The head's new state. -/
def largeState (k : Vec F S1x8x128 .f32) (v : Vec F S1x8x256 .f32) (g : Vec F S1x8x128 .f32) (s : Vec F S1x128x256 .f32) : FVec F S1x128x256 .f32 :=
  stateOf (truncf .bf16 (mulf (rowsK k) (exp (subf (spread (total (sums g))) (sums g)))) bitsLt_bf16_f32) (decay (sums g)) (rowsV v) (plane s)

end Cert.KernelIdeal.Gla

end
-- ==== Proof.Gla.HeadValue.lean ====
/- The head functions over the extended reals, read at an index. -/
module

public import proofs.«01_k».proof.Proof.Gla.Head
public import Idealize.ShloMosaic.Lib.Pointwise

@[expose] public section

set_option maxRecDepth 16384

noncomputable section

namespace Cert.KernelIdeal.Gla

open Cert.KernelIdeal Cert.KernelIdeal.Gen
open Idealize.ShloMosaic

/-- Row `i` of a head's padded key columns. -/
theorem rowsK_apply (x : FVec Ideal S1x8x128 .f32) (i : Fin 16) (d : Fin 128) :
    rowsK (F := Ideal) x (ix2 i d) = if h : (i : ℕ) < 8 then x (ix3 0 ⟨i, h⟩ d) else 0 := by
  pointwise [rowsK]

/-- Row `i` of a head's padded value columns. -/
theorem rowsV_apply (x : FVec Ideal S1x8x256 .f32) (i : Fin 16) (e : Fin 256) :
    rowsV (F := Ideal) x (ix2 i e) = if h : (i : ℕ) < 8 then x (ix3 0 ⟨i, h⟩ e) else 0 := by
  pointwise [rowsV]

/-- One doubling adds the row above. -/
theorem step1 (b : FVec Ideal S16x128 .f32) (i : Fin 16) (d : Fin 128) :
    sumStep (F := Ideal) 1#32 b (ix2 i d) = b (ix2 i d) + if (i : ℕ) < 1 then 0 else b (ix2 ⟨(i : ℕ) - 1, by omega⟩ d) := by
  pointwise [sumStep]
  fin_cases i <;> rfl

/-- The next adds the second row above. -/
theorem step2 (b : FVec Ideal S16x128 .f32) (i : Fin 16) (d : Fin 128) :
    sumStep (F := Ideal) 2#32 b (ix2 i d) = b (ix2 i d) + if (i : ℕ) < 2 then 0 else b (ix2 ⟨(i : ℕ) - 2, by omega⟩ d) := by
  pointwise [sumStep]
  fin_cases i <;> rfl

/-- The next adds the fourth row above. -/
theorem step4 (b : FVec Ideal S16x128 .f32) (i : Fin 16) (d : Fin 128) :
    sumStep (F := Ideal) 4#32 b (ix2 i d) = b (ix2 i d) + if (i : ℕ) < 4 then 0 else b (ix2 ⟨(i : ℕ) - 4, by omega⟩ d) := by
  pointwise [sumStep]
  fin_cases i <;> rfl

/-- The last adds the eighth row above. -/
theorem step8 (b : FVec Ideal S16x128 .f32) (i : Fin 16) (d : Fin 128) :
    sumStep (F := Ideal) 8#32 b (ix2 i d) = b (ix2 i d) + if (i : ℕ) < 8 then 0 else b (ix2 ⟨(i : ℕ) - 8, by omega⟩ d) := by
  pointwise [sumStep]
  fin_cases i <;> rfl

/-- The running sum of a head's log decays up to row `i`. -/
def upto (g : FVec Ideal S1x8x128 .f32) (i : ℕ) (d : Fin 128) : EReal := ∑ j : Fin 8, if (j : ℕ) ≤ i then g (ix3 0 j d) else 0

/-- Four doublings of a sequence give its running sums. -/
theorem doublings (f : Fin 8 → EReal) (r0 r1 r2 r4 r8 : Fin 16 → EReal) (h0 : ∀ i, r0 i = if h : (i : ℕ) < 8 then f ⟨i, h⟩ else 0)
    (h1 : ∀ i : Fin 16, r1 i = r0 i + if (i : ℕ) < 1 then 0 else r0 ⟨(i : ℕ) - 1, by omega⟩)
    (h2 : ∀ i : Fin 16, r2 i = r1 i + if (i : ℕ) < 2 then 0 else r1 ⟨(i : ℕ) - 2, by omega⟩)
    (h4 : ∀ i : Fin 16, r4 i = r2 i + if (i : ℕ) < 4 then 0 else r2 ⟨(i : ℕ) - 4, by omega⟩)
    (h8 : ∀ i : Fin 16, r8 i = r4 i + if (i : ℕ) < 8 then 0 else r4 ⟨(i : ℕ) - 8, by omega⟩) (i : Fin 16) :
    r8 i = ∑ j : Fin 8, if (j : ℕ) ≤ i then f j else 0 := by
  simp only [h8, h4, h2, h1, h0, Fin.sum_univ_eight]
  fin_cases i <;> simp <;> generalize f 0 = a0, f 1 = a1, f 2 = a2, f 3 = a3, f 4 = a4, f 5 = a5, f 6 = a6, f 7 = a7 <;> ac_rfl

/-- The doublings give the running sums. -/
theorem sums_apply (g : FVec Ideal S1x8x128 .f32) (i : Fin 16) (d : Fin 128) : sums (F := Ideal) g (ix2 i d) = upto g i d :=
  doublings (fun j => g (ix3 0 j d)) (fun i => rowsK (F := Ideal) g (ix2 i d)) (fun i => sumStep (F := Ideal) 1#32 (rowsK g) (ix2 i d))
    (fun i => sumStep (F := Ideal) 2#32 (sumStep 1#32 (rowsK g)) (ix2 i d)) (fun i => sumStep (F := Ideal) 4#32 (sumStep 2#32 (sumStep 1#32 (rowsK g))) (ix2 i d)) _
    (fun i => rowsK_apply g i d) (fun i => step1 _ i d) (fun i => step2 _ i d) (fun i => step4 _ i d) (fun i => step8 _ i d) i

/-- Two channel numbers compared as words. -/
theorem word_eq : ∀ d x : Fin 128, IntOp.cmpi CmpIPredicate.eq (BitVec.ofNat 32 ↑d) (BitVec.ofNat 32 ↑x) = if d = x then 1#1 else 0#1 := by
  decide +kernel

/-- The block's decay, by key channel. -/
theorem decay_apply (b : FVec Ideal S16x128 .f32) (d : Fin 128) : decay (F := Ideal) b (ix2 d 0) = Ideal.exp (b (ix2 15 d)) := by
  pointwise [decay, total]
  refine (Finset.sum_eq_single d (fun x _ h => ?_) (fun h => absurd (Finset.mem_univ d) h)).trans ?_
  · rw [word_eq, if_neg (Ne.symm h)]; rfl
  · rw [word_eq, if_pos rfl]; rfl

theorem outOf_apply (qe : FVec Ideal S16x128 .bf16) (att : FVec Ideal S16x16 .f32) (v : FVec Ideal S16x256 .f32) (s : FVec Ideal S128x256 .f32) (i : Fin 8) (e : Fin 256) :
    outOf (F := Ideal) qe att v s (ix3 0 i e) = (∑ d : Fin 128, qe (ix2 ⟨i, by omega⟩ d) * s (ix2 d e)) + ∑ j : Fin 16, att (ix2 ⟨i, by omega⟩ j) * v (ix2 j e) := by
  pointwise [outOf]

theorem stateOf_apply (kd : FVec Ideal S16x128 .bf16) (dc : FVec Ideal S128x1 .f32) (v : FVec Ideal S16x256 .f32) (s : FVec Ideal S128x256 .f32) (d : Fin 128) (e : Fin 256) :
    stateOf (F := Ideal) kd dc v s (ix3 0 d e) = dc (ix2 d 0) * s (ix2 d e) + ∑ j : Fin 16, kd (ix2 j d) * v (ix2 j e) := by
  pointwise [stateOf]

theorem smallQ_apply (q b : FVec Ideal S16x128 .f32) (i : Fin 16) (d : Fin 128) :
    smallQ (F := Ideal) q b (ix2 i d) = q (ix2 i d) * Ideal.exp (b (ix2 i d) - b (ix2 0 d)) := by
  pointwise [smallQ, spread, start]

theorem smallK_apply (q b : FVec Ideal S16x128 .f32) (i : Fin 16) (d : Fin 128) :
    smallK (F := Ideal) q b (ix2 i d) = q (ix2 i d) * Ideal.exp (b (ix2 0 d) - b (ix2 i d)) := by
  pointwise [smallK, spread, start]

theorem smallAtt_apply (q k b : FVec Ideal S16x128 .f32) (i j : Fin 16) :
    smallAtt (F := Ideal) q k b (ix2 i j) = if (j : ℕ) ≤ i then ∑ d : Fin 128, smallQ (F := Ideal) q b (ix2 i d) * smallK (F := Ideal) k b (ix2 j d) else 0 := by
  pointwise [smallAtt]
  fin_cases j <;> fin_cases i <;> rfl

theorem largeAtt_apply (q k b : FVec Ideal S16x128 .f32) (i : Fin 16) (j : Fin 8) :
    largeAtt (F := Ideal) q k b (ix2 i ⟨j, by omega⟩) = if (j : ℕ) ≤ i then ∑ d : Fin 128, q (ix2 i d) * k (ix2 ⟨j, by omega⟩ d) * Ideal.exp (min (b (ix2 i d) - b (ix2 ⟨j, by omega⟩ d)) 0) else 0 := by
  pointwise [largeAtt, largePut, largeCol]
  fin_cases j <;> fin_cases i <;> rfl

end Cert.KernelIdeal.Gla
end
-- ==== Proof.Gla.HeadMath.lean ====
/- One head's step as a sum over its keys, and both branches of the kernel equal to it. -/
module

public import proofs.«01_k».proof.Proof.Gla.HeadValue

@[expose] public section

set_option maxRecDepth 16384

noncomputable section

namespace Cert.KernelIdeal.Gla

open Cert.KernelIdeal Cert.KernelIdeal.Gen
open Idealize.ShloMosaic

/-- The score of query `i` against key `j`: over the channels, their product times the decay between them; later keys do not count. -/
def score (q k g : FVec Ideal S1x8x128 .f32) (i j : Fin 8) : EReal :=
  if (j : ℕ) ≤ i then ∑ d : Fin 128, q (ix3 0 i d) * k (ix3 0 j d) * Ideal.exp (upto g i d - upto g j d) else 0

/-- The output of one head. -/
def headOut (q k : FVec Ideal S1x8x128 .f32) (v : FVec Ideal S1x8x256 .f32) (g : FVec Ideal S1x8x128 .f32) (s : FVec Ideal S1x128x256 .f32) (i : Fin 8) (e : Fin 256) : EReal :=
  (∑ d : Fin 128, q (ix3 0 i d) * Ideal.exp (upto g i d) * s (ix3 0 d e)) + ∑ j : Fin 8, score q k g i j * v (ix3 0 j e)

/-- The new state of one head. -/
def headState (k : FVec Ideal S1x8x128 .f32) (v : FVec Ideal S1x8x256 .f32) (g : FVec Ideal S1x8x128 .f32) (s : FVec Ideal S1x128x256 .f32) (d : Fin 128) (e : Fin 256) : EReal :=
  Ideal.exp (upto g 7 d) * s (ix3 0 d e) + ∑ j : Fin 8, k (ix3 0 j d) * Ideal.exp (upto g 7 d - upto g j d) * v (ix3 0 j e)

/-- A sum over the padded rows is a sum over the eight. -/
theorem sum_rows (a : Fin 16 → EReal) (f : Fin 8 → EReal) :
    (∑ j : Fin 16, a j * if h : (j : ℕ) < 8 then f ⟨j, h⟩ else 0) = ∑ j : Fin 8, a ⟨j, by omega⟩ * f j := by
  refine (Fin.sum_univ_add (a := 8) (b := 8) _).trans ?_
  have h2 : (∑ i : Fin 8, a (Fin.natAdd 8 i) * if h : (Fin.natAdd 8 i : ℕ) < 8 then f ⟨_, h⟩ else 0) = 0 :=
    Finset.sum_eq_zero fun i _ => by rw [dif_neg (by simp), mul_zero]
  rw [h2, add_zero]
  refine Finset.sum_congr rfl fun i _ => ?_
  rw [dif_pos (by simp)]; rfl

/-- A state out of the scratch, at an index. -/
theorem plane_apply (s : FVec Ideal S1x128x256 .f32) (d : Fin 128) (e : Fin 256) : plane (F := Ideal) s (ix2 d e) = s (ix3 0 d e) := by
  pointwise [plane]

/-- Row fifteen of the running sums is row seven. -/
theorem upto_last (g : FVec Ideal S1x8x128 .f32) (d : Fin 128) : upto g 15 d = upto g 7 d :=
  Finset.sum_congr rfl fun j _ => by rw [if_pos (by omega), if_pos (by omega)]

theorem total_apply (b : FVec Ideal S16x128 .f32) (d : Fin 128) : total (F := Ideal) b (ix2 0 d) = b (ix2 15 d) := by
  pointwise [total]

theorem start_apply (b : FVec Ideal S16x128 .f32) (d : Fin 128) : start (F := Ideal) b (ix2 0 d) = b (ix2 0 d) := by
  pointwise [start]

theorem spread_apply (b : FVec Ideal S1x128 .f32) (i : Fin 16) (d : Fin 128) : spread (F := Ideal) b (ix2 i d) = b (ix2 0 d) := by
  pointwise [spread]

/-! ## The unbounded branch -/

/-- The running sums fall. -/
theorem upto_anti (g : FVec Ideal S1x8x128 .f32) (hg : ∀ x, g x ≤ 0) (d : Fin 128) {i j : ℕ} (h : j ≤ i) : upto g i d ≤ upto g j d := by
  refine Finset.sum_le_sum fun x _ => ?_
  by_cases h1 : (x : ℕ) ≤ j
  · rw [if_pos h1, if_pos (h1.trans h)]
  · rw [if_neg h1]
    by_cases h2 : (x : ℕ) ≤ i
    · rw [if_pos h2]; exact hg _
    · rw [if_neg h2]

theorem upto_nonpos (g : FVec Ideal S1x8x128 .f32) (hg : ∀ x, g x ≤ 0) (d : Fin 128) (i : ℕ) : upto g i d ≤ 0 := by
  refine Finset.sum_nonpos fun x _ => ?_
  by_cases h1 : (x : ℕ) ≤ i
  · rw [if_pos h1]; exact hg _
  · rw [if_neg h1]

theorem sub_nonpos' {x y : EReal} (h : x ≤ y) (hy : y ≤ 0) : x - y ≤ 0 := by
  induction y with
  | bot => rw [le_bot_iff.mp h]; simp
  | top => exact absurd hy (by simp)
  | coe r =>
    induction x with
    | bot => simp
    | top => exact absurd h (by simp)
    | coe t => rw [← EReal.coe_sub]; exact_mod_cast sub_nonpos.mpr (EReal.coe_le_coe_iff.mp h)

/-- The unbounded branch's output is the head's. -/
theorem largeOut_apply (q k : FVec Ideal S1x8x128 .f32) (v : FVec Ideal S1x8x256 .f32) (g : FVec Ideal S1x8x128 .f32) (s : FVec Ideal S1x128x256 .f32)
    (hg : ∀ x, g x ≤ 0) (i : Fin 8) (e : Fin 256) : largeOut (F := Ideal) q k v g s (ix3 0 i e) = headOut q k v g s i e := by
  have e1 (d : Fin 128) : (truncf .bf16 (mulf (rowsK (F := Ideal) q) (exp (sums g))) bitsLt_bf16_f32 : FVec Ideal S16x128 .bf16) (ix2 ⟨i, by omega⟩ d) = q (ix3 0 i d) * Ideal.exp (upto g i d) := by
    refine Ideal.mul_congr ((rowsK_apply q _ d).trans (dif_pos i.isLt)) ?_
    exact congrArg Ideal.exp (sums_apply g _ d)
  unfold largeOut headOut
  rw [outOf_apply]
  refine congrArg₂ _ (Finset.sum_congr rfl fun d _ => ?_) ?_
  · rw [e1, plane_apply]
  · simp only [rowsV_apply]
    refine (sum_rows _ (fun j => v (ix3 0 j e))).trans (Finset.sum_congr rfl fun j _ => ?_)
    rw [largeAtt_apply]
    refine congrArg (· * v (ix3 0 j e)) ?_
    unfold score
    by_cases h : (j : ℕ) ≤ i
    · rw [if_pos h, if_pos h]
      refine Finset.sum_congr rfl fun d _ => ?_
      rw [rowsK_apply, rowsK_apply, dif_pos i.isLt, dif_pos j.isLt, sums_apply, sums_apply, min_eq_left (sub_nonpos' (upto_anti g hg d h) (upto_nonpos g hg d j))]
    · rw [if_neg h, if_neg h]

/-- The unbounded branch's state is the head's. -/
theorem largeState_apply (k : FVec Ideal S1x8x128 .f32) (v : FVec Ideal S1x8x256 .f32) (g : FVec Ideal S1x8x128 .f32) (s : FVec Ideal S1x128x256 .f32)
    (d : Fin 128) (e : Fin 256) : largeState (F := Ideal) k v g s (ix3 0 d e) = headState k v g s d e := by
  unfold largeState headState
  rw [stateOf_apply]
  refine congrArg₂ _ ?_ ?_
  · rw [decay_apply, plane_apply, sums_apply]; exact congrArg (Ideal.exp · * s (ix3 0 d e)) (upto_last g d)
  · simp only [rowsV_apply]
    refine (sum_rows _ (fun j => v (ix3 0 j e))).trans (Finset.sum_congr rfl fun j _ => ?_)
    refine congrArg (· * v (ix3 0 j e)) ?_
    refine Ideal.mul_congr ((rowsK_apply k _ d).trans (dif_pos j.isLt)) (congrArg Ideal.exp ?_)
    refine congrArg₂ (· - ·) ?_ (sums_apply g _ d)
    exact (spread_apply _ _ d).trans ((total_apply _ d).trans ((sums_apply g 15 d).trans (upto_last g d)))

/-! ## The bounded branch -/

/-- The running sums of real log decays are real. -/
theorem upto_real (g : FVec Ideal S1x8x128 .f32) (hg : ∀ x, ∃ r : ℝ, g x = r) (i : ℕ) (d : Fin 128) : ∃ r : ℝ, upto g i d = r := by
  choose f hf using hg
  refine ⟨∑ j : Fin 8, if (j : ℕ) ≤ i then f (ix3 0 j d) else 0, ?_⟩
  unfold upto
  refine Eq.trans (Finset.sum_congr rfl fun j _ => ?_) (map_sum (⟨⟨fun r : ℝ => (r : EReal), rfl⟩, EReal.coe_add⟩ : ℝ →+ EReal) _ _).symm
  show _ = ((if (j : ℕ) ≤ i then f (ix3 0 j d) else 0 : ℝ) : EReal)
  by_cases h : (j : ℕ) ≤ i
  · rw [if_pos h, if_pos h, hf]
  · rw [if_neg h, if_neg h]; rfl

theorem exp_mid {x r y : EReal} (hx : ∃ a : ℝ, x = a) (hr : ∃ a : ℝ, r = a) (hy : ∃ a : ℝ, y = a) : Ideal.exp (x - r) * Ideal.exp (r - y) = Ideal.exp (x - y) := by
  obtain ⟨a, rfl⟩ := hx; obtain ⟨b, rfl⟩ := hr; obtain ⟨c, rfl⟩ := hy
  rw [← EReal.coe_sub, ← EReal.coe_sub, ← EReal.coe_sub]
  show (Real.exp _ : EReal) * (Real.exp _ : EReal) = (Real.exp _ : EReal)
  rw [← EReal.coe_mul, ← Real.exp_add, sub_add_sub_cancel]

theorem exp_back {x r : EReal} (hx : ∃ a : ℝ, x = a) (hr : ∃ a : ℝ, r = a) : Ideal.exp (x - r) * Ideal.exp r = Ideal.exp x := by
  obtain ⟨a, rfl⟩ := hx; obtain ⟨b, rfl⟩ := hr
  rw [← EReal.coe_sub]
  show (Real.exp _ : EReal) * (Real.exp _ : EReal) = (Real.exp _ : EReal)
  rw [← EReal.coe_mul, ← Real.exp_add, sub_add_cancel]

/-- The bounded branch's output is the head's. -/
theorem smallOut_apply (q k : FVec Ideal S1x8x128 .f32) (v : FVec Ideal S1x8x256 .f32) (g : FVec Ideal S1x8x128 .f32) (s : FVec Ideal S1x128x256 .f32)
    (hg : ∀ x, ∃ r : ℝ, g x = r) (i : Fin 8) (e : Fin 256) : smallOut (F := Ideal) q k v g s (ix3 0 i e) = headOut q k v g s i e := by
  have hu := upto_real g hg
  have e1 (d : Fin 128) : (truncf .bf16 (mulf (smallQ (rowsK (F := Ideal) q) (sums g)) (spread (exp (start (sums g))))) bitsLt_bf16_f32 : FVec Ideal S16x128 .bf16) (ix2 ⟨i, by omega⟩ d) = q (ix3 0 i d) * Ideal.exp (upto g i d) := by
    refine (Ideal.mul_congr (smallQ_apply _ _ _ d) ((spread_apply _ _ d).trans (congrArg Ideal.exp (start_apply _ d)))).trans ?_
    rw [rowsK_apply, dif_pos i.isLt, sums_apply, sums_apply]
    refine (mul_assoc (G := EReal) _ _ _).trans (congrArg _ ?_)
    exact exp_back (hu _ d) (hu _ d)
  unfold smallOut headOut
  rw [outOf_apply]
  refine congrArg₂ _ (Finset.sum_congr rfl fun d _ => ?_) ?_
  · rw [e1, plane_apply]
  · simp only [rowsV_apply]
    refine (sum_rows _ (fun j => v (ix3 0 j e))).trans (Finset.sum_congr rfl fun j _ => ?_)
    rw [smallAtt_apply]
    refine congrArg (· * v (ix3 0 j e)) ?_
    unfold score
    by_cases h : (j : ℕ) ≤ i
    · refine (if_pos h).trans (Eq.trans ?_ (if_pos h).symm)
      refine Finset.sum_congr rfl fun d _ => ?_
      rw [smallQ_apply, smallK_apply, rowsK_apply, rowsK_apply, dif_pos i.isLt, dif_pos j.isLt, sums_apply, sums_apply, sums_apply]
      refine (mul_mul_mul_comm (G := EReal) _ _ _ _).trans (congrArg _ ?_)
      exact exp_mid (hu _ d) (hu _ d) (hu _ d)
    · exact (if_neg h).trans (if_neg h).symm

/-- The bounded branch's state is the head's. -/
theorem smallState_apply (k : FVec Ideal S1x8x128 .f32) (v : FVec Ideal S1x8x256 .f32) (g : FVec Ideal S1x8x128 .f32) (s : FVec Ideal S1x128x256 .f32)
    (hg : ∀ x, ∃ r : ℝ, g x = r) (d : Fin 128) (e : Fin 256) : smallState (F := Ideal) k v g s (ix3 0 d e) = headState k v g s d e := by
  have hu := upto_real g hg
  unfold smallState headState
  rw [stateOf_apply]
  refine congrArg₂ _ ?_ ?_
  · rw [decay_apply, plane_apply, sums_apply]; exact congrArg (Ideal.exp · * s (ix3 0 d e)) (upto_last g d)
  · simp only [rowsV_apply]
    refine (sum_rows _ (fun j => v (ix3 0 j e))).trans (Finset.sum_congr rfl fun j _ => ?_)
    refine congrArg (· * v (ix3 0 j e)) ?_
    refine (Ideal.mul_congr (smallK_apply _ _ _ d) ((spread_apply _ _ d).trans (congrArg Ideal.exp (congrArg₂ (· - ·) (total_apply _ d) (start_apply _ d))))).trans ?_
    rw [rowsK_apply, dif_pos j.isLt, sums_apply, sums_apply, sums_apply]
    refine (mul_assoc (G := EReal) _ _ _).trans (congrArg _ ?_)
    rw [show upto g ((15 : Fin 16) : ℕ) d = upto g 7 d from upto_last g d]
    exact (mul_comm (G := EReal) _ _).trans (exp_mid (hu _ d) (hu _ d) (hu _ d))

end Cert.KernelIdeal.Gla
end
-- ==== Proof.Gla.Pieces.lean ====
/- What the body's stores leave in the two outputs' blocks, head by head: the pieces of either run are the head
   functions of that head's columns of the inputs' blocks and of its plane of the scratch, which holds the head's
   state as loaded. -/
module

public import proofs.«01_k».proof.Proof.Gla.Head
public import Idealize.ShloMosaic.Lib.Pipeline.ReadBack
public import Idealize.ShloMosaic.Lib.WholeRead

@[expose] public section

set_option maxRecDepth 16384

noncomputable section

namespace Cert.KernelIdeal.Gla

open Cert.KernelIdeal Cert.KernelIdeal.Gen
open Idealize.ShloMosaic

variable {F : FTy → Type} [FloatOps F]

/-! ## The rectangles of a head: head `n` is head `n % 4` of sequence `n / 4` of the block -/

/-- A head's key columns, value columns, plane of the states and plane of the scratch. -/
def offK (n : Fin 8) : Fin 3 → ℕ := ![(n : ℕ) / 4, 0, 128 * ((n : ℕ) % 4)]
def offV (n : Fin 8) : Fin 3 → ℕ := ![(n : ℕ) / 4, 0, 256 * ((n : ℕ) % 4)]
def offN (n : Fin 8) : Fin 4 → ℕ := ![(n : ℕ) / 4, (n : ℕ) % 4, 0, 0]
def offC (n : Fin 8) : Fin 3 → ℕ := ![(n : ℕ), 0, 0]

theorem inbK : ∀ n : Fin 8, ∀ a, offK n a + S1x8x128.size a ≤ S2x8x512.size a := by decide
theorem inbV : ∀ n : Fin 8, ∀ a, offV n a + S1x8x256.size a ≤ S2x8x1024.size a := by decide
theorem inbN : ∀ n : Fin 8, ∀ a, offN n a + S1x1x128x256.size a ≤ S2x4x128x256.size a := by decide
theorem inbC : ∀ n : Fin 8, ∀ a, offC n a + S1x128x256.size a ≤ S8x128x256.size a := by decide

abbrev rectK (n : Fin 8) : Rect S2x8x512 := Rect.unit (offK n) S1x8x128.size (inbK n)
abbrev rectV (n : Fin 8) : Rect S2x8x1024 := Rect.unit (offV n) S1x8x256.size (inbV n)
abbrev rectN (n : Fin 8) : Rect S2x4x128x256 := Rect.unit (offN n) S1x1x128x256.size (inbN n)
abbrev rectC (n : Fin 8) : Rect S8x128x256 := Rect.unit (offC n) S1x128x256.size (inbC n)

/-- A head's columns of a block of keys, of a block of values, and its plane of a block of states. -/
def headK (x : Vec F S2x8x512 .f32) (n : Fin 8) : Vec F S1x8x128 .f32 := fun i => x ((rectK n).emb i)
def headV (x : Vec F S2x8x1024 .f32) (n : Fin 8) : Vec F S1x8x256 .f32 := fun i => x ((rectV n).emb i)
def headN (x : Vec F S2x4x128x256 .f32) (n : Fin 8) : Vec F S1x1x128x256 .f32 := fun i => x ((rectN n).emb i)

theorem readK (mk : Memref sig .tc .vmem S2x8x512 .f32) (hk : mk.IsWhole) (x : Vec F S2x8x512 .f32) (n : Fin 8) :
    View.readAt (Elt F) mk.view (rectK n).toLoadRect (hk.unread x) = headK x n := funext fun i => hk.readAt_unread x _ i
theorem readV (mv : Memref sig .tc .vmem S2x8x1024 .f32) (hv : mv.IsWhole) (x : Vec F S2x8x1024 .f32) (n : Fin 8) :
    View.readAt (Elt F) mv.view (rectV n).toLoadRect (hv.unread x) = headV x n := funext fun i => hv.readAt_unread x _ i
theorem readN (ms : Memref sig .tc .vmem S2x4x128x256 .f32) (hs : ms.IsWhole) (x : Vec F S2x4x128x256 .f32) (n : Fin 8) :
    View.readAt (Elt F) ms.view (rectN n).toLoadRect (hs.unread x) = headN x n := funext fun i => hs.readAt_unread x _ i

/-- A state stored into the scratch, and a state stored out of it. -/
def fill (x : Vec F S1x1x128x256 .f32) : Vec F S1x128x256 .f32 :=
  shapeCast S1x128x256 (shapeCast S128x256 x shapeCasts_S1x1x128x256_S128x256) shapeCasts_S128x256_S1x128x256
def final (x : Vec F S1x128x256 .f32) : Vec F S1x1x128x256 .f32 := shapeCast S1x1x128x256 (plane x) shapeCasts_S128x256_S1x1x128x256

/-! ## The scratch: a plane for each head -/

/-- The heads in the order of the body's stores, last first. -/
abbrev heads : List (Fin 8) := [7, 6, 5, 4, 3, 2, 1, 0]

/-- The states as they are stored into the scratch. -/
def fills (f : Fin 8 → Vec F S1x128x256 .f32) (l : List (Fin 8)) : List (View.Piece (Elt F) S8x128x256 .f32) :=
  l.map fun n => ⟨rectC n, f n⟩

/-- The states after the heads of a list: each head's new state is a function of what its plane held. -/
def news (mc : View sig .tc .vmem S8x128x256 .f32) (f : Fin 8 → Vec F S1x128x256 .f32) (step : Fin 8 → Vec F S1x128x256 .f32 → Vec F S1x128x256 .f32) :
    List (Fin 8) → List (View.Piece (Elt F) S8x128x256 .f32)
  | [] => fills f heads
  | n :: l => ⟨rectC n, step n (mc.readCov (news mc f step l) (rectC n).toLoadRect)⟩ :: news mc f step l

theorem apart : ∀ n j : Fin 8, n ≠ j → LoadRect.disj (rectC n) (rectC j).toLoadRect = true := by decide

/-- A rectangle of a list of disjoint ones reads as it was stored. -/
theorem read_map {s : Shape} (v : View sig .tc .vmem s .f32) (R : Fin 8 → Rect s) (hR : ∀ n j, n ≠ j → LoadRect.disj (R n) (R j).toLoadRect = true)
    (f : ∀ n, (R n).shape.Idx → Elt F .f32) (j : Fin 8) :
    ∀ l : List (Fin 8), j ∈ l → v.readCov (l.map fun n => (⟨R n, f n⟩ : View.Piece (Elt F) s .f32)) (R j).toLoadRect = f j
  | [], h => absurd h List.not_mem_nil
  | n :: l, h => by
    by_cases e : n = j
    · subst e; exact View.readCov_cons_toLoadRect _ _ _ _
    · exact (View.readCov_skip _ _ _ _ _ (hR n j e)).trans (read_map v R hR f j l ((List.mem_cons.mp h).resolve_left (Ne.symm e)))

theorem mem_heads : ∀ j : Fin 8, j ∈ heads := by decide

/-- A plane not yet computed reads as its state was stored, -/
theorem read_old (mc : View sig .tc .vmem S8x128x256 .f32) (f : Fin 8 → Vec F S1x128x256 .f32) (step : Fin 8 → Vec F S1x128x256 .f32 → Vec F S1x128x256 .f32) (j : Fin 8) :
    ∀ l : List (Fin 8), j ∉ l → mc.readCov (news mc f step l) (rectC j).toLoadRect = f j
  | [], _ => read_map mc rectC apart f j heads (mem_heads j)
  | n :: l, h => (View.readCov_skip _ _ _ _ _ (apart n j fun e => h (e ▸ List.mem_cons_self))).trans
      (read_old mc f step j l fun hj => h (List.mem_cons_of_mem _ hj))

/-- and one computed reads the head's new state, from the state it was stored. -/
theorem read_new (mc : View sig .tc .vmem S8x128x256 .f32) (f : Fin 8 → Vec F S1x128x256 .f32) (step : Fin 8 → Vec F S1x128x256 .f32 → Vec F S1x128x256 .f32) (j : Fin 8) :
    ∀ l : List (Fin 8), l.Nodup → j ∈ l → mc.readCov (news mc f step l) (rectC j).toLoadRect = step j (f j)
  | [], _, h => absurd h List.not_mem_nil
  | n :: l, hl, h => by
    by_cases e : n = j
    · subst e
      exact (View.readCov_cons_toLoadRect _ _ _ _).trans (congrArg _ (read_old mc f step n l (List.nodup_cons.mp hl).1))
    · exact (View.readCov_skip _ _ _ _ _ (apart n j e)).trans
        (read_new mc f step j l (List.nodup_cons.mp hl).2 ((List.mem_cons.mp h).resolve_left (Ne.symm e)))

/-! ## The blocks of the outputs, from the heads -/

/-- The pieces of the outputs' block, one for each head, from the state the scratch holds when that head is computed. -/
def outPieces (out : Fin 8 → Vec F S1x128x256 .f32 → Vec F S1x8x256 .f32) (st : List (Fin 8) → Fin 8 → Vec F S1x128x256 .f32) :
    List (Fin 8) → List (View.Piece (Elt F) S2x8x1024 .f32)
  | [] => []
  | n :: l => ⟨rectV n, out n (st l n)⟩ :: outPieces out st l

/-- The pieces of the new states' block. -/
def statePieces (st : Fin 8 → Vec F S1x128x256 .f32) (l : List (Fin 8)) : List (View.Piece (Elt F) S2x4x128x256 .f32) :=
  l.map fun n => ⟨rectN n, final (st n)⟩

theorem apartV : ∀ n j : Fin 8, n ≠ j → LoadRect.disj (rectV n) (rectV j).toLoadRect = true := by decide
theorem apartN : ∀ n j : Fin 8, n ≠ j → LoadRect.disj (rectN n) (rectN j).toLoadRect = true := by decide

/-- What is written over junk, read at a rectangle's index, is the covered read of the rectangle. -/
theorem read_at {s : Shape} (v : View sig .tc .vmem s .f32) (L : List (View.Piece (Elt F) s .f32)) (r : Rect s) (x : r.shape.Idx) :
    v.read (Elt F) (v.writes (Elt F) v.junk L) (r.emb x) = v.readCov L r.toLoadRect x := by
  rw [View.read_writes_junk_eq_canon, View.readCov_eq_canon']; rfl

theorem outPieces_eq (out : Fin 8 → Vec F S1x128x256 .f32 → Vec F S1x8x256 .f32) (st : List (Fin 8) → Fin 8 → Vec F S1x128x256 .f32)
    (f : Fin 8 → Vec F S1x128x256 .f32) (h : ∀ l n, n ∉ l → st l n = f n) :
    ∀ l : List (Fin 8), l.Nodup → outPieces out st l = l.map fun n => ⟨rectV n, out n (f n)⟩
  | [], _ => rfl
  | n :: l, hl => by
    rw [outPieces, h l n (List.nodup_cons.mp hl).1, outPieces_eq out st f h l (List.nodup_cons.mp hl).2]; rfl

/-- The outputs' block at a head's columns is the head's output from the state as loaded, -/
theorem out_at (mc : View sig .tc .vmem S8x128x256 .f32) (vo : View sig .tc .vmem S2x8x1024 .f32) (f : Fin 8 → Vec F S1x128x256 .f32)
    (step : Fin 8 → Vec F S1x128x256 .f32 → Vec F S1x128x256 .f32) (out : Fin 8 → Vec F S1x128x256 .f32 → Vec F S1x8x256 .f32) (n : Fin 8) (x : S1x8x256.Idx) :
    vo.read (Elt F) (vo.writes (Elt F) vo.junk (outPieces out (fun l n => mc.readCov (news mc f step l) (rectC n).toLoadRect) heads)) ((rectV n).emb x)
      = out n (f n) x := by
  rw [outPieces_eq out _ f (fun l n h => read_old mc f step n l h) heads (by decide), read_at]
  exact congrFun (read_map vo rectV apartV (fun n => out n (f n)) n heads (mem_heads n)) x

/-- and the new states' block at a head's plane is the head's new state. -/
theorem state_at (mc : View sig .tc .vmem S8x128x256 .f32) (vn : View sig .tc .vmem S2x4x128x256 .f32) (f : Fin 8 → Vec F S1x128x256 .f32)
    (step : Fin 8 → Vec F S1x128x256 .f32 → Vec F S1x128x256 .f32) (n : Fin 8) (x : S1x1x128x256.Idx) :
    vn.read (Elt F) (vn.writes (Elt F) vn.junk (statePieces (fun n => mc.readCov (news mc f step heads) (rectC n).toLoadRect) heads)) ((rectN n).emb x)
      = final (step n (f n)) x := by
  rw [read_at]
  refine (congrFun (read_map vn rectN apartN (fun n => final (mc.readCov (news mc f step heads) (rectC n).toLoadRect)) n heads (mem_heads n)) x).trans ?_
  rw [read_new mc f step n heads (by decide) (mem_heads n)]

/-! ## The two runs -/

section runs

variable (m : (ℓ : Loc nD τ sig) → Buf (Elt F) ℓ) (c : Dev nD) (t : Fin cfg0.N)

/-- The blocks of queries, keys, values and states of point `t`. -/
abbrev blkQ : Vec F S2x8x512 .f32 := iblk m c 0 t
abbrev blkK : Vec F S2x8x512 .f32 := iblk m c 1 t
abbrev blkV : Vec F S2x8x1024 .f32 := iblk m c 2 t
abbrev blkG : Vec F S2x8x512 .f32 := iblk m c 3 t
abbrev blkS : Vec F S2x4x128x256 .f32 := iblk m c 4 t

/-- The loads of the body, as it makes them. -/
abbrev ldQ (n : Fin 8) : Vec F S1x8x128 .f32 := View.readAt (Elt F) (stgQ t).view (rectK n).toLoadRect ((wholeQ t).unread (blkQ m c t))
abbrev ldK (n : Fin 8) : Vec F S1x8x128 .f32 := View.readAt (Elt F) (stgK t).view (rectK n).toLoadRect ((wholeK t).unread (blkK m c t))
abbrev ldV (n : Fin 8) : Vec F S1x8x256 .f32 := View.readAt (Elt F) (stgV t).view (rectV n).toLoadRect ((wholeV t).unread (blkV m c t))
abbrev ldG (n : Fin 8) : Vec F S1x8x128 .f32 := View.readAt (Elt F) (stgG t).view (rectK n).toLoadRect ((wholeG t).unread (blkG m c t))
abbrev ldS (n : Fin 8) : Vec F S1x1x128x256 .f32 := View.readAt (Elt F) (stgS t).view (rectN n).toLoadRect ((wholeS t).unread (blkS m c t))

abbrev smallNews := news scr.view (fun n => fill (ldS m c t n)) fun n s => smallState (ldK m c t n) (ldV m c t n) (ldG m c t n) s
abbrev largeNews := news scr.view (fun n => fill (ldS m c t n)) fun n s => largeState (ldK m c t n) (ldV m c t n) (ldG m c t n) s

theorem small_out (h1 : takes1 (word (decays m c t))) (h2 : ¬ takes2 (word (decays m c t))) :
    (small m c t h1 h2).1 = outPieces (fun n s => smallOut (ldQ m c t n) (ldK m c t n) (ldV m c t n) (ldG m c t n) s)
      (fun l n => scr.view.readCov (smallNews m c t l) (rectC n).toLoadRect) heads := rfl
theorem small_state (h1 : takes1 (word (decays m c t))) (h2 : ¬ takes2 (word (decays m c t))) :
    (small m c t h1 h2).2.1 = statePieces (fun n => scr.view.readCov (smallNews m c t heads) (rectC n).toLoadRect) heads := rfl
theorem large_out (h1 : ¬ takes1 (word (decays m c t))) (h2 : takes2 (word (decays m c t))) :
    (large m c t h1 h2).1 = outPieces (fun n s => largeOut (ldQ m c t n) (ldK m c t n) (ldV m c t n) (ldG m c t n) s)
      (fun l n => scr.view.readCov (largeNews m c t l) (rectC n).toLoadRect) heads := rfl
theorem large_state (h1 : ¬ takes1 (word (decays m c t))) (h2 : takes2 (word (decays m c t))) :
    (large m c t h1 h2).2.1 = statePieces (fun n => scr.view.readCov (largeNews m c t heads) (rectC n).toLoadRect) heads := rfl

end runs

end Cert.KernelIdeal.Gla

end
-- ==== Proof.Gla.OutsAt.lean ====
/- The blocks a grid point leaves, head by head, over the extended reals. -/
module

public import proofs.«01_k».proof.Proof.Gla.HeadMath
public import proofs.«01_k».proof.Proof.Gla.Pieces

@[expose] public section

set_option maxRecDepth 16384

noncomputable section

namespace Cert.KernelIdeal.Gla

open Cert.KernelIdeal Cert.KernelIdeal.Gen
open Idealize.ShloMosaic Idealize.ShloMosaic.TcCoe

/-- The bound of the test is a real number. -/
theorem bound_ne_top : Ideal.ofBits .f32 0x42A00000#32 ≠ ⊤ := by
  simp [Ideal.ofBits, Ideal.ieee, -EReal.coe_mul]

/-- The test's number: the largest, over sequences and channels, of the negated sum of the decays' logs. -/
theorem pay_eq (x : FVec Ideal S2x8x512 .f32) :
    k0_pay5 (F := Ideal) x = Finset.univ.fold max (Ideal.ofBits .f32 0xFF800000#32) fun p : Fin 2 × Fin 512 => 0 - ∑ r : Fin 8, x (ix3 p.1 r p.2) := by
  unfold k0_pay5
  pointwise

/-- A block that passes the test holds real log decays: one that is infinite would make its sum so. -/
theorem word_real (x : FVec Ideal S2x8x512 .f32) (hx : ∀ i, x i ≤ (0 : EReal)) (h : word (F := Ideal) x = 1#1) (i : S2x8x512.Idx) : ∃ r : ℝ, x i = r := by
  idx_vars i
  have h1 : (k0_pay5 (F := Ideal) x : EReal) ≤ Ideal.ofBits .f32 0x42A00000#32 := by
    have h2 : BitVec.ofBool (decide ((k0_pay5 (F := Ideal) x : EReal) ≤ Ideal.ofBits .f32 0x42A00000#32)) = 1#1 := h
    by_contra hn
    rw [decide_eq_false hn] at h2
    exact absurd h2 (by decide)
  rw [pay_eq] at h1
  have h3 := ((Finset.fold_max_le _).mp h1).2 (i0, i2) (Finset.mem_univ _)
  refine ⟨EReal.toReal (x (ix3 i0 i1 i2)), (EReal.coe_toReal (ne_of_lt (lt_of_le_of_lt (hx _) EReal.zero_lt_top)) fun hb => ?_).symm⟩
  have h4 : (∑ r : Fin 8, (x (ix3 i0 r i2) : EReal)) = ⊥ := by
    rw [← Finset.add_sum_erase _ _ (Finset.mem_univ i1)]
    exact (congrArg (· + _) hb).trans (EReal.bot_add _)
  have h5 : (0 : EReal) - ∑ r : Fin 8, (x (ix3 i0 r i2) : EReal) = ⊤ := by rw [h4]; rfl
  exact bound_ne_top (top_le_iff.mp (h5 ▸ h3))

theorem final_apply (x : FVec Ideal S1x128x256 .f32) (d : Fin 128) (e : Fin 256) : final (F := Ideal) x (ix4 0 0 d e) = x (ix3 0 d e) := by
  pointwise [final, plane]

theorem fill_apply (x : FVec Ideal S1x1x128x256 .f32) (d : Fin 128) (e : Fin 256) : fill (F := Ideal) x (ix3 0 d e) = x (ix4 0 0 d e) := by
  pointwise [fill]

variable (m : (ℓ : Loc nD τ sig) → Buf (Elt Ideal) ℓ) (c : Dev nD) (t : Fin cfg0.N)

/-- The outputs' block at head `n`'s columns: the head's output from its parts of the input blocks. -/
theorem outs_out (hg : ∀ x, blkG m c t x ≤ (0 : EReal)) (n : Fin 8) (i : Fin 8) (e : Fin 256) :
    (outs m c t).1 ((rectV n).emb (ix3 0 i e)) = headOut (headK (blkQ m c t) n) (headK (blkK m c t) n) (headV (blkV m c t) n) (headK (blkG m c t) n) (fill (headN (blkS m c t) n)) i e := by
  rcases takes_cases (word (decays m c t)) with ⟨hw, h1, h2⟩ | ⟨hw, h1, h2⟩
  · rw [outs_small m c t h1 h2]
    dsimp only
    rw [small_out m c t h1 h2]
    refine (out_at scr.view viewO (fun n => fill (ldS m c t n)) _ _ n _).trans ?_
    rw [show ldQ m c t n = headK (blkQ m c t) n from readK _ _ _ _, show ldK m c t n = headK (blkK m c t) n from readK _ _ _ _, show ldG m c t n = headK (blkG m c t) n from readK _ _ _ _,
      show ldV m c t n = headV (blkV m c t) n from readV _ _ _ _, show ldS m c t n = headN (blkS m c t) n from readN _ _ _ _]
    exact smallOut_apply _ _ _ _ _ (fun x => word_real (decays m c t) hg hw _) i e
  · rw [outs_large m c t h1 h2]
    dsimp only
    rw [large_out m c t h1 h2]
    refine (out_at scr.view viewO (fun n => fill (ldS m c t n)) _ _ n _).trans ?_
    rw [show ldQ m c t n = headK (blkQ m c t) n from readK _ _ _ _, show ldK m c t n = headK (blkK m c t) n from readK _ _ _ _, show ldG m c t n = headK (blkG m c t) n from readK _ _ _ _,
      show ldV m c t n = headV (blkV m c t) n from readV _ _ _ _, show ldS m c t n = headN (blkS m c t) n from readN _ _ _ _]
    exact largeOut_apply _ _ _ _ _ (fun x => hg _) i e

/-- The new states' block at head `n`'s plane: the head's new state. -/
theorem outs_state (hg : ∀ x, blkG m c t x ≤ (0 : EReal)) (n : Fin 8) (d : Fin 128) (e : Fin 256) :
    (outs m c t).2 ((rectN n).emb (ix4 0 0 d e)) = headState (headK (blkK m c t) n) (headV (blkV m c t) n) (headK (blkG m c t) n) (fill (headN (blkS m c t) n)) d e := by
  rcases takes_cases (word (decays m c t)) with ⟨hw, h1, h2⟩ | ⟨hw, h1, h2⟩
  · rw [outs_small m c t h1 h2]
    dsimp only
    rw [small_state m c t h1 h2]
    refine (state_at scr.view viewS (fun n => fill (ldS m c t n)) _ n _).trans ((final_apply _ d e).trans ?_)
    rw [show ldK m c t n = headK (blkK m c t) n from readK _ _ _ _, show ldG m c t n = headK (blkG m c t) n from readK _ _ _ _,
      show ldV m c t n = headV (blkV m c t) n from readV _ _ _ _, show ldS m c t n = headN (blkS m c t) n from readN _ _ _ _]
    exact smallState_apply _ _ _ _ (fun x => word_real (decays m c t) hg hw _) d e
  · rw [outs_large m c t h1 h2]
    dsimp only
    rw [large_state m c t h1 h2]
    refine (state_at scr.view viewS (fun n => fill (ldS m c t n)) _ n _).trans ((final_apply _ d e).trans ?_)
    rw [show ldK m c t n = headK (blkK m c t) n from readK _ _ _ _, show ldG m c t n = headK (blkG m c t) n from readK _ _ _ _,
      show ldV m c t n = headV (blkV m c t) n from readV _ _ _ _, show ldS m c t n = headN (blkS m c t) n from readN _ _ _ _]
    exact largeState_apply _ _ _ _ d e

end Cert.KernelIdeal.Gla
end
-- ==== Proof.Gla.Arrays.lean ====
/- The recurrence's two result arrays over the extended reals. -/
module

public import proofs.«01_k».proof.Proof.Gla.OutsAt
public import Idealize.ShloMosaic.Lib.Pipeline.ValueKit

@[expose] public section

set_option maxRecDepth 16384

noncomputable section

namespace Cert.KernelIdeal.Gla

open Cert.KernelIdeal Cert.KernelIdeal.Gen
open Idealize.ShloMosaic Idealize.ShloMosaic.TcCoe Idealize.SL.Sem

/-- Channel `d` of head `h` among the heads' key channels; column `e` among the value columns; and a column's head and place in it. -/
def chan (h : Fin 4) (d : Fin 128) : Fin 512 := ⟨128 * (h : ℕ) + (d : ℕ), by omega⟩
def col (h : Fin 4) (e : Fin 256) : Fin 1024 := ⟨256 * (h : ℕ) + (e : ℕ), by omega⟩
def colHead (x : Fin 1024) : Fin 4 := ⟨(x : ℕ) / 256, by omega⟩
def colIn (x : Fin 1024) : Fin 256 := ⟨(x : ℕ) % 256, by omega⟩

/-- Sequence `b`'s head `h` of an array of queries, keys or log decays, -/
def cutK (x : FVec Ideal S128x8x512 .f32) (b : Fin 128) (h : Fin 4) : FVec Ideal S1x8x128 .f32 :=
  fun y => x (ix3 b (y 1) (chan h (y 2)))
/-- of an array of values, -/
def cutV (x : FVec Ideal S128x8x1024 .f32) (b : Fin 128) (h : Fin 4) : FVec Ideal S1x8x256 .f32 :=
  fun y => x (ix3 b (y 1) (col h (y 2)))
/-- and of an array of states. -/
def cutN (x : FVec Ideal S128x4x128x256 .f32) (b : Fin 128) (h : Fin 4) : FVec Ideal S1x128x256 .f32 :=
  fun y => x (ix4 b h (y 1) (y 2))

/-- The array of outputs. -/
def outputs (q k : FVec Ideal S128x8x512 .f32) (v : FVec Ideal S128x8x1024 .f32) (g : FVec Ideal S128x8x512 .f32) (s : FVec Ideal S128x4x128x256 .f32) : FVec Ideal S128x8x1024 .f32 :=
  fun y => headOut (cutK q (y 0) (colHead (y 2))) (cutK k (y 0) (colHead (y 2))) (cutV v (y 0) (colHead (y 2))) (cutK g (y 0) (colHead (y 2)))
    (cutN s (y 0) (colHead (y 2))) (y 1) (colIn (y 2))

/-- The array of new states. -/
def states (k : FVec Ideal S128x8x512 .f32) (v : FVec Ideal S128x8x1024 .f32) (g : FVec Ideal S128x8x512 .f32) (s : FVec Ideal S128x4x128x256 .f32) : FVec Ideal S128x4x128x256 .f32 :=
  fun y => headState (cutK k (y 0) (y 1)) (cutV v (y 0) (y 1)) (cutK g (y 0) (y 1)) (cutN s (y 0) (y 1)) (y 2) (y 3)

theorem outputs_apply (q k : FVec Ideal S128x8x512 .f32) (v : FVec Ideal S128x8x1024 .f32) (g : FVec Ideal S128x8x512 .f32) (s : FVec Ideal S128x4x128x256 .f32) (b : Fin 128) (i : Fin 8) (x : Fin 1024) :
    outputs q k v g s (ix3 b i x) = headOut (cutK q b (colHead x)) (cutK k b (colHead x)) (cutV v b (colHead x)) (cutK g b (colHead x)) (cutN s b (colHead x)) i (colIn x) := rfl

theorem states_apply (k : FVec Ideal S128x8x512 .f32) (v : FVec Ideal S128x8x1024 .f32) (g : FVec Ideal S128x8x512 .f32) (s : FVec Ideal S128x4x128x256 .f32) (b : Fin 128) (h : Fin 4) (d : Fin 128) (e : Fin 256) :
    states k v g s (ix4 b h d e) = headState (cutK k b h) (cutV v b h) (cutK g b h) (cutN s b h) d e := rfl

/-- Every window's block of point `t` is the `t`-th along the first axis. -/
theorem places : ∀ t : Fin cfg0.N, win0_0.index t = ![(t : ℕ), 0, 0] ∧ win0_1.index t = ![(t : ℕ), 0, 0] ∧ win0_2.index t = ![(t : ℕ), 0, 0]
    ∧ win0_3.index t = ![(t : ℕ), 0, 0] ∧ win0_4.index t = ![(t : ℕ), 0, 0, 0] ∧ win0_5.index t = ![(t : ℕ), 0, 0] ∧ win0_6.index t = ![(t : ℕ), 0, 0, 0] :=
  (by decide +kernel : ∀ t : Fin grid0.N, win0_0.index t = ![(t : ℕ), 0, 0] ∧ win0_1.index t = ![(t : ℕ), 0, 0] ∧ win0_2.index t = ![(t : ℕ), 0, 0]
    ∧ win0_3.index t = ![(t : ℕ), 0, 0] ∧ win0_4.index t = ![(t : ℕ), 0, 0, 0] ∧ win0_5.index t = ![(t : ℕ), 0, 0] ∧ win0_6.index t = ![(t : ℕ), 0, 0, 0])

variable (m : (ℓ : Loc nD τ sig) → Buf (Elt Ideal) ℓ) (c : Dev nD)

abbrev arrQ : FVec Ideal S128x8x512 .f32 := m ((c.tc : Thread nD τ).loc main_arg0)
abbrev arrK : FVec Ideal S128x8x512 .f32 := m ((c.tc : Thread nD τ).loc main_arg1)
abbrev arrV : FVec Ideal S128x8x1024 .f32 := m ((c.tc : Thread nD τ).loc main_arg2)
abbrev arrG : FVec Ideal S128x8x512 .f32 := m ((c.tc : Thread nD τ).loc main_arg3)
abbrev arrS : FVec Ideal S128x4x128x256 .f32 := m ((c.tc : Thread nD τ).loc main_arg4)

theorem lt64 (t : Fin cfg0.N) : (t : ℕ) < 64 := t.isLt

/-- The sequence that point `t` handles in its place `n / 4`. -/
abbrev seqOf (t : Fin cfg0.N) (n : Fin 8) : Fin 128 := ⟨2 * (t : ℕ) + (n : ℕ) / 4, by have := lt64 t; omega⟩
/-- The head in place `n`. -/
abbrev headOf (n : Fin 8) : Fin 4 := ⟨(n : ℕ) % 4, by omega⟩

/-! A block's head is the array's. -/

theorem headK_blkQ (t : Fin cfg0.N) (n : Fin 8) : headK (blkQ m c t) n = cutK (arrQ m c) (seqOf t n) (headOf n) := by
  funext y
  idx_vars y
  have := lt64 t
  unfold headK cutK
  blk_ext [iblk, V, places t, rectK, offK, chan]

theorem headK_blkK (t : Fin cfg0.N) (n : Fin 8) : headK (blkK m c t) n = cutK (arrK m c) (seqOf t n) (headOf n) := by
  funext y
  idx_vars y
  have := lt64 t
  unfold headK cutK
  blk_ext [iblk, V, places t, rectK, offK, chan]

theorem headV_blkV (t : Fin cfg0.N) (n : Fin 8) : headV (blkV m c t) n = cutV (arrV m c) (seqOf t n) (headOf n) := by
  funext y
  idx_vars y
  have := lt64 t
  unfold headV cutV
  blk_ext [iblk, V, places t, rectV, offV, col]

theorem headK_blkG (t : Fin cfg0.N) (n : Fin 8) : headK (blkG m c t) n = cutK (arrG m c) (seqOf t n) (headOf n) := by
  funext y
  idx_vars y
  have := lt64 t
  unfold headK cutK
  blk_ext [iblk, V, places t, rectK, offK, chan]

theorem fill_blkS (t : Fin cfg0.N) (n : Fin 8) : fill (headN (blkS m c t) n) = cutN (arrS m c) (seqOf t n) (headOf n) := by
  funext y
  idx_vars y
  obtain rfl : y0 = 0 := Subsingleton.elim _ _
  rw [fill_apply]
  have := lt64 t
  unfold headN cutN
  blk_ext [iblk, V, places t, rectN, offN]

variable (hg : ∀ x, arrG m c x ≤ (0 : EReal))

include hg in
theorem blkG_nonpos (t : Fin cfg0.N) (x : S2x8x512.Idx) : blkG m c t x ≤ (0 : EReal) := hg _

include hg in
/-- The first result array holds the outputs, -/
theorem outputs_eq : (dats m 0 c).arrAt 5 cfg0.N = outputs (arrQ m c) (arrK m c) (arrV m c) (arrG m c) (arrS m c) := by
  refine (dats m 0 c).arrAt_eq_of_covers 5 _ (by decide +kernel) fun t hf y => ?_
  have ht := lt64 t
  rw [after5]
  have hX := outs_out m c t (blkG_nonpos m c hg t)
  generalize (outs m c t).1 = X at hX ⊢
  change S2x8x1024.Idx at y
  idx_vars y
  have ey : ix3 y0 y1 y2 = (rectV ⟨4 * (y0 : ℕ) + (y2 : ℕ) / 256, by omega⟩).emb (ix3 0 y1 (colIn y2)) := by
    blk_ext [rectV, offV, colIn]
  have ez : (((cfg0.win 5).blk t).view.emb (ix3 y0 y1 y2) : S128x8x1024.Idx) = ix3 ⟨2 * (t : ℕ) + (y0 : ℕ), by omega⟩ y1 y2 := by
    blk_ext [places t]
  have e1 : seqOf t ⟨4 * (y0 : ℕ) + (y2 : ℕ) / 256, by omega⟩ = ⟨2 * (t : ℕ) + (y0 : ℕ), by omega⟩ :=
    Fin.ext (show 2 * (t : ℕ) + (4 * (y0 : ℕ) + (y2 : ℕ) / 256) / 4 = 2 * (t : ℕ) + (y0 : ℕ) by omega)
  have e2 : headOf ⟨4 * (y0 : ℕ) + (y2 : ℕ) / 256, by omega⟩ = colHead y2 :=
    Fin.ext (show (4 * (y0 : ℕ) + (y2 : ℕ) / 256) % 4 = (y2 : ℕ) / 256 by omega)
  refine Eq.trans ?_ (congrArg (outputs (arrQ m c) (arrK m c) (arrV m c) (arrG m c) (arrS m c)) ez).symm
  refine Eq.trans (b := X (ix3 y0 y1 y2)) rfl ?_
  rw [ey, hX, headK_blkQ, headK_blkK, headV_blkV, headK_blkG, fill_blkS, e1, e2]
  exact (outputs_apply ..).symm

include hg in
/-- and the second the new states. -/
theorem states_eq : (dats m 0 c).arrAt 6 cfg0.N = states (arrK m c) (arrV m c) (arrG m c) (arrS m c) := by
  refine (dats m 0 c).arrAt_eq_of_covers 6 _ (by decide +kernel) fun t hf y => ?_
  have ht := lt64 t
  rw [after6]
  have hX := outs_state m c t (blkG_nonpos m c hg t)
  generalize (outs m c t).2 = X at hX ⊢
  change S2x4x128x256.Idx at y
  idx_vars y
  have ey : ix4 y0 y1 y2 y3 = (rectN ⟨4 * (y0 : ℕ) + (y1 : ℕ), by omega⟩).emb (ix4 0 0 y2 y3) := by
    blk_ext [rectN, offN]
  have ez : (((cfg0.win 6).blk t).view.emb (ix4 y0 y1 y2 y3) : S128x4x128x256.Idx) = ix4 ⟨2 * (t : ℕ) + (y0 : ℕ), by omega⟩ y1 y2 y3 := by
    blk_ext [places t]
  have e1 : seqOf t ⟨4 * (y0 : ℕ) + (y1 : ℕ), by omega⟩ = ⟨2 * (t : ℕ) + (y0 : ℕ), by omega⟩ :=
    Fin.ext (show 2 * (t : ℕ) + (4 * (y0 : ℕ) + (y1 : ℕ)) / 4 = 2 * (t : ℕ) + (y0 : ℕ) by omega)
  have e2 : headOf ⟨4 * (y0 : ℕ) + (y1 : ℕ), by omega⟩ = y1 :=
    Fin.ext (show (4 * (y0 : ℕ) + (y1 : ℕ)) % 4 = (y1 : ℕ) by omega)
  refine Eq.trans ?_ (congrArg (states (arrK m c) (arrV m c) (arrG m c) (arrS m c)) ez).symm
  refine Eq.trans (b := X (ix4 y0 y1 y2 y3)) rfl ?_
  rw [ey, hX, headK_blkK, headV_blkV, headK_blkG, fill_blkS, e1, e2]
  exact (states_apply ..).symm

end Cert.KernelIdeal.Gla
end
-- ==== Proof.Gla.RefTerm.lean ====
/- The reference's results, read at an index over the extended reals. -/
module

public import proofs.«01_k».proof.Proof.Gen.ReferenceIdeal.Run
public import Idealize.ShloMosaic.Lib.Pointwise

@[expose] public section

set_option maxRecDepth 16384

noncomputable section

namespace Cert.ReferenceIdeal.Gla

open Cert.ReferenceIdeal Cert.ReferenceIdeal.Gen Idealize.ShloMosaic

/-- The heads of an array of queries, keys or log decays, as an axis of their own, -/
def headsK (x : FVec Ideal S128x8x512 .f32) : FVec Ideal S128x4x8x128 .f32 :=
  transpose S128x4x8x128 [0, 2, 1, 3] (shapeCast _ x shapeCasts_S128x8x512_S128x8x4x128) transposes_S128x8x4x128_S128x4x8x128_0_2_1_3
/-- and of an array of values. -/
def headsV (x : FVec Ideal S128x8x1024 .f32) : FVec Ideal S128x4x8x256 .f32 :=
  transpose S128x4x8x256 [0, 2, 1, 3] (shapeCast _ x shapeCasts_S128x8x1024_S128x8x4x256) transposes_S128x8x4x256_S128x4x8x256_0_2_1_3
/-- The running sums. -/
def cum (x : FVec Ideal S128x4x8x128 .f32) : FVec Ideal S128x4x8x128 .f32 :=
  Host.reduceWindowAdd ![1, 1, 8, 1] ![1, 1, 1, 1] ![0, 0, 7, 0] ![0, 0, 0, 0] x (broadcastInDim S_ ![] bcast_S_S_ (constant S_ .f32 0x00000000#32)) reduceWindows_S128x4x8x128_S128x4x8x128_w1s1p0_0_w1s1p0_0_w8s1p7_0_w1s1p0_0 h_S_
/-- The last row of the running sums. -/
def lastRow (b : FVec Ideal S128x4x8x128 .f32) : FVec Ideal S128x4x1x128 .f32 :=
  extractStridedSlice S128x4x1x128 ![0, 0, 7, 0] b slices_S128x4x8x128_S128x4x1x128_0_0_7_0
/-- A row for each query, and a row for each key. -/
def perQ (x : FVec Ideal S128x4x8x128 .f32) : FVec Ideal S128x4x8x8x128 .f32 :=
  broadcastInDim S128x4x8x8x128 ![0, 1, 2, 3, 4] bcast_S128x4x8x1x128_S128x4x8x8x128_0_1_2_3_4 (broadcastInDim S128x4x8x1x128 ![0, 1, 2, 4] bcast_S128x4x8x128_S128x4x8x1x128_0_1_2_4 x)
def perK (x : FVec Ideal S128x4x8x128 .f32) : FVec Ideal S128x4x8x8x128 .f32 :=
  broadcastInDim S128x4x8x8x128 ![0, 1, 2, 3, 4] bcast_S128x4x1x8x128_S128x4x8x8x128_0_1_2_3_4 (broadcastInDim S128x4x1x8x128 ![0, 1, 3, 4] bcast_S128x4x8x128_S128x4x1x8x128_0_1_3_4 x)
/-- Where the key is not later than the query. -/
def past : IVec S128x4x8x8x128 1 :=
  broadcastInDim S128x4x8x8x128 ![2, 3, 4] bcast_S8x8x1_S128x4x8x8x128_2_3_4 (broadcastInDim S8x8x1 ![0, 1] bcast_S8x8_S8x8x1_0_1 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))
/-- The scores. -/
def att (q k b : FVec Ideal S128x4x8x128 .f32) : FVec Ideal S128x4x8x8 .f32 :=
  Host.reduceAdd (mulf (mulf (perQ q) (perK k)) (Host.exp (select past (subf (perQ b) (perK b)) (broadcastInDim S128x4x8x8x128 ![] bcast_S_S128x4x8x8x128 (id (constant S_ .f32 0xFF800000#32)))))) (constant S_ .f32 0x00000000#32) reducesTo_S128x4x8x8x128_S128x4x8x8_d4 h_S_
/-- The outputs. -/
def out (q k b : FVec Ideal S128x4x8x128 .f32) (v : FVec Ideal S128x4x8x256 .f32) (s : FVec Ideal S128x4x128x256 .f32) : FVec Ideal S128x8x1024 .f32 :=
  shapeCast _ (transpose S128x8x4x256 [0, 2, 1, 3] (addf (Host.dotGeneral dot_S128x4x8x128_S128x4x128x256_S128x4x8x256_3_2_2_3_01_01 none (mulf q (Host.exp b)) s) (Host.dotGeneral dot_S128x4x8x8_S128x4x8x256_S128x4x8x256_3_2_2_3_01_01 none (att q k b) v)) transposes_S128x4x8x256_S128x8x4x256_0_2_1_3) shapeCasts_S128x8x4x256_S128x8x1024
/-- The new states. -/
def state (k b : FVec Ideal S128x4x8x128 .f32) (v : FVec Ideal S128x4x8x256 .f32) (s : FVec Ideal S128x4x128x256 .f32) : FVec Ideal S128x4x128x256 .f32 :=
  addf (mulf (broadcastInDim S128x4x128x256 ![0, 1, 2, 3] bcast_S128x4x128x1_S128x4x128x256_0_1_2_3 (broadcastInDim S128x4x128x1 ![0, 1, 2] bcast_S128x4x128_S128x4x128x1_0_1_2 (Host.exp (shapeCast _ (lastRow b) shapeCasts_S128x4x1x128_S128x4x128)))) s) (Host.dotGeneral dot_S128x4x8x128_S128x4x8x256_S128x4x128x256_2_2_3_3_01_01 none (mulf k (Host.exp (subf (broadcastInDim S128x4x8x128 ![0, 1, 2, 3] bcast_S128x4x1x128_S128x4x8x128_0_1_2_3 (lastRow b)) b))) v)

/-- A fold that adds is the sum. -/
theorem foldl_add {n : ℕ} (g : Fin n → EReal) (v : EReal) : (List.finRange n).foldl (fun r k => r + g k) v = v + ∑ k, g k := by
  rw [Fin.sum_univ_def]
  generalize List.finRange n = l
  induction l generalizing v with
  | nil => simp
  | cons a l ih => rw [List.foldl_cons, ih, List.map_cons, List.sum_cons, add_assoc]

/-- The window of the running sum. -/
abbrev window : Shape := ⟨4, ![1, 1, 8, 1]⟩

theorem window_numel : window.numel = 8 := by decide

theorem window_at : ∀ n : Fin 8, ∀ a, (window.rowMajor.symm (n.cast window_numel.symm) a).val = ![0, 0, (n : ℕ), 0] a := by decide

/-- The sum of a window that ends at row `i` and reaches seven rows above it. -/
theorem window_sum (f : Fin 8 → EReal) (i : Fin 8) :
    (∑ n : Fin 8, if h : 7 ≤ (i : ℕ) + n then f ⟨(i : ℕ) + n - 7, by omega⟩ else 0) = ∑ j : Fin 8, if (j : ℕ) ≤ i then f j else 0 := by
  simp only [Fin.sum_univ_eight]
  fin_cases i <;> simp

theorem cum_apply (x : FVec Ideal S128x4x8x128 .f32) (b : Fin 128) (h : Fin 4) (i : Fin 8) (d : Fin 128) :
    cum x (ix4 b h i d) = ∑ j : Fin 8, if (j : ℕ) ≤ i then x (ix4 b h j d) else 0 := by
  have hv : (broadcastInDim S_ ![] bcast_S_S_ (constant S_ .f32 0x00000000#32) : FVec Ideal S_ .f32) (Shape.Idx.first h_S_) = 0 := Ideal.ofBits_zero_f32
  unfold cum
  have h0 := Ideal.hostReduceWindowAdd_def (φ := .f32) ![1, 1, 8, 1] ![1, 1, 1, 1] ![0, 0, 7, 0] ![0, 0, 0, 0] reduceWindows_S128x4x8x128_S128x4x8x128_w1s1p0_0_w1s1p0_0_w8s1p7_0_w1s1p0_0 .single x 0
  unfold Host.reduceWindowAdd
  rw [hv]
  refine (congrFun h0 _).trans ?_
  unfold Ideal.hostReduceWindowAdd Host.reduceWindow
  refine (foldl_add _ 0).trans ?_
  rw [zero_add, ← (finCongr window_numel.symm).sum_comp, ← window_sum (fun j => x (ix4 b h j d))]
  refine Finset.sum_congr rfl fun n _ => ?_
  have hp : ∀ a : Fin 4, ((ix4 b h i d : S128x4x8x128.Idx) a).val * (![1, 1, 1, 1] : Fin 4 → ℕ) a + (window.rowMajor.symm (n.cast window_numel.symm) a).val
      = (![(b : ℕ), (h : ℕ), (i : ℕ) + (n : ℕ), (d : ℕ)] : Fin 4 → ℕ) a := by
    intro a
    rw [window_at n a]
    fin_cases a
    · show (b : ℕ) * 1 + 0 = b; omega
    · show (h : ℕ) * 1 + 0 = h; omega
    · show (i : ℕ) * 1 + (n : ℕ) = i + n; omega
    · show (d : ℕ) * 1 + 0 = d; omega
  by_cases hn : 7 ≤ (i : ℕ) + n
  · rw [dif_pos hn]
    refine (dif_pos (c := ∀ a : Fin 4, _) fun a => ?_).trans (congrArg x (funext fun a => Fin.ext ?_))
    · show _ ≤ ((ix4 b h i d : S128x4x8x128.Idx) a).val * (![1, 1, 1, 1] : Fin 4 → ℕ) a + (window.rowMajor.symm (n.cast window_numel.symm) a).val
        ∧ ((ix4 b h i d : S128x4x8x128.Idx) a).val * (![1, 1, 1, 1] : Fin 4 → ℕ) a + (window.rowMajor.symm (n.cast window_numel.symm) a).val - _ < _
      rw [hp a]
      fin_cases a
      · exact ⟨Nat.zero_le _, b.isLt⟩
      · exact ⟨Nat.zero_le _, h.isLt⟩
      · exact ⟨hn, show (i : ℕ) + n - 7 < 8 by omega⟩
      · exact ⟨Nat.zero_le _, d.isLt⟩
    · show ((ix4 b h i d : S128x4x8x128.Idx) a).val * (![1, 1, 1, 1] : Fin 4 → ℕ) a + (window.rowMajor.symm (n.cast window_numel.symm) a).val - _ = _
      rw [hp a]
      fin_cases a <;> rfl
  · rw [dif_neg hn]
    refine dif_neg fun hin => hn ?_
    have h2 : 7 ≤ ((ix4 b h i d : S128x4x8x128.Idx) 2).val * (![1, 1, 1, 1] : Fin 4 → ℕ) 2 + (window.rowMajor.symm (n.cast window_numel.symm) 2).val := (hin 2).1
    rw [hp 2] at h2
    exact h2

theorem headsK_apply (x : FVec Ideal S128x8x512 .f32) (b : Fin 128) (h : Fin 4) (i : Fin 8) (d : Fin 128) :
    headsK x (ix4 b h i d) = x (ix3 b i ⟨h * 128 + d, by omega⟩) := by
  pointwise [headsK]

theorem headsV_apply (x : FVec Ideal S128x8x1024 .f32) (b : Fin 128) (h : Fin 4) (i : Fin 8) (d : Fin 256) :
    headsV x (ix4 b h i d) = x (ix3 b i ⟨h * 256 + d, by omega⟩) := by
  pointwise [headsV]

/-- The mask's word. -/
theorem past_word : ∀ i j : Fin 8, (Scalar.select (IntOp.cmpi CmpIPredicate.sge (IntOp.addi (BitVec.ofNat 32 ↑i) 0#32) (BitVec.ofNat 32 ↑j)) 1#1 0#1 : BitVec 1)
    = if (j : ℕ) ≤ i then 1#1 else 0#1 := by decide

/-- The masked log decay is minus infinity. -/
theorem mask_eq : Ideal.ofBits .f32 0xFF800000#32 = ⊥ := by simp [Ideal.ofBits, Ideal.ieee]

theorem att_apply (q k B : FVec Ideal S128x4x8x128 .f32) (b : Fin 128) (h : Fin 4) (i j : Fin 8) :
    att q k B (ix4 b h i j) = if (j : ℕ) ≤ i then ∑ d : Fin 128, q (ix4 b h i d) * k (ix4 b h j d) * Ideal.exp (B (ix4 b h i d) - B (ix4 b h j d)) else 0 := by
  pointwise [att, past, perQ, perK]
  by_cases hj : (j : ℕ) ≤ i
  · rw [if_pos hj, past_word, if_pos hj]; rfl
  · rw [if_neg hj, past_word, if_neg hj]
    refine Finset.sum_eq_zero fun d _ => ?_
    show _ * Ideal.exp (Ideal.ofBits .f32 0xFF800000#32) = (0 : EReal)
    rw [mask_eq]; exact mul_zero _

theorem out_apply (q k B : FVec Ideal S128x4x8x128 .f32) (v : FVec Ideal S128x4x8x256 .f32) (s : FVec Ideal S128x4x128x256 .f32) (b : Fin 128) (i : Fin 8) (x : Fin 1024) :
    out q k B v s (ix3 b i x) = (∑ d : Fin 128, q (ix4 b ⟨x / 256, by omega⟩ i d) * Ideal.exp (B (ix4 b ⟨x / 256, by omega⟩ i d)) * s (ix4 b ⟨x / 256, by omega⟩ d ⟨x % 256, by omega⟩))
      + ∑ j : Fin 8, att q k B (ix4 b ⟨x / 256, by omega⟩ i j) * v (ix4 b ⟨x / 256, by omega⟩ j ⟨x % 256, by omega⟩) := by
  pointwise [out]

theorem state_apply (k B : FVec Ideal S128x4x8x128 .f32) (v : FVec Ideal S128x4x8x256 .f32) (s : FVec Ideal S128x4x128x256 .f32) (b : Fin 128) (h : Fin 4) (d : Fin 128) (e : Fin 256) :
    state k B v s (ix4 b h d e) = Ideal.exp (B (ix4 b h 7 d)) * s (ix4 b h d e) + ∑ j : Fin 8, k (ix4 b h j d) * Ideal.exp (B (ix4 b h 7 d) - B (ix4 b h j d)) * v (ix4 b h j e) := by
  pointwise [state, lastRow]

end Cert.ReferenceIdeal.Gla
end
-- ==== Proof.Gla.Claims.lean ====
/- The claims about the recurrence: the kernel's two result arrays are the reference's. -/
module

public import proofs.«01_k».proof.Defs
public import proofs.«01_k».proof.Proof.Gen.Kernel
public import proofs.«01_k».proof.Proof.Gen.Pre_log_decays
public import proofs.«01_k».proof.Proof.Gla.Arrays
public import proofs.«01_k».proof.Proof.Gla.RefTerm

@[expose] public section

set_option maxRecDepth 16384

noncomputable section

namespace Cert.Proof.Gla

open Idealize.ShloMosaic Idealize.ShloMosaic.TcCoe Idealize.SL.Sem
open Cert.KernelIdeal.Gla (cutK cutV cutN upto headOut headState score outputs states outputs_apply states_apply colHead colIn chan col)
open Cert.ReferenceIdeal.Gla (headsK headsV cum headsK_apply headsV_apply cum_apply att_apply out_apply state_apply)

/-- A head's queries, keys or log decays in the reference's arrangement are its cut of the array, -/
theorem heads_cutK (x : FVec Ideal Cert.KernelIdeal.S128x8x512 .f32) (b : Fin 128) (h : Fin 4) (i : Fin 8) (d : Fin 128) :
    headsK x (ix4 b h i d) = cutK x b h (ix3 0 i d) := by
  rw [headsK_apply]
  exact congrArg x (congrArg (ix3 b i) (Fin.ext (congrArg (· + (d : ℕ)) (Nat.mul_comm _ _))))

/-- and so are its values. -/
theorem heads_cutV (x : FVec Ideal Cert.KernelIdeal.S128x8x1024 .f32) (b : Fin 128) (h : Fin 4) (i : Fin 8) (e : Fin 256) :
    headsV x (ix4 b h i e) = cutV x b h (ix3 0 i e) := by
  rw [headsV_apply]
  exact congrArg x (congrArg (ix3 b i) (Fin.ext (congrArg (· + (e : ℕ)) (Nat.mul_comm _ _))))

/-- The reference's running sums are the head's. -/
theorem cum_upto (g : FVec Ideal Cert.KernelIdeal.S128x8x512 .f32) (b : Fin 128) (h : Fin 4) (i : Fin 8) (d : Fin 128) :
    cum (headsK g) (ix4 b h i d) = upto (cutK g b h) i d := by
  rw [cum_apply]
  refine Finset.sum_congr rfl fun j _ => ?_
  rw [heads_cutK]

/-- The reference's scores are the head's. -/
theorem att_score (q k g : FVec Ideal Cert.KernelIdeal.S128x8x512 .f32) (b : Fin 128) (h : Fin 4) (i j : Fin 8) :
    Cert.ReferenceIdeal.Gla.att (headsK q) (headsK k) (cum (headsK g)) (ix4 b h i j) = score (cutK q b h) (cutK k b h) (cutK g b h) i j := by
  rw [att_apply]
  unfold score
  by_cases hj : (j : ℕ) ≤ i
  · rw [if_pos hj, if_pos hj]
    refine Finset.sum_congr rfl fun d _ => ?_
    rw [heads_cutK, heads_cutK, cum_upto, cum_upto]
  · rw [if_neg hj, if_neg hj]

/-- The reference's outputs. -/
theorem out_eq (q k : FVec Ideal Cert.KernelIdeal.S128x8x512 .f32) (v : FVec Ideal Cert.KernelIdeal.S128x8x1024 .f32) (g : FVec Ideal Cert.KernelIdeal.S128x8x512 .f32) (s : FVec Ideal Cert.KernelIdeal.S128x4x128x256 .f32) :
    Cert.ReferenceIdeal.Gla.out (headsK q) (headsK k) (cum (headsK g)) (headsV v) s = outputs q k v g s := by
  funext y
  idx_vars y
  refine (out_apply _ _ _ _ _ y0 y1 y2).trans (Eq.trans ?_ (outputs_apply q k v g s y0 y1 y2).symm)
  show _ = headOut _ _ _ _ _ y1 (colIn y2)
  unfold headOut
  refine congrArg₂ _ (Finset.sum_congr rfl fun d _ => ?_) (Finset.sum_congr rfl fun j _ => ?_)
  · rw [heads_cutK, cum_upto]; rfl
  · rw [att_score, heads_cutV]; rfl

/-- The reference's new states. -/
theorem state_eq (k : FVec Ideal Cert.KernelIdeal.S128x8x512 .f32) (v : FVec Ideal Cert.KernelIdeal.S128x8x1024 .f32) (g : FVec Ideal Cert.KernelIdeal.S128x8x512 .f32) (s : FVec Ideal Cert.KernelIdeal.S128x4x128x256 .f32) :
    Cert.ReferenceIdeal.Gla.state (headsK k) (cum (headsK g)) (headsV v) s = states k v g s := by
  funext y
  idx_vars y
  refine (state_apply _ _ _ _ y0 y1 y2 y3).trans (Eq.trans ?_ (states_apply k v g s y0 y1 y2 y3).symm)
  unfold headState
  refine congrArg₂ _ ?_ (Finset.sum_congr rfl fun j _ => ?_)
  · rw [cum_upto]; rfl
  · rw [heads_cutK, cum_upto, cum_upto, heads_cutV]; rfl

/-- The condition gives the log decays' sign. -/
theorem pre_nonpos (m : (ℓ : Loc Cert.KernelIdeal.nD Cert.KernelIdeal.τ Cert.KernelIdeal.sig) → Buf (Elt Ideal) ℓ)
    (h : Cert.Pre_KernelIdeal_log_decays m) (c : Dev Cert.KernelIdeal.nD) (x : Cert.KernelIdeal.S128x8x512.Idx) : Cert.KernelIdeal.Gla.arrG m c x ≤ (0 : EReal) := by
  have h1 := congrFun (h c) x
  have h2 : BitVec.ofBool (decide ((Cert.KernelIdeal.Gla.arrG m c x : EReal) ≤ Ideal.ofBits .f32 0x00000000#32)) = 1#1 := h1
  rw [Ideal.ofBits_zero_f32] at h2
  by_contra hn
  rw [decide_eq_false hn] at h2
  exact absurd h2 (by decide)

section

variable {F : FTy → Type} [FloatOps F]

/-- The program's two printings have one kernel, -/
theorem same_kernel : Cert.Kernel.cc0_gla_recurrence (F := F) = Cert.KernelIdeal.cc0_gla_recurrence := rfl

/-- one table of kernels, -/
theorem same_bodies : Cert.Kernel.defs₀ (F := F) = Cert.KernelIdeal.defs₀ := by
  refine congrArg Defs.onTc ?_
  funext n a
  match n, a with
  | 0, (t, s) =>
    have e := @same_kernel F _
    exact congrFun (congrFun (congrFun (congrFun (congrFun (congrFun (congrFun (congrFun (congrFun (congrFun (congrFun
      (congrFun (congrFun (congrFun (congrFun (congrFun (congrFun e _) _) _) _) _) _) _) _) _) _) _) _) _) _) _) _) _

/-- and one table of bodies. -/
theorem same_defs : Cert.Kernel.defs (F := F) = Cert.KernelIdeal.defs := by
  unfold Cert.Kernel.defs Cert.KernelIdeal.defs
  rw [same_bodies]
  rfl

end

/-- Every execution of the recurrence's kernel ends, its arguments unchanged and its semaphores at zero: the same run at the machine's floats, -/
theorem frame_kernel : Cert.quiescent_Kernel := fun m ρ _ => by
  rw [same_defs]
  exact Cert.KernelIdeal.Gla.frame (F := Bits) m ρ

/-- at the extended reals, -/
theorem frame_ideal : Cert.quiescent_KernelIdeal := fun m ρ _ => Cert.KernelIdeal.Gla.frame (F := Ideal) m ρ
theorem frame_ideal_pre : Cert.quiescent_KernelIdeal_pre_log_decays := fun m ρ _ => Cert.KernelIdeal.Gla.frame (F := Ideal) m ρ

/-- The reference's executions end, its arguments unchanged and its semaphores at zero. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_ref_pre : Cert.quiescent_ReferenceIdeal_pre_log_decays := fun m ρ _ => frame_ref m ρ trivial

/-- From equal arguments whose log decays are not positive, the kernel's outputs and new states are the reference's. -/
theorem algebraic : Cert.algebraic_KernelIdeal_ReferenceIdeal_pre_log_decays := by
  intro m g m' g' hpre hargs
  refine ⟨fun c => outputs (Cert.KernelIdeal.Gla.arrQ m c) (Cert.KernelIdeal.Gla.arrK m c) (Cert.KernelIdeal.Gla.arrV m c) (Cert.KernelIdeal.Gla.arrG m c) (Cert.KernelIdeal.Gla.arrS m c),
    fun c => states (Cert.KernelIdeal.Gla.arrK m c) (Cert.KernelIdeal.Gla.arrV m c) (Cert.KernelIdeal.Gla.arrG m c) (Cert.KernelIdeal.Gla.arrS m c), ?_, ?_⟩
  · refine (θ_run Cert.KernelIdeal.defs _ _).mono (fun r h c => ?_)
      (θ_run_and (Cert.KernelIdeal.Gla.run_main (F := Ideal) m g) (Cert.KernelIdeal.Gla.frame (F := Ideal) m g))
    exact ⟨((h.1 c).1 5).trans (Cert.KernelIdeal.Gla.outputs_eq m c (pre_nonpos m hpre c)),
      ((h.1 c).1 6).trans (Cert.KernelIdeal.Gla.states_eq m c (pre_nonpos m hpre c)), h.2.1 c⟩
  · refine (θ_run Cert.ReferenceIdeal.defs _ _).mono (fun r h c => ?_) (Cert.ReferenceIdeal.Value.run (F := Ideal) m' g')
    obtain ⟨ho, hs, hk⟩ := h c
    obtain ⟨e0, e1, e2, e3, e4⟩ := hargs c
    refine ⟨ho.trans ?_, hs.trans ?_, hk⟩
    · rw [e0, e1, e2, e3, e4]
      exact out_eq (Cert.KernelIdeal.Gla.arrQ m c) (Cert.KernelIdeal.Gla.arrK m c) (Cert.KernelIdeal.Gla.arrV m c) (Cert.KernelIdeal.Gla.arrG m c) (Cert.KernelIdeal.Gla.arrS m c)
    · rw [e1, e2, e3, e4]
      exact state_eq (Cert.KernelIdeal.Gla.arrK m c) (Cert.KernelIdeal.Gla.arrV m c) (Cert.KernelIdeal.Gla.arrG m c) (Cert.KernelIdeal.Gla.arrS m c)

end Cert.Proof.Gla
end
-- ==== Proof.Out.Row.lean ====
/- One token's row through the output calls, over the extended reals: what kernel and reference both compute. -/
module

public import Idealize.ShloMosaic.Lib.Pointwise

@[expose] public section

noncomputable section

namespace Cert.Out

open Idealize.ShloMosaic

/-- The norms' small constant, and the lengths of the rows they average over. -/
abbrev eps : EReal := Ideal.ofBits .f32 0x358637BD#32
abbrev len1024 : EReal := Ideal.ofBits .f32 0x44800000#32
abbrev len256 : EReal := Ideal.ofBits .f32 0x43800000#32

/-- A row divided by the root of its mean square, times a weight. -/
def rms {n : ℕ} (len : EReal) (x w : Fin n → EReal) (j : Fin n) : EReal :=
  x j * Ideal.rsqrt (Ideal.div (∑ i, x i * x i) len + eps) * w j

/-- A row normalised, scaled and shifted. -/
def modulated (y nw sh sc : Fin 1024 → EReal) (j : Fin 1024) : EReal := rms len1024 y nw j * (1 + sc j) + sh j

/-- A hidden unit of the squared-ReLU network, -/
def hidden (y nw sh sc : Fin 1024 → EReal) (w1 : Fin 1024 → Fin 4096 → EReal) (f : Fin 4096) : EReal :=
  max (∑ i, modulated y nw sh sc i * w1 i f) 0

/-- and the network's residual step. -/
def mlp (y nw sh sc g : Fin 1024 → EReal) (w1 : Fin 1024 → Fin 4096 → EReal) (w2 : Fin 4096 → Fin 1024 → EReal) (j : Fin 1024) : EReal :=
  y j + g j * ∑ f, hidden y nw sh sc w1 f * hidden y nw sh sc w1 f * w2 f j

/-- The residual step of the output projection of a mixed row `z`. -/
def project (y g z : Fin 1024 → EReal) (w : Fin 1024 → Fin 1024 → EReal) (j : Fin 1024) : EReal := y j + g j * ∑ x, z x * w x j

/-- Column `x` of a row of 1024 lies in head `x / 256`; the columns of that head. -/
def sameHead (x : Fin 1024) (i : Fin 256) : Fin 1024 := ⟨x / 256 * 256 + i, by omega⟩
/-- Where in its head the column lies. -/
def inHead (x : Fin 1024) : Fin 256 := ⟨x % 256, Nat.mod_lt _ (by decide)⟩

/-- The recurrence's output row, each head normalised and gated. -/
def gated (o r : Fin 1024 → EReal) (gn : Fin 256 → EReal) (x : Fin 1024) : EReal :=
  rms len256 (fun i => o (sameHead x i)) gn (inHead x) * (r x * Ideal.logistic (r x))

/-- The recurrence layer's output row: projection, network and the final norm. -/
def glaRow (y g1 o r : Fin 1024 → EReal) (gn : Fin 256 → EReal) (w : Fin 1024 → Fin 1024 → EReal) (sh sc g2 nw : Fin 1024 → EReal)
    (w1 : Fin 1024 → Fin 4096 → EReal) (w2 : Fin 4096 → Fin 1024 → EReal) (fw : Fin 1024 → EReal) (j : Fin 1024) : EReal :=
  rms len1024 (mlp (project y g1 (gated o r gn) w) nw sh sc g2 w1 w2) fw j

/-- Columns 512 to 1024 hold the branches' heads of 128; a column's place among them, and the branch's weight in the row of gates. -/
def branchCol (x : Fin 1024) (h : ¬(x : ℕ) < 512) : Fin 512 := ⟨(x : ℕ) - 512, by omega⟩
def gateCol (x : Fin 1024) (k : Fin 3) : Fin 128 := ⟨((x : ℕ) - 512) / 128 * 3 + k, by omega⟩

/-- The attention layer's mixed row: the first attention's columns, then the three branches weighted by the gates. -/
def branched (a cmp sel win : Fin 512 → EReal) (gt : Fin 128 → EReal) (x : Fin 1024) : EReal :=
  if h : (x : ℕ) < 512 then a ⟨x, h⟩
  else gt (gateCol x 0) * cmp (branchCol x h) + gt (gateCol x 1) * sel (branchCol x h) + gt (gateCol x 2) * win (branchCol x h)

/-- The attention layer's output row: projection and network. -/
def evenRow (y g1 : Fin 1024 → EReal) (a cmp sel win : Fin 512 → EReal) (gt : Fin 128 → EReal) (w : Fin 1024 → Fin 1024 → EReal) (sh sc g2 nw : Fin 1024 → EReal)
    (w1 : Fin 1024 → Fin 4096 → EReal) (w2 : Fin 4096 → Fin 1024 → EReal) (j : Fin 1024) : EReal :=
  mlp (project y g1 (branched a cmp sel win gt) w) nw sh sc g2 w1 w2 j

/-- Token `i` of sequence `b` among all tokens, and coordinate `j` of the `k`-th modulation vector among a sequence's. -/
def tok (b : Fin 4) (i : Fin 4096) : Fin 16384 := ⟨(b : ℕ) * 4096 + i, by omega⟩
def part (k : Fin 6) (j : Fin 1024) : Fin 6144 := ⟨(k : ℕ) * 1024 + j, by omega⟩

end Cert.Out
end
-- ==== Proof.Out.GlaBlock.lean ====
/- What the recurrence's output call leaves in a block, over the extended reals. -/
module

public import proofs.«01_k».proof.Proof.Gen.GlaOutIdeal.Value
public import proofs.«01_k».proof.Proof.Out.Row
public import Idealize.ShloMosaic.Lib.Pipeline.ValueKit

@[expose] public section

set_option maxRecDepth 16384

noncomputable section

namespace Cert.GlaOutIdeal.Out

open Cert.GlaOutIdeal Cert.GlaOutIdeal.Gen Cert.Out
open Idealize.ShloMosaic Idealize.ShloMosaic.TcCoe Idealize.SL.Sem

/-- The projection's residual step, from the four heads' gated rows. -/
theorem project_apply (a b c : FVec Ideal S256x256 .bf16) (d e : FVec Ideal S256x256 .f32) (w : Vec Ideal S1024x1024 .bf16) (y : Vec Ideal S1x256x1024 .f32)
    (g : Vec Ideal S1x1x1x1024 .f32) (z : Fin 256 → Fin 1024 → EReal) (i : Fin 256) (j : Fin 1024)
    (ha : ∀ x, a (ix2 i x) = z i ⟨x, by omega⟩) (hb : ∀ x, b (ix2 i x) = z i ⟨256 + x, by omega⟩) (hc : ∀ x, c (ix2 i x) = z i ⟨512 + x, by omega⟩)
    (hd : ∀ x, (d (ix2 i x) : EReal) * e (ix2 i x) = z i ⟨768 + x, by omega⟩) :
    k0_pay9 a b c d e w y g (ix3 0 i j) = project (fun j => y (ix3 0 i j)) (fun j => g (ix4 0 0 0 j)) (z i) (fun x j => w (ix2 x j)) j := by
  pointwise [k0_pay9]
  unfold project
  refine congrArg₂ _ rfl (congrArg₂ _ rfl (Finset.sum_congr rfl fun x _ => congrArg₂ _ ?_ rfl))
  split
  · rw [ha]
  split
  · rw [hb]; exact congrArg (z i) (Fin.ext (by show 256 + ((x : ℕ) - 256) = x; omega))
  split
  · rw [hc]; exact congrArg (z i) (Fin.ext (by show 512 + ((x : ℕ) - 256 - 256) = x; omega))
  · rw [hd]; exact congrArg (z i) (Fin.ext (by show 768 + ((x : ℕ) - 256 - 256 - 256) = x; omega))

/-- The root's reciprocal of the projected row's norm. -/
theorem root_apply (a b c : FVec Ideal S256x256 .bf16) (d e : FVec Ideal S256x256 .f32) (w : Vec Ideal S1024x1024 .bf16) (y : Vec Ideal S1x256x1024 .f32)
    (g : Vec Ideal S1x1x1x1024 .f32) (i : Fin 256) (x : Fin 1) :
    k0_pay15 a b c d e w y g (ix3 0 i x) = Ideal.rsqrt (Ideal.div (∑ x, (k0_pay9 a b c d e w y g (ix3 0 i x) : EReal) * k0_pay9 a b c d e w y g (ix3 0 i x)) len1024 + eps) := by
  unfold k0_pay15
  generalize k0_pay9 a b c d e w y g = Y
  pointwise []

/-- The network and the final norm. -/
theorem final_apply (y1 : FVec Ideal S1x256x1024 .f32) (sh sc g : FVec Ideal S1x1x1024 .f32) (nw fw : FVec Ideal S1x1024 .f32) (v : FVec Ideal S1x256x1 .f32)
    (w1 : Vec Ideal S1024x4096 .bf16) (w2 : Vec Ideal S4096x1024 .bf16) (i : Fin 256) (j : Fin 1024)
    (hv : v (ix3 0 i 0) = Ideal.rsqrt (Ideal.div (∑ x, (y1 (ix3 0 i x) : EReal) * y1 (ix3 0 i x)) len1024 + eps)) :
    k0_pay1 y1 sh sc g nw fw v w1 w2 (ix3 0 i j)
      = rms len1024 (mlp (fun j => y1 (ix3 0 i j)) (fun j => nw (ix2 0 j)) (fun j => sh (ix3 0 0 j)) (fun j => sc (ix3 0 0 j)) (fun j => g (ix3 0 0 j))
          (fun x f => w1 (ix2 x f)) (fun f j => w2 (ix2 f j))) (fun j => fw (ix2 0 j)) j := by
  pointwise [k0_pay1]
  rw [hv]
  rfl

variable (x0 : Vec Ideal S1x256x1024 .f32) (x1 : Vec Ideal S1x1x1x1024 .f32) (x2 : Vec Ideal S256x1024 .f32) (x3 : Vec Ideal S256x1024 .f32) (x4 : Vec Ideal S1x256 .f32)
  (x5 : Vec Ideal S1024x1024 .bf16) (x6 : Vec Ideal S1x1x1x1024 .f32) (x7 : Vec Ideal S1x1x1x1024 .f32) (x8 : Vec Ideal S1x1x1x1024 .f32) (x9 : Vec Ideal S1x1024 .f32)
  (x10 : Vec Ideal S1024x4096 .bf16) (x11 : Vec Ideal S4096x1024 .bf16) (x12 : Vec Ideal S1x1024 .f32)

/-- The gated row of the block. -/
def gatedRow (i : Fin 256) : Fin 1024 → EReal := gated (fun j => x2 (ix2 i j)) (fun j => x3 (ix2 i j)) (fun j => x4 (ix2 0 j))

/-- A head of the gated row, by its columns. -/
theorem gated_head (i : Fin 256) (n : Fin 4) (x : Fin 256) (h : 256 * (n : ℕ) + x < 1024) :
    gatedRow x2 x3 x4 i ⟨256 * (n : ℕ) + x, h⟩ = rms len256 (fun a => x2 (ix2 i ⟨256 * (n : ℕ) + a, by omega⟩)) (fun a => x4 (ix2 0 a)) x
      * (x3 (ix2 i ⟨256 * (n : ℕ) + x, h⟩) * Ideal.logistic (x3 (ix2 i ⟨256 * (n : ℕ) + x, h⟩))) := by
  unfold gatedRow gated
  have e : ∀ a, sameHead ⟨256 * (n : ℕ) + x, h⟩ a = ⟨256 * (n : ℕ) + a, by omega⟩ := fun a =>
    Fin.ext (show (256 * (n : ℕ) + (x : ℕ)) / 256 * 256 + (a : ℕ) = 256 * (n : ℕ) + a by omega)
  have f : inHead ⟨256 * (n : ℕ) + x, h⟩ = x := Fin.ext (show (256 * (n : ℕ) + (x : ℕ)) % 256 = x by omega)
  simp only [e, f]

/-- The first head of the block's gated row, -/
theorem head0_apply (i x : Fin 256) : k0_pay16 x0 x1 x2 x3 x4 x5 x6 x7 x8 x9 x10 x11 x12 (ix2 i x) = gatedRow x2 x3 x4 i ⟨x, by omega⟩ := by
  refine Eq.trans ?_ ((gated_head x2 x3 x4 i 0 x (by show 256 * 0 + (x : ℕ) < 1024; omega)).symm.trans (congrArg _ (Fin.ext (by show 256 * 0 + (x : ℕ) = (x : ℕ); omega))))
  pointwise [k0_pay16, k0_pay2, rms]
/-- the second, -/
theorem head1_apply (i x : Fin 256) : k0_pay17 x0 x1 x2 x3 x4 x5 x6 x7 x8 x9 x10 x11 x12 (ix2 i x) = gatedRow x2 x3 x4 i ⟨256 + x, by omega⟩ := by
  refine Eq.trans ?_ ((gated_head x2 x3 x4 i 1 x (by show 256 * 1 + (x : ℕ) < 1024; omega)).symm.trans (congrArg _ (Fin.ext (by show 256 * 1 + (x : ℕ) = 256 + (x : ℕ); omega))))
  pointwise [k0_pay17, k0_pay3, k0_pay4, k0_pay5, rms]
/-- the third, -/
theorem head2_apply (i x : Fin 256) : k0_pay18 x0 x1 x2 x3 x4 x5 x6 x7 x8 x9 x10 x11 x12 (ix2 i x) = gatedRow x2 x3 x4 i ⟨512 + x, by omega⟩ := by
  refine Eq.trans ?_ ((gated_head x2 x3 x4 i 2 x (by show 256 * 2 + (x : ℕ) < 1024; omega)).symm.trans (congrArg _ (Fin.ext (by show 256 * 2 + (x : ℕ) = 512 + (x : ℕ); omega))))
  pointwise [k0_pay18, k0_pay6, rms]
/-- and the fourth, as norm and gate. -/
theorem head3_apply (i x : Fin 256) : (k0_pay19 x0 x1 x2 x3 x4 x5 x6 x7 x8 x9 x10 x11 x12 (ix2 i x) : EReal) * k0_pay20 x0 x1 x2 x3 x4 x5 x6 x7 x8 x9 x10 x11 x12 (ix2 i x) = gatedRow x2 x3 x4 i ⟨768 + x, by omega⟩ := by
  refine Eq.trans ?_ (gated_head x2 x3 x4 i 3 x (by show 256 * 3 + (x : ℕ) < 1024; omega)).symm
  pointwise [k0_pay19, k0_pay20, k0_pay7, k0_pay8, rms]

/-- A row of the block the call leaves. -/
theorem out_apply (i : Fin 256) (j : Fin 1024) :
    out0_13 x0 x1 x2 x3 x4 x5 x6 x7 x8 x9 x10 x11 x12 (ix3 0 i j)
      = glaRow (fun j => x0 (ix3 0 i j)) (fun j => x1 (ix4 0 0 0 j)) (fun j => x2 (ix2 i j)) (fun j => x3 (ix2 i j)) (fun j => x4 (ix2 0 j)) (fun x j => x5 (ix2 x j))
          (fun j => x6 (ix4 0 0 0 j)) (fun j => x7 (ix4 0 0 0 j)) (fun j => x8 (ix4 0 0 0 j)) (fun j => x9 (ix2 0 j)) (fun x f => x10 (ix2 x f)) (fun f j => x11 (ix2 f j))
          (fun j => x12 (ix2 0 j)) j := by
  unfold out0_13
  have e : (ix3 0 i j : S1x256x1024.Idx) = r0_6.emb (ix3 0 i j) := by blk_ext [r0_6]
  rw [e]
  refine (View.canon_cons_emb r0_6 _ [] _).trans ?_
  refine (final_apply _ _ _ _ _ _ _ _ _ i j (root_apply _ _ _ _ _ _ _ _ i 0)).trans ?_
  have h := fun j => project_apply _ _ _ _ _ (View.ld x5 r0_5) (View.ld x0 r0_6) (View.ld x1 r0_7) (gatedRow x2 x3 x4) i j (head0_apply x0 x1 x2 x3 x4 x5 x6 x7 x8 x9 x10 x11 x12 i) (head1_apply x0 x1 x2 x3 x4 x5 x6 x7 x8 x9 x10 x11 x12 i)
    (head2_apply x0 x1 x2 x3 x4 x5 x6 x7 x8 x9 x10 x11 x12 i) (head3_apply x0 x1 x2 x3 x4 x5 x6 x7 x8 x9 x10 x11 x12 i)
  simp only [h]
  unfold glaRow
  pointwise [k0_pay10, k0_pay11, k0_pay12, k0_pay13, k0_pay14]
  rfl

end Cert.GlaOutIdeal.Out
end
-- ==== Proof.Out.GlaArray.lean ====
/- The recurrence's output call over the extended reals: its result array. -/
module

public import proofs.«01_k».proof.Proof.Out.GlaBlock

@[expose] public section

set_option maxRecDepth 16384

noncomputable section

namespace Cert.GlaOutIdeal.Out

open Cert.GlaOutIdeal Cert.GlaOutIdeal.Gen Cert.Out
open Idealize.ShloMosaic Idealize.ShloMosaic.TcCoe Idealize.SL.Sem

/-- Where each window's block of point `t` lies. -/
theorem places : ∀ t : Fin cfg0.N, win0_0.index t = ![(t : ℕ) / 16, (t : ℕ) % 16, 0] ∧ win0_1.index t = ![2, (t : ℕ) / 16, 0, 0] ∧ win0_2.index t = ![(t : ℕ), 0]
    ∧ win0_3.index t = ![(t : ℕ), 0] ∧ win0_4.index t = ![0, 0] ∧ win0_5.index t = ![0, 0] ∧ win0_6.index t = ![3, (t : ℕ) / 16, 0, 0]
    ∧ win0_7.index t = ![4, (t : ℕ) / 16, 0, 0] ∧ win0_8.index t = ![5, (t : ℕ) / 16, 0, 0] ∧ win0_9.index t = ![0, 0] ∧ win0_10.index t = ![0, 0]
    ∧ win0_11.index t = ![0, 0] ∧ win0_12.index t = ![0, 0] ∧ win0_13.index t = ![(t : ℕ) / 16, (t : ℕ) % 16, 0] :=
  (by decide +kernel : ∀ t : Fin grid0.N, win0_0.index t = ![(t : ℕ) / 16, (t : ℕ) % 16, 0] ∧ win0_1.index t = ![2, (t : ℕ) / 16, 0, 0] ∧ win0_2.index t = ![(t : ℕ), 0]
    ∧ win0_3.index t = ![(t : ℕ), 0] ∧ win0_4.index t = ![0, 0] ∧ win0_5.index t = ![0, 0] ∧ win0_6.index t = ![3, (t : ℕ) / 16, 0, 0]
    ∧ win0_7.index t = ![4, (t : ℕ) / 16, 0, 0] ∧ win0_8.index t = ![5, (t : ℕ) / 16, 0, 0] ∧ win0_9.index t = ![0, 0] ∧ win0_10.index t = ![0, 0]
    ∧ win0_11.index t = ![0, 0] ∧ win0_12.index t = ![0, 0] ∧ win0_13.index t = ![(t : ℕ) / 16, (t : ℕ) % 16, 0])

variable (m : (ℓ : Loc nD τ sig) → Buf (Elt Ideal) ℓ) (c : Dev nD)

abbrev arrY : FVec Ideal S4x4096x1024 .f32 := m ((c.tc : Thread nD τ).loc main_arg0)
abbrev arrMod : FVec Ideal S4x6144 .f32 := m ((c.tc : Thread nD τ).loc main_arg1)
abbrev arrO : FVec Ideal S4x4096x1024 .f32 := m ((c.tc : Thread nD τ).loc main_arg2)
abbrev arrR : FVec Ideal S16384x1024 .f32 := m ((c.tc : Thread nD τ).loc main_arg3)
abbrev arrGn : FVec Ideal S256 .f32 := m ((c.tc : Thread nD τ).loc main_arg4)
abbrev arrW : FVec Ideal S1024x1024 .f32 := m ((c.tc : Thread nD τ).loc main_arg5)
abbrev arrNw : FVec Ideal S1024 .f32 := m ((c.tc : Thread nD τ).loc main_arg6)
abbrev arrW1 : FVec Ideal S1024x4096 .f32 := m ((c.tc : Thread nD τ).loc main_arg7)
abbrev arrW2 : FVec Ideal S4096x1024 .f32 := m ((c.tc : Thread nD τ).loc main_arg8)
abbrev arrFw : FVec Ideal S1024 .f32 := m ((c.tc : Thread nD τ).loc main_arg9)

/-! The arrays the call stages, as the host hands them over. -/

theorem V0_apply (j : Fin 1024) : (V m c main_v0 : FVec Ideal S1x1024 .f32) (ix2 0 j) = arrNw m c (ix1 j) := by
  unfold_abbrev_sides
  after_results
  pointwise []
theorem V1_apply (x : Fin 1024) (f : Fin 4096) : (V m c main_v1 : FVec Ideal S1024x4096 .bf16) (ix2 x f) = arrW1 m c (ix2 x f) := by
  unfold_abbrev_sides
  after_results
  pointwise []
theorem V2_apply (f : Fin 4096) (j : Fin 1024) : (V m c main_v2 : FVec Ideal S4096x1024 .bf16) (ix2 f j) = arrW2 m c (ix2 f j) := by
  unfold_abbrev_sides
  after_results
  pointwise []
theorem V3_apply (j : Fin 1024) : (V m c main_v3 : FVec Ideal S1x1024 .f32) (ix2 0 j) = arrFw m c (ix1 j) := by
  unfold_abbrev_sides
  after_results
  pointwise []
theorem V6_apply (k : Fin 6) (b : Fin 4) (j : Fin 1024) : (V m c main_v6 : FVec Ideal S6x4x1x1024 .f32) (ix4 k b 0 j) = arrMod m c (ix2 b (part k j)) := by
  unfold_abbrev_sides
  after_results
  pointwise [part]
theorem V7_apply (b : Fin 4) (i : Fin 4096) (j : Fin 1024) : (V m c main_v7 : FVec Ideal S16384x1024 .f32) (ix2 (tok b i) j) = arrO m c (ix3 b i j) := by
  unfold_abbrev_sides
  after_results
  pointwise [tok]
theorem V8_apply (j : Fin 256) : (V m c main_v8 : FVec Ideal S1x256 .f32) (ix2 0 j) = arrGn m c (ix1 j) := by
  unfold_abbrev_sides
  after_results
  pointwise []
theorem V9_apply (x : Fin 1024) (j : Fin 1024) : (V m c main_v9 : FVec Ideal S1024x1024 .bf16) (ix2 x j) = arrW m c (ix2 x j) := by
  unfold_abbrev_sides
  after_results
  pointwise []

/-- The call's result at token `i` of sequence `b`. -/
def result (y : FVec Ideal S4x4096x1024 .f32) (md : FVec Ideal S4x6144 .f32) (o : FVec Ideal S4x4096x1024 .f32) (r : FVec Ideal S16384x1024 .f32) (gn : FVec Ideal S256 .f32)
    (w : FVec Ideal S1024x1024 .f32) (nw : FVec Ideal S1024 .f32) (w1 : FVec Ideal S1024x4096 .f32) (w2 : FVec Ideal S4096x1024 .f32) (fw : FVec Ideal S1024 .f32)
    (b : Fin 4) (i : Fin 4096) (j : Fin 1024) : EReal :=
  glaRow (fun j => y (ix3 b i j)) (fun j => md (ix2 b (part 2 j))) (fun j => o (ix3 b i j)) (fun j => r (ix2 (tok b i) j)) (fun j => gn (ix1 j))
    (fun x j => w (ix2 x j)) (fun j => md (ix2 b (part 3 j))) (fun j => md (ix2 b (part 4 j))) (fun j => md (ix2 b (part 5 j))) (fun j => nw (ix1 j))
    (fun x f => w1 (ix2 x f)) (fun f j => w2 (ix2 f j)) (fun j => fw (ix1 j)) j

/-- The array of results. -/
def results : FVec Ideal S4x4096x1024 .f32 := fun y =>
  result (arrY m c) (arrMod m c) (arrO m c) (arrR m c) (arrGn m c) (arrW m c) (arrNw m c) (arrW1 m c) (arrW2 m c) (arrFw m c) (y 0) (y 1) (y 2)

theorem results_apply (b : Fin 4) (i : Fin 4096) (j : Fin 1024) : results m c (ix3 b i j)
    = result (arrY m c) (arrMod m c) (arrO m c) (arrR m c) (arrGn m c) (arrW m c) (arrNw m c) (arrW1 m c) (arrW2 m c) (arrFw m c) b i j := rfl

theorem lt64 (t : Fin cfg0.N) : (t : ℕ) < 64 := t.isLt

/-- The sequence of point `t`, and its block's row `i` among the sequence's tokens. -/
def seqOf (t : Fin cfg0.N) : Fin 4 := ⟨(t : ℕ) / 16, by have := lt64 t; omega⟩
def rowOf (t : Fin cfg0.N) (i : Fin 256) : Fin 4096 := ⟨256 * ((t : ℕ) % 16) + i, by omega⟩

/-! A block's row is the array's. -/

theorem blk0 (t : Fin cfg0.N) (i : Fin 256) (j : Fin 1024) : (iblk m c 0 t : Vec Ideal S1x256x1024 .f32) (ix3 0 i j) = arrY m c (ix3 (seqOf t) (rowOf t i) j) := by
  blk_ext [iblk, V_main_arg0, places t, seqOf, rowOf]
theorem blk1 (t : Fin cfg0.N) (j : Fin 1024) : (iblk m c 1 t : Vec Ideal S1x1x1x1024 .f32) (ix4 0 0 0 j) = arrMod m c (ix2 (seqOf t) (part 2 j)) := by
  rw [← V6_apply]
  unfold iblk
  generalize V m c = X
  blk_ext [places t, seqOf]
theorem blk2 (t : Fin cfg0.N) (i : Fin 256) (j : Fin 1024) : (iblk m c 2 t : Vec Ideal S256x1024 .f32) (ix2 i j) = arrO m c (ix3 (seqOf t) (rowOf t i) j) := by
  have := lt64 t
  rw [← V7_apply]
  unfold iblk
  generalize V m c = X
  blk_ext [places t, seqOf, rowOf, tok]
theorem blk3 (t : Fin cfg0.N) (i : Fin 256) (j : Fin 1024) : (iblk m c 3 t : Vec Ideal S256x1024 .f32) (ix2 i j) = arrR m c (ix2 (tok (seqOf t) (rowOf t i)) j) := by
  have := lt64 t
  blk_ext [iblk, V_main_arg3, places t, seqOf, rowOf, tok]
theorem blk4 (t : Fin cfg0.N) (j : Fin 256) : (iblk m c 4 t : Vec Ideal S1x256 .f32) (ix2 0 j) = arrGn m c (ix1 j) := by
  have := lt64 t
  rw [← V8_apply]
  unfold iblk
  generalize V m c = X
  blk_ext [places t, seqOf, rowOf, tok]
theorem blk5 (t : Fin cfg0.N) (x j : Fin 1024) : (iblk m c 5 t : Vec Ideal S1024x1024 .bf16) (ix2 x j) = arrW m c (ix2 x j) := by
  have := lt64 t
  rw [← V9_apply]
  unfold iblk
  generalize V m c = X
  blk_ext [places t, seqOf, rowOf, tok]
theorem blk6 (t : Fin cfg0.N) (j : Fin 1024) : (iblk m c 6 t : Vec Ideal S1x1x1x1024 .f32) (ix4 0 0 0 j) = arrMod m c (ix2 (seqOf t) (part 3 j)) := by
  have := lt64 t
  rw [← V6_apply]
  unfold iblk
  generalize V m c = X
  blk_ext [places t, seqOf, rowOf, tok]
theorem blk7 (t : Fin cfg0.N) (j : Fin 1024) : (iblk m c 7 t : Vec Ideal S1x1x1x1024 .f32) (ix4 0 0 0 j) = arrMod m c (ix2 (seqOf t) (part 4 j)) := by
  have := lt64 t
  rw [← V6_apply]
  unfold iblk
  generalize V m c = X
  blk_ext [places t, seqOf, rowOf, tok]
theorem blk8 (t : Fin cfg0.N) (j : Fin 1024) : (iblk m c 8 t : Vec Ideal S1x1x1x1024 .f32) (ix4 0 0 0 j) = arrMod m c (ix2 (seqOf t) (part 5 j)) := by
  have := lt64 t
  rw [← V6_apply]
  unfold iblk
  generalize V m c = X
  blk_ext [places t, seqOf, rowOf, tok]
theorem blk9 (t : Fin cfg0.N) (j : Fin 1024) : (iblk m c 9 t : Vec Ideal S1x1024 .f32) (ix2 0 j) = arrNw m c (ix1 j) := by
  have := lt64 t
  rw [← V0_apply]
  unfold iblk
  generalize V m c = X
  blk_ext [places t, seqOf, rowOf, tok]
theorem blk10 (t : Fin cfg0.N) (x : Fin 1024) (f : Fin 4096) : (iblk m c 10 t : Vec Ideal S1024x4096 .bf16) (ix2 x f) = arrW1 m c (ix2 x f) := by
  have := lt64 t
  rw [← V1_apply]
  unfold iblk
  generalize V m c = X
  blk_ext [places t, seqOf, rowOf, tok]
theorem blk11 (t : Fin cfg0.N) (f : Fin 4096) (j : Fin 1024) : (iblk m c 11 t : Vec Ideal S4096x1024 .bf16) (ix2 f j) = arrW2 m c (ix2 f j) := by
  have := lt64 t
  rw [← V2_apply]
  unfold iblk
  generalize V m c = X
  blk_ext [places t, seqOf, rowOf, tok]
theorem blk12 (t : Fin cfg0.N) (j : Fin 1024) : (iblk m c 12 t : Vec Ideal S1x1024 .f32) (ix2 0 j) = arrFw m c (ix1 j) := by
  have := lt64 t
  rw [← V3_apply]
  unfold iblk
  generalize V m c = X
  blk_ext [places t, seqOf, rowOf, tok]

/-- The call's result array holds the results. -/
theorem results_eq : (dats m 0 c).arrAt 13 cfg0.N = results m c := by
  refine (dats m 0 c).arrAt_eq_of_covers 13 _ (by decide +kernel) fun t hf y => ?_
  have ht := lt64 t
  rw [after0_13]
  have hX := fun i j => out_apply (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) i j
  simp only [blk0, blk1, blk2, blk3, blk4, blk5, blk6, blk7, blk8, blk9, blk10, blk11, blk12] at hX
  generalize out0_13 (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) = X at hX ⊢
  change S1x256x1024.Idx at y
  idx_vars y
  obtain rfl : y0 = 0 := Subsingleton.elim _ _
  have ez : (((cfg0.win 13).blk t).view.emb (ix3 0 y1 y2) : S4x4096x1024.Idx) = ix3 (seqOf t) (rowOf t y1) y2 := by
    blk_ext [places t, seqOf, rowOf]
  refine Eq.trans ?_ (congrArg (results m c) ez).symm
  refine Eq.trans (b := X (ix3 0 y1 y2)) rfl ?_
  rw [hX, results_apply]
  rfl

end Cert.GlaOutIdeal.Out
end
-- ==== Proof.Out.GlaRef.lean ====
/- The reference of the recurrence's output call, read at an index over the extended reals. -/
module

public import proofs.«01_k».proof.Proof.Gen.GlaOutRefIdeal.Run
public import proofs.«01_k».proof.Proof.Out.Row

@[expose] public section

set_option maxRecDepth 16384

noncomputable section

namespace Cert.GlaOutRefIdeal.Out

open Cert.GlaOutRefIdeal Cert.GlaOutRefIdeal.Gen Cert.Out Idealize.ShloMosaic

/-- The norm over the last axis, of tokens' rows, -/
def norm (x : FVec Ideal S4x4096x1024 .f32) (w : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1
    (Host.reduceAdd (mulf x x) (constant S_ .f32 0x00000000#32) reducesTo_S4x4096x1024_S4x4096_d2 h_S_)) (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 w))
/-- and of heads' rows. -/
def normHead (x : FVec Ideal S4x4096x4x256 .f32) (w : FVec Ideal S256 .f32) : FVec Ideal S4x4096x4x256 .f32 :=
  mulf (mulf x (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2
    (Host.reduceAdd (mulf x x) (constant S_ .f32 0x00000000#32) reducesTo_S4x4096x4x256_S4x4096x4_d3 h_S_)) (broadcastInDim S4x4096x4x1 ![] bcast_S_S4x4096x4x1 (constant S_ .f32 0x43800000#32)))
    (broadcastInDim S4x4096x4x1 ![] bcast_S_S4x4096x4x1 (constant S_ .f32 0x358637BD#32))))))
    (broadcastInDim S4x4096x4x256 ![0, 1, 2, 3] bcast_S1x1x1x256_S4x4096x4x256_0_1_2_3 (broadcastInDim S1x1x1x256 ![3] bcast_S256_S1x1x1x256_3 w))
/-- The gate. -/
def silu (x : FVec Ideal S4x4096x4x256 .f32) : FVec Ideal S4x4096x4x256 .f32 :=
  mulf x (Host.divf (broadcastInDim S4x4096x4x256 ![] bcast_S_S4x4096x4x256 (constant S_ .f32 0x3F800000#32))
    (addf (broadcastInDim S4x4096x4x256 ![] bcast_S_S4x4096x4x256 (constant S_ .f32 0x3F800000#32)) (Host.exp (Host.negf x))))
/-- One of a sequence's modulation vectors, -/
def vec (md : FVec Ideal S4x6144 .f32) (k : ℕ) (h : S4x6x1024.Slices ![0, k, 0] S4x1x1024) : FVec Ideal S4x1x1024 .f32 :=
  broadcastInDim S4x1x1024 ![0, 2] bcast_S4x1024_S4x1x1024_0_2 (shapeCast _ (extractStridedSlice S4x1x1024 ![0, k, 0] (shapeCast _ md shapeCasts_S4x6144_S4x6x1024) h) shapeCasts_S4x1x1024_S4x1024)
/-- repeated for every token. -/
def rows (x : FVec Ideal S4x1x1024 .f32) : FVec Ideal S4x4096x1024 .f32 := broadcastInDim S4x4096x1024 ![0, 1, 2] bcast_S4x1x1024_S4x4096x1024_0_1_2 x
/-- The recurrence's outputs, normalised and gated. -/
def mixed (o : FVec Ideal S4x4096x1024 .f32) (r : FVec Ideal S16384x1024 .f32) (gn : FVec Ideal S256 .f32) : FVec Ideal S4x4096x1024 .f32 :=
  shapeCast _ (mulf (normHead (shapeCast _ o shapeCasts_S4x4096x1024_S4x4096x4x256) gn) (silu (shapeCast _ r shapeCasts_S16384x1024_S4x4096x4x256))) shapeCasts_S4x4096x4x256_S4x4096x1024
/-- The projection's residual step. -/
def projected (y : FVec Ideal S4x4096x1024 .f32) (g : FVec Ideal S4x1x1024 .f32) (z : FVec Ideal S4x4096x1024 .f32) (w : FVec Ideal S1024x1024 .f32) : FVec Ideal S4x4096x1024 .f32 :=
  addf y (mulf (rows g) (Host.dotGeneral dot_S4x4096x1024_S1024x1024_S4x4096x1024_2_0_01_1_n_n none z w))
/-- The network's input, -/
def modulate (y : FVec Ideal S4x4096x1024 .f32) (nw : FVec Ideal S1024 .f32) (sh sc : FVec Ideal S4x1x1024 .f32) : FVec Ideal S4x4096x1024 .f32 :=
  addf (mulf (norm y nw) (rows (addf (broadcastInDim S4x1x1024 ![] bcast_S_S4x1x1024 (constant S_ .f32 0x3F800000#32)) sc))) (rows sh)
/-- its hidden units, -/
def units (x : FVec Ideal S4x4096x1024 .f32) (w1 : FVec Ideal S1024x4096 .f32) : FVec Ideal S4x4096x4096 .f32 :=
  maximumf (Host.dotGeneral dot_S4x4096x1024_S1024x4096_S4x4096x4096_2_0_01_1_n_n none x w1) (broadcastInDim S4x4096x4096 ![] bcast_S_S4x4096x4096 (constant S_ .f32 0x00000000#32))
/-- and its residual step. -/
def network (y : FVec Ideal S4x4096x1024 .f32) (nw : FVec Ideal S1024 .f32) (sh sc g : FVec Ideal S4x1x1024 .f32) (w1 : FVec Ideal S1024x4096 .f32) (w2 : FVec Ideal S4096x1024 .f32) : FVec Ideal S4x4096x1024 .f32 :=
  addf y (mulf (rows g) (Host.dotGeneral dot_S4x4096x4096_S4096x1024_S4x4096x1024_2_0_01_1_n_n none (mulf (units (modulate y nw sh sc) w1) (units (modulate y nw sh sc) w1)) w2))
/-- The reference's result. -/
def result (y : FVec Ideal S4x4096x1024 .f32) (md : FVec Ideal S4x6144 .f32) (o : FVec Ideal S4x4096x1024 .f32) (r : FVec Ideal S16384x1024 .f32) (gn : FVec Ideal S256 .f32)
    (w : FVec Ideal S1024x1024 .f32) (nw : FVec Ideal S1024 .f32) (w1 : FVec Ideal S1024x4096 .f32) (w2 : FVec Ideal S4096x1024 .f32) (fw : FVec Ideal S1024 .f32) : FVec Ideal S4x4096x1024 .f32 :=
  norm (network (projected y (vec md 2 slices_S4x6x1024_S4x1x1024_0_2_0) (mixed o r gn) w) nw (vec md 3 slices_S4x6x1024_S4x1x1024_0_3_0) (vec md 4 slices_S4x6x1024_S4x1x1024_0_4_0)
    (vec md 5 slices_S4x6x1024_S4x1x1024_0_5_0) w1 w2) fw

theorem norm_apply (x : FVec Ideal S4x4096x1024 .f32) (w : FVec Ideal S1024 .f32) (b : Fin 4) (i : Fin 4096) (j : Fin 1024) :
    norm x w (ix3 b i j) = rms len1024 (fun j => x (ix3 b i j)) (fun j => w (ix1 j)) j := by
  pointwise [norm, rms]
theorem normHead_apply (x : FVec Ideal S4x4096x4x256 .f32) (w : FVec Ideal S256 .f32) (b : Fin 4) (i : Fin 4096) (h : Fin 4) (j : Fin 256) :
    normHead x w (ix4 b i h j) = rms len256 (fun j => x (ix4 b i h j)) (fun j => w (ix1 j)) j := by
  pointwise [normHead, rms]
theorem silu_apply (x : FVec Ideal S4x4096x4x256 .f32) (b : Fin 4) (i : Fin 4096) (h : Fin 4) (j : Fin 256) :
    silu x (ix4 b i h j) = x (ix4 b i h j) * Ideal.logistic (x (ix4 b i h j)) := by
  pointwise [silu]
  rfl
theorem vec_apply (md : FVec Ideal S4x6144 .f32) (k : ℕ) (hk : k < 6) (h : S4x6x1024.Slices ![0, k, 0] S4x1x1024) (b : Fin 4) (j : Fin 1024) :
    vec md k h (ix3 b 0 j) = md (ix2 b (part ⟨k, hk⟩ j)) := by
  pointwise [vec, part]
theorem rows_apply (x : FVec Ideal S4x1x1024 .f32) (b : Fin 4) (i : Fin 4096) (j : Fin 1024) : rows x (ix3 b i j) = x (ix3 b 0 j) := by
  pointwise [rows]
theorem mixed_apply (o : FVec Ideal S4x4096x1024 .f32) (r : FVec Ideal S16384x1024 .f32) (gn : FVec Ideal S256 .f32) (b : Fin 4) (i : Fin 4096) (x : Fin 1024) :
    mixed o r gn (ix3 b i x) = gated (fun j => o (ix3 b i j)) (fun j => r (ix2 (tok b i) j)) (fun j => gn (ix1 j)) x := by
  unfold mixed
  generalize hn : normHead (shapeCast _ o shapeCasts_S4x4096x1024_S4x4096x4x256) gn = N
  generalize hs : silu (shapeCast _ r shapeCasts_S16384x1024_S4x4096x4x256) = S
  pointwise []
  subst hn hs
  rw [normHead_apply, silu_apply]
  have e : ∀ j, (shapeCast S4x4096x4x256 o shapeCasts_S4x4096x1024_S4x4096x4x256 : FVec Ideal _ _) (ix4 b i ⟨(x : ℕ) / 256, by omega⟩ j) = o (ix3 b i (sameHead x j)) := fun j => by
    pointwise [sameHead]
  have f : (shapeCast S4x4096x4x256 r shapeCasts_S16384x1024_S4x4096x4x256 : FVec Ideal _ _) (ix4 b i ⟨(x : ℕ) / 256, by omega⟩ ⟨(x : ℕ) % 256, by omega⟩)
      = r (ix2 (tok b i) x) := by
    pointwise [tok]
  simp only [e, f]
  rfl
theorem projected_apply (y : FVec Ideal S4x4096x1024 .f32) (g : FVec Ideal S4x1x1024 .f32) (z : FVec Ideal S4x4096x1024 .f32) (w : FVec Ideal S1024x1024 .f32) (b : Fin 4) (i : Fin 4096) (j : Fin 1024) :
    projected y g z w (ix3 b i j) = project (fun j => y (ix3 b i j)) (fun j => g (ix3 b 0 j)) (fun j => z (ix3 b i j)) (fun x j => w (ix2 x j)) j := by
  pointwise [projected, rows, project]
theorem modulate_apply (y : FVec Ideal S4x4096x1024 .f32) (nw : FVec Ideal S1024 .f32) (sh sc : FVec Ideal S4x1x1024 .f32) (b : Fin 4) (i : Fin 4096) (j : Fin 1024) :
    modulate y nw sh sc (ix3 b i j) = modulated (fun j => y (ix3 b i j)) (fun j => nw (ix1 j)) (fun j => sh (ix3 b 0 j)) (fun j => sc (ix3 b 0 j)) j := by
  unfold modulated
  rw [← norm_apply]
  pointwise [modulate, rows]
theorem units_apply (x : FVec Ideal S4x4096x1024 .f32) (w1 : FVec Ideal S1024x4096 .f32) (b : Fin 4) (i f : Fin 4096) :
    units x w1 (ix3 b i f) = max (∑ a, (x (ix3 b i a) : EReal) * w1 (ix2 a f)) 0 := by
  pointwise [units]
theorem network_apply (y : FVec Ideal S4x4096x1024 .f32) (nw : FVec Ideal S1024 .f32) (sh sc g : FVec Ideal S4x1x1024 .f32) (w1 : FVec Ideal S1024x4096 .f32) (w2 : FVec Ideal S4096x1024 .f32)
    (b : Fin 4) (i : Fin 4096) (j : Fin 1024) :
    network y nw sh sc g w1 w2 (ix3 b i j) = mlp (fun j => y (ix3 b i j)) (fun j => nw (ix1 j)) (fun j => sh (ix3 b 0 j)) (fun j => sc (ix3 b 0 j)) (fun j => g (ix3 b 0 j))
      (fun x f => w1 (ix2 x f)) (fun f j => w2 (ix2 f j)) j := by
  unfold network mlp
  generalize hx : modulate y nw sh sc = X
  pointwise [rows]
  subst hx
  simp only [units_apply, modulate_apply]
  rfl

/-- The reference's result at token `i` of sequence `b`. -/
theorem result_apply (y : FVec Ideal S4x4096x1024 .f32) (md : FVec Ideal S4x6144 .f32) (o : FVec Ideal S4x4096x1024 .f32) (r : FVec Ideal S16384x1024 .f32) (gn : FVec Ideal S256 .f32)
    (w : FVec Ideal S1024x1024 .f32) (nw : FVec Ideal S1024 .f32) (w1 : FVec Ideal S1024x4096 .f32) (w2 : FVec Ideal S4096x1024 .f32) (fw : FVec Ideal S1024 .f32) (b : Fin 4) (i : Fin 4096) (j : Fin 1024) :
    result y md o r gn w nw w1 w2 fw (ix3 b i j) = glaRow (fun j => y (ix3 b i j)) (fun j => md (ix2 b (part 2 j))) (fun j => o (ix3 b i j)) (fun j => r (ix2 (tok b i) j)) (fun j => gn (ix1 j))
      (fun x j => w (ix2 x j)) (fun j => md (ix2 b (part 3 j))) (fun j => md (ix2 b (part 4 j))) (fun j => md (ix2 b (part 5 j))) (fun j => nw (ix1 j))
      (fun x f => w1 (ix2 x f)) (fun f j => w2 (ix2 f j)) (fun j => fw (ix1 j)) j := by
  unfold result glaRow
  rw [norm_apply]
  simp only [network_apply, projected_apply, mixed_apply, vec_apply _ 2 (by decide), vec_apply _ 3 (by decide), vec_apply _ 4 (by decide), vec_apply _ 5 (by decide)]
  rfl

/-- The composed term the reference's run leaves is that result. -/
theorem result_eq (m : (ℓ : Loc nD τ sig) → Buf (Elt Ideal) ℓ) (c : Dev nD) : Cert.GlaOutRefIdeal.Value.res_main_v79 m c
    = result (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

end Cert.GlaOutRefIdeal.Out
end
-- ==== Proof.Out.GlaClaims.lean ====
/- The recurrence's output call: kernel and reference agree. -/
module

public import proofs.«01_k».proof.Defs
public import proofs.«01_k».proof.Proof.Gen.GlaOut.Frame
public import proofs.«01_k».proof.Proof.Out.GlaArray
public import proofs.«01_k».proof.Proof.Out.GlaRef

@[expose] public section

set_option maxRecDepth 16384

noncomputable section

namespace Cert.Proof.GlaOut

open Idealize.ShloMosaic Idealize.ShloMosaic.TcCoe Idealize.SL.Sem
open Cert.GlaOutIdeal.Out

/-- The kernel's array of results is the reference's. -/
theorem results_ref (m : (ℓ : Loc Cert.GlaOutIdeal.nD Cert.GlaOutIdeal.τ Cert.GlaOutIdeal.sig) → Buf (Elt Ideal) ℓ) (c : Dev Cert.GlaOutIdeal.nD) :
    Cert.GlaOutRefIdeal.Out.result (arrY m c) (arrMod m c) (arrO m c) (arrR m c) (arrGn m c) (arrW m c) (arrNw m c) (arrW1 m c) (arrW2 m c) (arrFw m c) = results m c := by
  funext y
  idx_vars y
  exact (Cert.GlaOutRefIdeal.Out.result_apply ..).trans (results_apply m c y0 y1 y2).symm

/-- Every execution of the call ends, its arguments unchanged and its semaphores at zero: at the machine's floats, -/
theorem frame_kernel : Cert.quiescent_GlaOut := fun m ρ _ => Cert.GlaOut.Gen.frame m ρ
/-- at the extended reals, -/
theorem frame_ideal : Cert.quiescent_GlaOutIdeal := fun m ρ _ => Cert.GlaOutIdeal.Gen.frame m ρ
/-- and the reference's. -/
theorem frame_ref : Cert.quiescent_GlaOutRefIdeal := fun m ρ _ =>
  (θ_run Cert.GlaOutRefIdeal.defs _ _).mono (fun r h => ⟨fun c => (h c).2, sem_eq_zero_of_no_sems (by decide) r.2⟩)
    (Cert.GlaOutRefIdeal.Value.run (F := Ideal) m ρ)

/-- From equal arguments, the kernel's tokens are the reference's. -/
theorem algebraic : Cert.algebraic_GlaOutIdeal_GlaOutRefIdeal := by
  intro m g m' g' hpre hargs
  refine ⟨fun c => results m c, ?_, ?_⟩
  · refine (θ_run Cert.GlaOutIdeal.defs _ _).mono (fun r h c => ?_) (Cert.GlaOutIdeal.Value.run_blocks (F := Ideal) m g)
    exact ⟨(h c).1.trans (results_eq m c), (h c).2⟩
  · refine (θ_run Cert.GlaOutRefIdeal.defs _ _).mono (fun r h c => ?_) (Cert.GlaOutRefIdeal.Value.run (F := Ideal) m' g')
    obtain ⟨ho, hk⟩ := h c
    obtain ⟨e0, e1, e2, e3, e4, e5, e6, e7, e8, e9⟩ := hargs c
    refine ⟨ho.trans ?_, hk⟩
    rw [Cert.GlaOutRefIdeal.Out.result_eq, e0, e1, e2, e3, e4, e5, e6, e7, e8, e9]
    exact results_ref m c

end Cert.Proof.GlaOut
end
-- ==== Proof.Out.EvenBlock.lean ====
/- What the attention layer's output call leaves in a block, over the extended reals. -/
module

public import proofs.«01_k».proof.Proof.Gen.EvenOutIdeal.Value
public import proofs.«01_k».proof.Proof.Out.Row
public import Idealize.ShloMosaic.Lib.Pipeline.ValueKit

@[expose] public section

set_option maxRecDepth 16384

noncomputable section

namespace Cert.EvenOutIdeal.Out

open Cert.EvenOutIdeal Cert.EvenOutIdeal.Gen Cert.Out
open Idealize.ShloMosaic Idealize.ShloMosaic.TcCoe Idealize.SL.Sem

/-- The projection's residual step, -/
theorem project_apply (p : FVec Ideal S256x1024 .f32) (y : Vec Ideal S1x256x1024 .f32) (g : Vec Ideal S1x1x1x1024 .f32) (i : Fin 256) (j : Fin 1024) :
    k0_pay7 p y g (ix3 0 i j) = (y (ix3 0 i j) : EReal) + g (ix4 0 0 0 j) * p (ix2 i j) := by
  pointwise [k0_pay7]

/-- the network's hidden units, -/
theorem hidden_apply (p : FVec Ideal S256x1024 .f32) (y : Vec Ideal S1x256x1024 .f32) (g sh sc : Vec Ideal S1x1x1x1024 .f32) (nw : Vec Ideal S1x1024 .f32)
    (w1 : Vec Ideal S1024x4096 .bf16) (i : Fin 256) (f : Fin 4096) :
    k0_pay9 p y g sh sc nw w1 (ix2 i f) = ∑ x, modulated (fun j => k0_pay7 p y g (ix3 0 i j)) (fun j => nw (ix2 0 j)) (fun j => sh (ix4 0 0 0 j)) (fun j => sc (ix4 0 0 0 j)) x * w1 (ix2 x f) := by
  unfold k0_pay9 modulated rms
  generalize k0_pay7 p y g = Y
  pointwise []

/-- and its residual step. -/
theorem final_apply (y1 : FVec Ideal S1x256x1024 .f32) (g : FVec Ideal S1x1x1024 .f32) (u : FVec Ideal S256x4096 .f32) (w2 : Vec Ideal S4096x1024 .bf16) (i : Fin 256) (j : Fin 1024) :
    k0_pay1 y1 g u w2 (ix3 0 i j) = (y1 (ix3 0 i j) : EReal) + g (ix3 0 0 j) * ∑ f, max (u (ix2 i f) : EReal) 0 * max (u (ix2 i f) : EReal) 0 * w2 (ix2 f j) := by
  pointwise [k0_pay1]

variable (x0 : Vec Ideal S1x256x1024 .f32) (x1 : Vec Ideal S1x1x1x1024 .f32) (x2 x3 x4 x5 : Vec Ideal S256x512 .f32) (x6 : Vec Ideal S256x128 .f32)
  (x7 : Vec Ideal S1024x1024 .bf16) (x8 x9 x10 : Vec Ideal S1x1x1x1024 .f32) (x11 : Vec Ideal S1x1024 .f32) (x12 : Vec Ideal S1024x4096 .bf16) (x13 : Vec Ideal S4096x1024 .bf16) (x14 : Vec Ideal S1x1024 .f32)

/-- The mixed row in head `n`, by the column's place among the branches' columns and the gates' places. -/
theorem branched_head (a cmp sel win : Fin 512 → EReal) (gt : Fin 128 → EReal) (x : Fin 1024) (n : ℕ) (o : Fin 512) (g0 g1 g2 : Fin 128) (h : ¬(x : ℕ) < 512)
    (hn : ((x : ℕ) - 512) / 128 = n) (ho : (o : ℕ) = x - 512) (h0 : (g0 : ℕ) = 3 * n) (h1 : (g1 : ℕ) = 3 * n + 1) (h2 : (g2 : ℕ) = 3 * n + 2) :
    branched a cmp sel win gt x = gt g0 * cmp o + gt g1 * sel o + gt g2 * win o := by
  unfold branched
  rw [dif_neg h]
  have e : branchCol x h = o := Fin.ext ho.symm
  have e0 : gateCol x 0 = g0 := Fin.ext (show ((x : ℕ) - 512) / 128 * 3 + 0 = g0 by omega)
  have e1 : gateCol x 1 = g1 := Fin.ext (show ((x : ℕ) - 512) / 128 * 3 + 1 = g1 by omega)
  have e2 : gateCol x 2 = g2 := Fin.ext (show ((x : ℕ) - 512) / 128 * 3 + 2 = g2 by omega)
  rw [e, e0, e1, e2]

/-- The projection of the block's mixed rows. -/
theorem mixed_apply (i : Fin 256) (j : Fin 1024) : k0_pay10 x0 x1 x2 x3 x4 x5 x6 x7 x8 x9 x10 x11 x12 x13 x14 (ix2 i j)
    = ∑ x, branched (fun j => x2 (ix2 i j)) (fun j => x3 (ix2 i j)) (fun j => x4 (ix2 i j)) (fun j => x5 (ix2 i j)) (fun j => x6 (ix2 i j)) x * x7 (ix2 x j) := by
  pointwise [k0_pay10, k0_pay6, k0_pay5, k0_pay4, k0_pay3, k0_pay2]
  refine Finset.sum_congr rfl fun x _ => congrArg₂ _ ?_ rfl
  have hx := x.isLt
  split
  case isTrue h0 => unfold branched; rw [dif_pos h0]
  case isFalse h0 =>
  split
  case isTrue h1 => exact (branched_head (fun j => x2 (ix2 i j)) (fun j => x3 (ix2 i j)) (fun j => x4 (ix2 i j)) (fun j => x5 (ix2 i j)) (fun j => x6 (ix2 i j)) x 0 ⟨(x : ℕ) - 512, by omega⟩ 0 1 2 h0 (by omega) rfl rfl rfl rfl).symm
  case isFalse h1 =>
  split
  case isTrue h2 => exact (branched_head (fun j => x2 (ix2 i j)) (fun j => x3 (ix2 i j)) (fun j => x4 (ix2 i j)) (fun j => x5 (ix2 i j)) (fun j => x6 (ix2 i j)) x 1 ⟨128 + ((x : ℕ) - 512 - 128), by omega⟩ 3 4 5 h0 (by omega) (by show 128 + ((x : ℕ) - 512 - 128) = x - 512; omega) rfl rfl rfl).symm
  case isFalse h2 =>
  split
  case isTrue h3 => exact (branched_head (fun j => x2 (ix2 i j)) (fun j => x3 (ix2 i j)) (fun j => x4 (ix2 i j)) (fun j => x5 (ix2 i j)) (fun j => x6 (ix2 i j)) x 2 ⟨256 + ((x : ℕ) - 512 - 128 - 128), by omega⟩ 6 7 8 h0 (by omega) (by show 256 + ((x : ℕ) - 512 - 128 - 128) = x - 512; omega) rfl rfl rfl).symm
  case isFalse h3 =>
  exact (branched_head (fun j => x2 (ix2 i j)) (fun j => x3 (ix2 i j)) (fun j => x4 (ix2 i j)) (fun j => x5 (ix2 i j)) (fun j => x6 (ix2 i j)) x 3 ⟨384 + ((x : ℕ) - 512 - 128 - 128 - 128), by omega⟩ 9 10 11 h0 (by omega) (by show 384 + ((x : ℕ) - 512 - 128 - 128 - 128) = x - 512; omega) rfl rfl rfl).symm

/-- A row of the block the call leaves. -/
theorem out_apply (i : Fin 256) (j : Fin 1024) :
    out0_15 x0 x1 x2 x3 x4 x5 x6 x7 x8 x9 x10 x11 x12 x13 x14 (ix3 0 i j)
      = evenRow (fun j => x0 (ix3 0 i j)) (fun j => x1 (ix4 0 0 0 j)) (fun j => x2 (ix2 i j)) (fun j => x3 (ix2 i j)) (fun j => x4 (ix2 i j)) (fun j => x5 (ix2 i j)) (fun j => x6 (ix2 i j))
          (fun x j => x7 (ix2 x j)) (fun j => x8 (ix4 0 0 0 j)) (fun j => x9 (ix4 0 0 0 j)) (fun j => x10 (ix4 0 0 0 j)) (fun j => x11 (ix2 0 j)) (fun x f => x12 (ix2 x f)) (fun f j => x13 (ix2 f j)) j := by
  unfold out0_15
  have e : (ix3 0 i j : S1x256x1024.Idx) = r0_7.emb (ix3 0 i j) := by blk_ext [r0_7]
  rw [e]
  refine (View.canon_cons_emb r0_7 _ [] _).trans ?_
  refine (final_apply _ _ _ _ i j).trans ?_
  simp only [hidden_apply, project_apply, mixed_apply]
  unfold evenRow mlp
  pointwise [k0_pay8]
  rfl

end Cert.EvenOutIdeal.Out
end
-- ==== Proof.Out.EvenArray.lean ====
/- The attention layer's output call over the extended reals: its result array. -/
module

public import proofs.«01_k».proof.Proof.Out.EvenBlock

@[expose] public section

set_option maxRecDepth 16384

noncomputable section

namespace Cert.EvenOutIdeal.Out

open Cert.EvenOutIdeal Cert.EvenOutIdeal.Gen Cert.Out
open Idealize.ShloMosaic Idealize.ShloMosaic.TcCoe Idealize.SL.Sem

/-- Where each window's block of point `t` lies. -/
theorem places : ∀ t : Fin cfg0.N, win0_0.index t = ![(t : ℕ) / 16, (t : ℕ) % 16, 0] ∧ win0_1.index t = ![2, (t : ℕ) / 16, 0, 0] ∧ win0_2.index t = ![(t : ℕ), 0] ∧ win0_3.index t = ![(t : ℕ), 0]
    ∧ win0_4.index t = ![(t : ℕ), 0] ∧ win0_5.index t = ![(t : ℕ), 0] ∧ win0_6.index t = ![(t : ℕ), 0] ∧ win0_7.index t = ![0, 0] ∧ win0_8.index t = ![3, (t : ℕ) / 16, 0, 0]
    ∧ win0_9.index t = ![4, (t : ℕ) / 16, 0, 0] ∧ win0_10.index t = ![5, (t : ℕ) / 16, 0, 0] ∧ win0_11.index t = ![0, 0] ∧ win0_12.index t = ![0, 0] ∧ win0_13.index t = ![0, 0] ∧ win0_14.index t = ![0, 0] ∧ win0_15.index t = ![(t : ℕ) / 16, (t : ℕ) % 16, 0] :=
  (by decide +kernel : ∀ t : Fin grid0.N, win0_0.index t = ![(t : ℕ) / 16, (t : ℕ) % 16, 0] ∧ win0_1.index t = ![2, (t : ℕ) / 16, 0, 0] ∧ win0_2.index t = ![(t : ℕ), 0] ∧ win0_3.index t = ![(t : ℕ), 0]
    ∧ win0_4.index t = ![(t : ℕ), 0] ∧ win0_5.index t = ![(t : ℕ), 0] ∧ win0_6.index t = ![(t : ℕ), 0] ∧ win0_7.index t = ![0, 0] ∧ win0_8.index t = ![3, (t : ℕ) / 16, 0, 0]
    ∧ win0_9.index t = ![4, (t : ℕ) / 16, 0, 0] ∧ win0_10.index t = ![5, (t : ℕ) / 16, 0, 0] ∧ win0_11.index t = ![0, 0] ∧ win0_12.index t = ![0, 0] ∧ win0_13.index t = ![0, 0] ∧ win0_14.index t = ![0, 0] ∧ win0_15.index t = ![(t : ℕ) / 16, (t : ℕ) % 16, 0])

variable (m : (ℓ : Loc nD τ sig) → Buf (Elt Ideal) ℓ) (c : Dev nD)

abbrev arrY : FVec Ideal S4x4096x1024 .f32 := m ((c.tc : Thread nD τ).loc main_arg0)
abbrev arrMod : FVec Ideal S4x6144 .f32 := m ((c.tc : Thread nD τ).loc main_arg1)
abbrev arrA : FVec Ideal S4x4096x512 .f32 := m ((c.tc : Thread nD τ).loc main_arg2)
abbrev arrCmp : FVec Ideal S4x4096x512 .f32 := m ((c.tc : Thread nD τ).loc main_arg3)
abbrev arrSel : FVec Ideal S4x4096x512 .f32 := m ((c.tc : Thread nD τ).loc main_arg4)
abbrev arrWin : FVec Ideal S4x4096x512 .f32 := m ((c.tc : Thread nD τ).loc main_arg5)
abbrev arrGt : FVec Ideal S16384x128 .f32 := m ((c.tc : Thread nD τ).loc main_arg6)
abbrev arrW : FVec Ideal S1024x1024 .f32 := m ((c.tc : Thread nD τ).loc main_arg7)
abbrev arrNw : FVec Ideal S1024 .f32 := m ((c.tc : Thread nD τ).loc main_arg8)
abbrev arrW1 : FVec Ideal S1024x4096 .f32 := m ((c.tc : Thread nD τ).loc main_arg9)
abbrev arrW2 : FVec Ideal S4096x1024 .f32 := m ((c.tc : Thread nD τ).loc main_arg10)

/-! The arrays the call stages, as the host hands them over. -/

theorem V0_apply (j : Fin 1024) : (V m c main_v0 : FVec Ideal S1x1024 .f32) (ix2 0 j) = arrNw m c (ix1 j) := by
  unfold_abbrev_sides
  after_results
  pointwise []
theorem V1_apply (x : Fin 1024) (f : Fin 4096) : (V m c main_v1 : FVec Ideal S1024x4096 .bf16) (ix2 x f) = arrW1 m c (ix2 x f) := by
  unfold_abbrev_sides
  after_results
  pointwise []
theorem V2_apply (f : Fin 4096) (j : Fin 1024) : (V m c main_v2 : FVec Ideal S4096x1024 .bf16) (ix2 f j) = arrW2 m c (ix2 f j) := by
  unfold_abbrev_sides
  after_results
  pointwise []
theorem V6_apply (k : Fin 6) (b : Fin 4) (j : Fin 1024) : (V m c main_v6 : FVec Ideal S6x4x1x1024 .f32) (ix4 k b 0 j) = arrMod m c (ix2 b (part k j)) := by
  unfold_abbrev_sides
  after_results
  pointwise [part]
theorem V7_apply (b : Fin 4) (i : Fin 4096) (j : Fin 512) : (V m c main_v7 : FVec Ideal S16384x512 .f32) (ix2 (tok b i) j) = arrA m c (ix3 b i j) := by
  unfold_abbrev_sides
  after_results
  pointwise [tok]
theorem V8_apply (b : Fin 4) (i : Fin 4096) (j : Fin 512) : (V m c main_v8 : FVec Ideal S16384x512 .f32) (ix2 (tok b i) j) = arrCmp m c (ix3 b i j) := by
  unfold_abbrev_sides
  after_results
  pointwise [tok]
theorem V9_apply (b : Fin 4) (i : Fin 4096) (j : Fin 512) : (V m c main_v9 : FVec Ideal S16384x512 .f32) (ix2 (tok b i) j) = arrSel m c (ix3 b i j) := by
  unfold_abbrev_sides
  after_results
  pointwise [tok]
theorem V10_apply (b : Fin 4) (i : Fin 4096) (j : Fin 512) : (V m c main_v10 : FVec Ideal S16384x512 .f32) (ix2 (tok b i) j) = arrWin m c (ix3 b i j) := by
  unfold_abbrev_sides
  after_results
  pointwise [tok]
theorem V11_apply (x j : Fin 1024) : (V m c main_v11 : FVec Ideal S1024x1024 .bf16) (ix2 x j) = arrW m c (ix2 x j) := by
  unfold_abbrev_sides
  after_results
  pointwise []

/-- The call's result at token `i` of sequence `b`. -/
def result (y : FVec Ideal S4x4096x1024 .f32) (md : FVec Ideal S4x6144 .f32) (a : FVec Ideal S4x4096x512 .f32) (cmp : FVec Ideal S4x4096x512 .f32) (sel : FVec Ideal S4x4096x512 .f32) (win : FVec Ideal S4x4096x512 .f32) (gt : FVec Ideal S16384x128 .f32) (w : FVec Ideal S1024x1024 .f32) (nw : FVec Ideal S1024 .f32) (w1 : FVec Ideal S1024x4096 .f32) (w2 : FVec Ideal S4096x1024 .f32)
    (b : Fin 4) (i : Fin 4096) (j : Fin 1024) : EReal :=
  evenRow (fun j => y (ix3 b i j)) (fun j => md (ix2 b (part 2 j))) (fun j => a (ix3 b i j)) (fun j => cmp (ix3 b i j)) (fun j => sel (ix3 b i j)) (fun j => win (ix3 b i j))
    (fun j => gt (ix2 (tok b i) j)) (fun x j => w (ix2 x j)) (fun j => md (ix2 b (part 3 j))) (fun j => md (ix2 b (part 4 j))) (fun j => md (ix2 b (part 5 j))) (fun j => nw (ix1 j))
    (fun x f => w1 (ix2 x f)) (fun f j => w2 (ix2 f j)) j

/-- The array of results. -/
def results : FVec Ideal S4x4096x1024 .f32 := fun y => result (arrY m c) (arrMod m c) (arrA m c) (arrCmp m c) (arrSel m c) (arrWin m c) (arrGt m c) (arrW m c) (arrNw m c) (arrW1 m c) (arrW2 m c) (y 0) (y 1) (y 2)

theorem results_apply (b : Fin 4) (i : Fin 4096) (j : Fin 1024) : results m c (ix3 b i j)
    = result (arrY m c) (arrMod m c) (arrA m c) (arrCmp m c) (arrSel m c) (arrWin m c) (arrGt m c) (arrW m c) (arrNw m c) (arrW1 m c) (arrW2 m c) b i j := rfl

theorem lt64 (t : Fin cfg0.N) : (t : ℕ) < 64 := t.isLt

/-- The sequence of point `t`, and its block's row `i` among the sequence's tokens. -/
def seqOf (t : Fin cfg0.N) : Fin 4 := ⟨(t : ℕ) / 16, by have := lt64 t; omega⟩
def rowOf (t : Fin cfg0.N) (i : Fin 256) : Fin 4096 := ⟨256 * ((t : ℕ) % 16) + i, by omega⟩

/-! A block's row is the array's. -/

theorem blk0 (t : Fin cfg0.N) (i : Fin 256) (j : Fin 1024) : (iblk m c 0 t : Vec Ideal S1x256x1024 .f32) (ix3 0 i j) = arrY m c (ix3 (seqOf t) (rowOf t i) j) := by
  have := lt64 t
  blk_ext [iblk, V_main_arg0, places t, seqOf, rowOf, tok]
theorem blk1 (t : Fin cfg0.N) (j : Fin 1024) : (iblk m c 1 t : Vec Ideal S1x1x1x1024 .f32) (ix4 0 0 0 j) = arrMod m c (ix2 (seqOf t) (part 2 j)) := by
  have := lt64 t
  rw [← V6_apply]
  unfold iblk
  generalize V m c = X
  blk_ext [places t, seqOf, rowOf, tok]
theorem blk2 (t : Fin cfg0.N) (i : Fin 256) (j : Fin 512) : (iblk m c 2 t : Vec Ideal S256x512 .f32) (ix2 i j) = arrA m c (ix3 (seqOf t) (rowOf t i) j) := by
  have := lt64 t
  rw [← V7_apply]
  unfold iblk
  generalize V m c = X
  blk_ext [places t, seqOf, rowOf, tok]
theorem blk3 (t : Fin cfg0.N) (i : Fin 256) (j : Fin 512) : (iblk m c 3 t : Vec Ideal S256x512 .f32) (ix2 i j) = arrCmp m c (ix3 (seqOf t) (rowOf t i) j) := by
  have := lt64 t
  rw [← V8_apply]
  unfold iblk
  generalize V m c = X
  blk_ext [places t, seqOf, rowOf, tok]
theorem blk4 (t : Fin cfg0.N) (i : Fin 256) (j : Fin 512) : (iblk m c 4 t : Vec Ideal S256x512 .f32) (ix2 i j) = arrSel m c (ix3 (seqOf t) (rowOf t i) j) := by
  have := lt64 t
  rw [← V9_apply]
  unfold iblk
  generalize V m c = X
  blk_ext [places t, seqOf, rowOf, tok]
theorem blk5 (t : Fin cfg0.N) (i : Fin 256) (j : Fin 512) : (iblk m c 5 t : Vec Ideal S256x512 .f32) (ix2 i j) = arrWin m c (ix3 (seqOf t) (rowOf t i) j) := by
  have := lt64 t
  rw [← V10_apply]
  unfold iblk
  generalize V m c = X
  blk_ext [places t, seqOf, rowOf, tok]
theorem blk6 (t : Fin cfg0.N) (i : Fin 256) (j : Fin 128) : (iblk m c 6 t : Vec Ideal S256x128 .f32) (ix2 i j) = arrGt m c (ix2 (tok (seqOf t) (rowOf t i)) j) := by
  have := lt64 t
  blk_ext [iblk, V_main_arg6, places t, seqOf, rowOf, tok]
theorem blk7 (t : Fin cfg0.N) (x j : Fin 1024) : (iblk m c 7 t : Vec Ideal S1024x1024 .bf16) (ix2 x j) = arrW m c (ix2 x j) := by
  have := lt64 t
  rw [← V11_apply]
  unfold iblk
  generalize V m c = X
  blk_ext [places t, seqOf, rowOf, tok]
theorem blk8 (t : Fin cfg0.N) (j : Fin 1024) : (iblk m c 8 t : Vec Ideal S1x1x1x1024 .f32) (ix4 0 0 0 j) = arrMod m c (ix2 (seqOf t) (part 3 j)) := by
  have := lt64 t
  rw [← V6_apply]
  unfold iblk
  generalize V m c = X
  blk_ext [places t, seqOf, rowOf, tok]
theorem blk9 (t : Fin cfg0.N) (j : Fin 1024) : (iblk m c 9 t : Vec Ideal S1x1x1x1024 .f32) (ix4 0 0 0 j) = arrMod m c (ix2 (seqOf t) (part 4 j)) := by
  have := lt64 t
  rw [← V6_apply]
  unfold iblk
  generalize V m c = X
  blk_ext [places t, seqOf, rowOf, tok]
theorem blk10 (t : Fin cfg0.N) (j : Fin 1024) : (iblk m c 10 t : Vec Ideal S1x1x1x1024 .f32) (ix4 0 0 0 j) = arrMod m c (ix2 (seqOf t) (part 5 j)) := by
  have := lt64 t
  rw [← V6_apply]
  unfold iblk
  generalize V m c = X
  blk_ext [places t, seqOf, rowOf, tok]
theorem blk11 (t : Fin cfg0.N) (j : Fin 1024) : (iblk m c 11 t : Vec Ideal S1x1024 .f32) (ix2 0 j) = arrNw m c (ix1 j) := by
  have := lt64 t
  rw [← V0_apply]
  unfold iblk
  generalize V m c = X
  blk_ext [places t, seqOf, rowOf, tok]
theorem blk12 (t : Fin cfg0.N) (x : Fin 1024) (f : Fin 4096) : (iblk m c 12 t : Vec Ideal S1024x4096 .bf16) (ix2 x f) = arrW1 m c (ix2 x f) := by
  have := lt64 t
  rw [← V1_apply]
  unfold iblk
  generalize V m c = X
  blk_ext [places t, seqOf, rowOf, tok]
theorem blk13 (t : Fin cfg0.N) (f : Fin 4096) (j : Fin 1024) : (iblk m c 13 t : Vec Ideal S4096x1024 .bf16) (ix2 f j) = arrW2 m c (ix2 f j) := by
  have := lt64 t
  rw [← V2_apply]
  unfold iblk
  generalize V m c = X
  blk_ext [places t, seqOf, rowOf, tok]

/-- The call's result array holds the results. -/
theorem results_eq : (dats m 0 c).arrAt 15 cfg0.N = results m c := by
  refine (dats m 0 c).arrAt_eq_of_covers 15 _ (by decide +kernel) fun t hf y => ?_
  have ht := lt64 t
  rw [after0_15]
  have hX := fun i j => out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) i j
  simp only [blk0, blk1, blk2, blk3, blk4, blk5, blk6, blk7, blk8, blk9, blk10, blk11, blk12, blk13] at hX
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = X at hX ⊢
  change S1x256x1024.Idx at y
  idx_vars y
  obtain rfl : y0 = 0 := Subsingleton.elim _ _
  have ez : (((cfg0.win 15).blk t).view.emb (ix3 0 y1 y2) : S4x4096x1024.Idx) = ix3 (seqOf t) (rowOf t y1) y2 := by
    blk_ext [places t, seqOf, rowOf]
  refine Eq.trans ?_ (congrArg (results m c) ez).symm
  refine Eq.trans (b := X (ix3 0 y1 y2)) rfl ?_
  rw [hX, results_apply]
  rfl

end Cert.EvenOutIdeal.Out
end
-- ==== Proof.Out.EvenRef.lean ====
/- The reference of the attention layer's output call, read at an index over the extended reals. -/
module

public import proofs.«01_k».proof.Proof.Gen.EvenOutRefIdeal.Run
public import proofs.«01_k».proof.Proof.Out.GlaRef

@[expose] public section

set_option maxRecDepth 16384

noncomputable section

namespace Cert.EvenOutRefIdeal.Out

open Cert.EvenOutRefIdeal Cert.EvenOutRefIdeal.Gen Cert.Out Idealize.ShloMosaic
open Cert.GlaOutRefIdeal.Out (vec network projected vec_apply network_apply projected_apply)

/-- A branch's gate, for every head and channel, -/
def gate (gt : FVec Ideal S16384x128 .f32) (k : ℕ) (h : S4x4096x4x3.Slices ![0, 0, 0, k] S4x4096x4x1) : FVec Ideal S4x4096x4x128 .f32 :=
  broadcastInDim S4x4096x4x128 ![0, 1, 2, 3] bcast_S4x4096x4x1_S4x4096x4x128_0_1_2_3 (extractStridedSlice S4x4096x4x1 ![0, 0, 0, k]
    (shapeCast _ (extractStridedSlice S16384x12 ![0, 0] gt slices_S16384x128_S16384x12_0_0) shapeCasts_S16384x12_S4x4096x4x3) h)
/-- the branch by heads, -/
def heads (x : FVec Ideal S4x4096x512 .f32) : FVec Ideal S4x4096x4x128 .f32 := shapeCast _ x shapeCasts_S4x4096x512_S4x4096x4x128
/-- the gated branches, -/
def branches (cmp sel win : FVec Ideal S4x4096x512 .f32) (gt : FVec Ideal S16384x128 .f32) : FVec Ideal S4x4096x512 .f32 :=
  shapeCast _ (addf (addf (mulf (gate gt 0 slices_S4x4096x4x3_S4x4096x4x1_0_0_0_0) (heads cmp)) (mulf (gate gt 1 slices_S4x4096x4x3_S4x4096x4x1_0_0_0_1) (heads sel)))
    (mulf (gate gt 2 slices_S4x4096x4x3_S4x4096x4x1_0_0_0_2) (heads win))) shapeCasts_S4x4096x4x128_S4x4096x512
/-- and the mixed rows. -/
def mixed (a z : FVec Ideal S4x4096x512 .f32) : FVec Ideal S4x4096x1024 .f32 :=
  concatenate S4x4096x1024 2 [⟨S4x4096x512, a⟩, ⟨S4x4096x512, z⟩] concatenates_S4x4096x512_S4x4096x512_S4x4096x1024_d2
/-- The reference's result. -/
def result (y : FVec Ideal S4x4096x1024 .f32) (md : FVec Ideal S4x6144 .f32) (a : FVec Ideal S4x4096x512 .f32) (cmp : FVec Ideal S4x4096x512 .f32) (sel : FVec Ideal S4x4096x512 .f32) (win : FVec Ideal S4x4096x512 .f32) (gt : FVec Ideal S16384x128 .f32) (w : FVec Ideal S1024x1024 .f32) (nw : FVec Ideal S1024 .f32) (w1 : FVec Ideal S1024x4096 .f32) (w2 : FVec Ideal S4096x1024 .f32) : FVec Ideal S4x4096x1024 .f32 :=
  network (projected y (vec md 2 slices_S4x6x1024_S4x1x1024_0_2_0) (mixed a (branches cmp sel win gt)) w) nw (vec md 3 slices_S4x6x1024_S4x1x1024_0_3_0) (vec md 4 slices_S4x6x1024_S4x1x1024_0_4_0)
    (vec md 5 slices_S4x6x1024_S4x1x1024_0_5_0) w1 w2

theorem gate_apply (gt : FVec Ideal S16384x128 .f32) (k : ℕ) (hk : k < 3) (h : S4x4096x4x3.Slices ![0, 0, 0, k] S4x4096x4x1) (b : Fin 4) (i : Fin 4096) (n : Fin 4) (j : Fin 128) :
    gate gt k h (ix4 b i n j) = gt (ix2 (tok b i) ⟨(n : ℕ) * 3 + k, by omega⟩) := by
  pointwise [gate, tok]
theorem branches_apply (cmp sel win : FVec Ideal S4x4096x512 .f32) (gt : FVec Ideal S16384x128 .f32) (b : Fin 4) (i : Fin 4096) (x : Fin 512) :
    branches cmp sel win gt (ix3 b i x) = gt (ix2 (tok b i) ⟨(x : ℕ) / 128 * 3 + 0, by omega⟩) * cmp (ix3 b i x) + gt (ix2 (tok b i) ⟨(x : ℕ) / 128 * 3 + 1, by omega⟩) * sel (ix3 b i x)
      + gt (ix2 (tok b i) ⟨(x : ℕ) / 128 * 3 + 2, by omega⟩) * win (ix3 b i x) := by
  unfold branches
  generalize h0 : gate gt 0 _ = G0
  generalize h1 : gate gt 1 _ = G1
  generalize h2 : gate gt 2 _ = G2
  pointwise [heads]
  subst h0 h1 h2
  rw [gate_apply gt 0 (by decide), gate_apply gt 1 (by decide), gate_apply gt 2 (by decide)]
  rfl
theorem mixed_apply (a cmp sel win : FVec Ideal S4x4096x512 .f32) (gt : FVec Ideal S16384x128 .f32) (b : Fin 4) (i : Fin 4096) (x : Fin 1024) :
    mixed a (branches cmp sel win gt) (ix3 b i x)
      = branched (fun j => a (ix3 b i j)) (fun j => cmp (ix3 b i j)) (fun j => sel (ix3 b i j)) (fun j => win (ix3 b i j)) (fun j => gt (ix2 (tok b i) j)) x := by
  generalize hz : branches cmp sel win gt = Z
  pointwise [mixed]
  subst hz
  unfold branched
  split
  · rfl
  · rw [branches_apply]; rfl

/-- The reference's result at token `i` of sequence `b`. -/
theorem result_apply (y : FVec Ideal S4x4096x1024 .f32) (md : FVec Ideal S4x6144 .f32) (a : FVec Ideal S4x4096x512 .f32) (cmp : FVec Ideal S4x4096x512 .f32) (sel : FVec Ideal S4x4096x512 .f32) (win : FVec Ideal S4x4096x512 .f32) (gt : FVec Ideal S16384x128 .f32) (w : FVec Ideal S1024x1024 .f32) (nw : FVec Ideal S1024 .f32) (w1 : FVec Ideal S1024x4096 .f32) (w2 : FVec Ideal S4096x1024 .f32) (b : Fin 4) (i : Fin 4096) (j : Fin 1024) :
    result y md a cmp sel win gt w nw w1 w2 (ix3 b i j) = evenRow (fun j => y (ix3 b i j)) (fun j => md (ix2 b (part 2 j))) (fun j => a (ix3 b i j)) (fun j => cmp (ix3 b i j)) (fun j => sel (ix3 b i j)) (fun j => win (ix3 b i j))
    (fun j => gt (ix2 (tok b i) j)) (fun x j => w (ix2 x j)) (fun j => md (ix2 b (part 3 j))) (fun j => md (ix2 b (part 4 j))) (fun j => md (ix2 b (part 5 j))) (fun j => nw (ix1 j))
    (fun x f => w1 (ix2 x f)) (fun f j => w2 (ix2 f j)) j := by
  unfold result evenRow
  refine (network_apply _ _ _ _ _ _ _ b i j).trans ?_
  simp only [projected_apply, mixed_apply, vec_apply _ 2 (by decide), vec_apply _ 3 (by decide), vec_apply _ 4 (by decide), vec_apply _ 5 (by decide)]
  rfl

/-- The composed term the reference's run leaves is that result. -/
theorem result_eq (m : (ℓ : Loc nD τ sig) → Buf (Elt Ideal) ℓ) (c : Dev nD) : Cert.EvenOutRefIdeal.Value.res_main_v66 m c
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

end Cert.EvenOutRefIdeal.Out
end
-- ==== Proof.Out.EvenClaims.lean ====
/- The attention layer's output call: kernel and reference agree. -/
module

public import proofs.«01_k».proof.Defs
public import proofs.«01_k».proof.Proof.Gen.EvenOut.Frame
public import proofs.«01_k».proof.Proof.Out.EvenArray
public import proofs.«01_k».proof.Proof.Out.EvenRef

@[expose] public section

set_option maxRecDepth 16384

noncomputable section

namespace Cert.Proof.EvenOut

open Idealize.ShloMosaic Idealize.ShloMosaic.TcCoe Idealize.SL.Sem
open Cert.EvenOutIdeal.Out

/-- The kernel's array of results is the reference's. -/
theorem results_ref (m : (ℓ : Loc Cert.EvenOutIdeal.nD Cert.EvenOutIdeal.τ Cert.EvenOutIdeal.sig) → Buf (Elt Ideal) ℓ) (c : Dev Cert.EvenOutIdeal.nD) :
    Cert.EvenOutRefIdeal.Out.result (arrY m c) (arrMod m c) (arrA m c) (arrCmp m c) (arrSel m c) (arrWin m c) (arrGt m c) (arrW m c) (arrNw m c) (arrW1 m c) (arrW2 m c) = results m c := by
  funext y
  idx_vars y
  exact (Cert.EvenOutRefIdeal.Out.result_apply ..).trans (results_apply m c y0 y1 y2).symm

/-- Every execution of the call ends, its arguments unchanged and its semaphores at zero: at the machine's floats, -/
theorem frame_kernel : Cert.quiescent_EvenOut := fun m ρ _ => Cert.EvenOut.Gen.frame m ρ
/-- at the extended reals, -/
theorem frame_ideal : Cert.quiescent_EvenOutIdeal := fun m ρ _ => Cert.EvenOutIdeal.Gen.frame m ρ
/-- and the reference's. -/
theorem frame_ref : Cert.quiescent_EvenOutRefIdeal := fun m ρ _ =>
  (θ_run Cert.EvenOutRefIdeal.defs _ _).mono (fun r h => ⟨fun c => (h c).2, sem_eq_zero_of_no_sems (by decide) r.2⟩)
    (Cert.EvenOutRefIdeal.Value.run (F := Ideal) m ρ)

/-- From equal arguments, the kernel's tokens are the reference's. -/
theorem algebraic : Cert.algebraic_EvenOutIdeal_EvenOutRefIdeal := by
  intro m g m' g' hpre hargs
  refine ⟨fun c => results m c, ?_, ?_⟩
  · refine (θ_run Cert.EvenOutIdeal.defs _ _).mono (fun r h c => ?_) (Cert.EvenOutIdeal.Value.run_blocks (F := Ideal) m g)
    exact ⟨(h c).1.trans (results_eq m c), (h c).2⟩
  · refine (θ_run Cert.EvenOutRefIdeal.defs _ _).mono (fun r h c => ?_) (Cert.EvenOutRefIdeal.Value.run (F := Ideal) m' g')
    obtain ⟨ho, hk⟩ := h c
    obtain ⟨e0, e1, e2, e3, e4, e5, e6, e7, e8, e9, e10⟩ := hargs c
    refine ⟨ho.trans ?_, hk⟩
    rw [Cert.EvenOutRefIdeal.Out.result_eq, e0, e1, e2, e3, e4, e5, e6, e7, e8, e9, e10]
    exact results_ref m c

end Cert.Proof.EvenOut
end
-- ==== Proof.In.EvenValues.lean ====
/- The attention layer's input call: what surrounds its blocks, and what its body leaves in them. -/
module

public import proofs.«01_k».proof.Proof.Gen.EvenInIdeal.Launch
public import proofs.«01_k».proof.Proof.Gen.EvenInIdeal.Skeleton
public import proofs.«01_k».proof.Proof.Gen.EvenInIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.EvenInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 504000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_EvenInIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's accesses -/

abbrev r0_0 : Rect S1x256x1024 := Rect.unit (s := S1x256x1024) ![0, 0, 0] S1x256x1024.size inb_S1x256x1024_S1x256x1024_0_0_0
abbrev r0_1 : Rect S1x1024 := Rect.unit (s := S1x1024) ![0, 0] S1x1024.size inb_S1x1024_S1x1024_0_0
abbrev r0_2 : Rect S1x1x1x1024 := Rect.unit (s := S1x1x1x1024) ![0, 0, 0, 0] S1x1x1x1024.size inb_S1x1x1x1024_S1x1x1x1024_0_0_0_0
abbrev r0_3 : Rect S256x128 := Rect.unit (s := S256x128) ![0, 0] S256x128.size inb_S256x128_S256x128_0_0
abbrev r0_4 : Rect S1024x3584 := Rect.unit (s := S1024x3584) ![0, 0] S1024x512.size inb_S1024x3584_S1024x512_0_0
abbrev r0_5 : Rect S256x512 := Rect.unit (s := S256x512) ![0, 0] S256x128.size inb_S256x512_S256x128_0_0
abbrev r0_6 : Rect S256x512 := Rect.unit (s := S256x512) ![0, 128] S256x128.size inb_S256x512_S256x128_0_128
abbrev r0_7 : Rect S256x512 := Rect.unit (s := S256x512) ![0, 256] S256x128.size inb_S256x512_S256x128_0_256
abbrev r0_8 : Rect S256x512 := Rect.unit (s := S256x512) ![0, 384] S256x128.size inb_S256x512_S256x128_0_384
abbrev r0_9 : Rect S512x1024 := Rect.unit (s := S512x1024) ![0, 0] S512x1024.size inb_S512x1024_S512x1024_0_0
abbrev r0_10 : Rect S32x256 := Rect.unit (s := S32x256) ![0, 0] S32x256.size inb_S32x256_S32x256_0_0
abbrev r0_11 : Rect S1x512x256 := Rect.unit (s := S1x512x256) ![0, 0, 0] S1x32x256.size inb_S1x512x256_S1x32x256_0_0_0
abbrev r0_12 : Rect S1x512x256 := Rect.unit (s := S1x512x256) ![0, 32, 0] S1x32x256.size inb_S1x512x256_S1x32x256_0_32_0
abbrev r0_13 : Rect S1x512x256 := Rect.unit (s := S1x512x256) ![0, 64, 0] S1x32x256.size inb_S1x512x256_S1x32x256_0_64_0
abbrev r0_14 : Rect S1x512x256 := Rect.unit (s := S1x512x256) ![0, 96, 0] S1x32x256.size inb_S1x512x256_S1x32x256_0_96_0
abbrev r0_15 : Rect S1x512x256 := Rect.unit (s := S1x512x256) ![0, 128, 0] S1x32x256.size inb_S1x512x256_S1x32x256_0_128_0
abbrev r0_16 : Rect S1x512x256 := Rect.unit (s := S1x512x256) ![0, 160, 0] S1x32x256.size inb_S1x512x256_S1x32x256_0_160_0
abbrev r0_17 : Rect S1x512x256 := Rect.unit (s := S1x512x256) ![0, 192, 0] S1x32x256.size inb_S1x512x256_S1x32x256_0_192_0
abbrev r0_18 : Rect S1x512x256 := Rect.unit (s := S1x512x256) ![0, 224, 0] S1x32x256.size inb_S1x512x256_S1x32x256_0_224_0
abbrev r0_19 : Rect S1x512x256 := Rect.unit (s := S1x512x256) ![0, 256, 0] S1x32x256.size inb_S1x512x256_S1x32x256_0_256_0
abbrev r0_20 : Rect S1x512x256 := Rect.unit (s := S1x512x256) ![0, 288, 0] S1x32x256.size inb_S1x512x256_S1x32x256_0_288_0
abbrev r0_21 : Rect S1x512x256 := Rect.unit (s := S1x512x256) ![0, 320, 0] S1x32x256.size inb_S1x512x256_S1x32x256_0_320_0
abbrev r0_22 : Rect S1x512x256 := Rect.unit (s := S1x512x256) ![0, 352, 0] S1x32x256.size inb_S1x512x256_S1x32x256_0_352_0
abbrev r0_23 : Rect S1x512x256 := Rect.unit (s := S1x512x256) ![0, 384, 0] S1x32x256.size inb_S1x512x256_S1x32x256_0_384_0
abbrev r0_24 : Rect S1x512x256 := Rect.unit (s := S1x512x256) ![0, 416, 0] S1x32x256.size inb_S1x512x256_S1x32x256_0_416_0
abbrev r0_25 : Rect S1x512x256 := Rect.unit (s := S1x512x256) ![0, 448, 0] S1x32x256.size inb_S1x512x256_S1x32x256_0_448_0
abbrev r0_26 : Rect S1x512x256 := Rect.unit (s := S1x512x256) ![0, 480, 0] S1x32x256.size inb_S1x512x256_S1x32x256_0_480_0
abbrev r0_27 : Rect S1024x3584 := Rect.unit (s := S1024x3584) ![0, 1024] S1024x512.size inb_S1024x3584_S1024x512_0_1024
abbrev r0_28 : Rect S1024x3584 := Rect.unit (s := S1024x3584) ![0, 1536] S1024x512.size inb_S1024x3584_S1024x512_0_1536
abbrev r0_29 : Rect S1024x3584 := Rect.unit (s := S1024x3584) ![0, 2048] S1024x512.size inb_S1024x3584_S1024x512_0_2048
abbrev r0_30 : Rect S1024x3584 := Rect.unit (s := S1024x3584) ![0, 2560] S1024x512.size inb_S1024x3584_S1024x512_0_2560
abbrev r0_31 : Rect S1024x3584 := Rect.unit (s := S1024x3584) ![0, 3072] S1024x512.size inb_S1024x3584_S1024x512_0_3072
abbrev r0_32 : Rect S1024x128 := Rect.unit (s := S1024x128) ![0, 0] S1024x128.size inb_S1024x128_S1024x128_0_0

/-! ## What the body leaves in each output window's buffer -/

/-! ### Values of the body that the stores' payloads, spelt out, would write more than once

    Each is a vector the body binds (often a part call's result), stated over the input windows' blocks and
    numbered on from the skeleton's payload functions (`k0_pay86` …, after `k0_pay85`), so that
    `out0_W` and the values after it name it instead of spelling it out; the comment after each is the printed function's
    name for the value (a count appended where that name is bound again). -/

def k0_pay86 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S256x1024 .bf16 :=
  k0_pay2 (View.ld x0 r0_0) (View.ld x3 r0_1) (View.ld x1 r0_2) (View.ld x2 r0_2) -- `v27`
def k0_pay87 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S256x128 .f32 :=
  k0_pay3 (View.ld x6 r0_3) -- `v29`
def k0_pay88 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S256x128 .f32 :=
  k0_pay4 (View.ld x7 r0_3) -- `v31`
def k0_pay89 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S256x128 .f32 :=
  k0_pay5 (View.ld x8 r0_3) -- `v33`
def k0_pay90 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S256x128 .f32 :=
  k0_pay6 (View.ld x9 r0_3) -- `v35`
def k0_pay91 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S256x512 .f32 :=
  k0_pay7 (k0_pay86 x0 x1 x2 x3 x4 x5 x6 x7 x8 x9 x10 x11 x12) (View.ld x4 r0_4) -- `v38`
def k0_pay92 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S512x256 .f32 :=
  k0_pay18 (k0_pay86 x0 x1 x2 x3 x4 x5 x6 x7 x8 x9 x10 x11 x12) (View.ld x10 r0_9) -- `v157`
def k0_pay93 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S32x256 .f32 :=
  k0_pay19 (View.ld x11 r0_10) -- `v159`
def k0_pay94 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S32x256 .f32 :=
  k0_pay20 (View.ld x12 r0_10) -- `v161`
def k0_pay95 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S32x256 .f32 :=
  k0_pay43 (k0_pay92 x0 x1 x2 x3 x4 x5 x6 x7 x8 x9 x10 x11 x12) -- `v233`
def k0_pay96 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : FVec F S256x512 .f32 :=
  k0_pay74 (k0_pay86 x0 x1 x2 x3 x4 x5 x6 x7 x8 x9 x10 x11 x12) (View.ld x4 r0_30) -- `v333`

/-- Window 13's staging buffer after the body, from the input windows' blocks: its 4 stores as pieces, LAST
    FIRST (Lib/Pipeline/FrameBody.lean `View.canon`; the payloads are the skeleton's and the values stated above). -/
def out0_13 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S256x512 .f32 :=
  View.canon [⟨r0_8, k0_pay17 (k0_pay87 x0 x1 x2 x3 x4 x5 x6 x7 x8 x9 x10 x11 x12) (k0_pay88 x0 x1 x2 x3 x4 x5 x6 x7 x8 x9 x10 x11 x12) (k0_pay91 x0 x1 x2 x3 x4 x5 x6 x7 x8 x9 x10 x11 x12)⟩,
    ⟨r0_7, k0_pay16 (k0_pay88 x0 x1 x2 x3 x4 x5 x6 x7 x8 x9 x10 x11 x12) (k0_pay13 (k0_pay91 x0 x1 x2 x3 x4 x5 x6 x7 x8 x9 x10 x11 x12)) (k0_pay14 (k0_pay87 x0 x1 x2 x3 x4 x5 x6 x7 x8 x9 x10 x11 x12) (k0_pay91 x0 x1 x2 x3 x4 x5 x6 x7 x8 x9 x10 x11 x12)) k0_pay15 96#32⟩,
    ⟨r0_6, k0_pay12 (k0_pay88 x0 x1 x2 x3 x4 x5 x6 x7 x8 x9 x10 x11 x12) (k0_pay9 (k0_pay86 x0 x1 x2 x3 x4 x5 x6 x7 x8 x9 x10 x11 x12) (View.ld x4 r0_4)) (k0_pay10 (k0_pay86 x0 x1 x2 x3 x4 x5 x6 x7 x8 x9 x10 x11 x12) (k0_pay87 x0 x1 x2 x3 x4 x5 x6 x7 x8 x9 x10 x11 x12) (View.ld x4 r0_4)) (Scalar.select (Scalar.cmpi .eq 64#32 0#32) 1#32 64#32) k0_pay11⟩,
    ⟨r0_5, k0_pay8 (k0_pay86 x0 x1 x2 x3 x4 x5 x6 x7 x8 x9 x10 x11 x12) (k0_pay87 x0 x1 x2 x3 x4 x5 x6 x7 x8 x9 x10 x11 x12) (k0_pay88 x0 x1 x2 x3 x4 x5 x6 x7 x8 x9 x10 x11 x12) (View.ld x4 r0_4)⟩]

/-- Its stores tile the buffer (checked by evaluation), so they cover it. -/
theorem cover0_13 (p0 : Vec F S256x128 .f32) (p1 : Vec F S256x128 .f32) (p2 : Vec F S256x128 .f32) (p3 : Vec F S256x128 .f32) (y : S256x512.Idx) :
    ∃ pc ∈ ([⟨r0_8, p0⟩, ⟨r0_7, p1⟩, ⟨r0_6, p2⟩, ⟨r0_5, p3⟩] : List (View.Piece (Elt F) S256x512 .f32)), y ∈ pc.1.set :=
  View.cover_of_tiled [⟨r0_8, p0⟩, ⟨r0_7, p1⟩, ⟨r0_6, p2⟩, ⟨r0_5, p3⟩] S256x128.size (by rfl) y

/-- Window 14's staging buffer after the body, from the input windows' blocks: its 16 stores as pieces, LAST
    FIRST (Lib/Pipeline/FrameBody.lean `View.canon`; the payloads are the skeleton's and the values stated above). -/
def out0_14 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S1x512x256 .f32 :=
  View.canon [⟨r0_26, k0_pay55 (k0_pay54 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12))⟩,
    ⟨r0_25, k0_pay53 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)⟩,
    ⟨r0_24, k0_pay50 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)⟩,
    ⟨r0_23, k0_pay49 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)⟩,
    ⟨r0_22, k0_pay46 (k0_pay93 x0 x1 x2 x3 x4 x5 x6 x7 x8 x9 x10 x11 x12) (k0_pay94 x0 x1 x2 x3 x4 x5 x6 x7 x8 x9 x10 x11 x12) (k0_pay42 (k0_pay92 x0 x1 x2 x3 x4 x5 x6 x7 x8 x9 x10 x11 x12)) (k0_pay95 x0 x1 x2 x3 x4 x5 x6 x7 x8 x9 x10 x11 x12)⟩,
    ⟨r0_21, k0_pay45 (k0_pay94 x0 x1 x2 x3 x4 x5 x6 x7 x8 x9 x10 x11 x12) (k0_pay95 x0 x1 x2 x3 x4 x5 x6 x7 x8 x9 x10 x11 x12) (k0_pay44 (k0_pay92 x0 x1 x2 x3 x4 x5 x6 x7 x8 x9 x10 x11 x12) (k0_pay93 x0 x1 x2 x3 x4 x5 x6 x7 x8 x9 x10 x11 x12))⟩,
    ⟨r0_20, k0_pay41 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)⟩,
    ⟨r0_19, k0_pay40 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)⟩,
    ⟨r0_18, k0_pay37 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)⟩,
    ⟨r0_17, k0_pay36 (k0_pay92 x0 x1 x2 x3 x4 x5 x6 x7 x8 x9 x10 x11 x12) (k0_pay93 x0 x1 x2 x3 x4 x5 x6 x7 x8 x9 x10 x11 x12) (k0_pay94 x0 x1 x2 x3 x4 x5 x6 x7 x8 x9 x10 x11 x12)⟩,
    ⟨r0_16, k0_pay33 (k0_pay93 x0 x1 x2 x3 x4 x5 x6 x7 x8 x9 x10 x11 x12) (k0_pay94 x0 x1 x2 x3 x4 x5 x6 x7 x8 x9 x10 x11 x12) (k0_pay29 (k0_pay92 x0 x1 x2 x3 x4 x5 x6 x7 x8 x9 x10 x11 x12)) (k0_pay30 (k0_pay92 x0 x1 x2 x3 x4 x5 x6 x7 x8 x9 x10 x11 x12))⟩,
    ⟨r0_15, k0_pay32 (k0_pay31 (k0_pay92 x0 x1 x2 x3 x4 x5 x6 x7 x8 x9 x10 x11 x12) (View.ld x11 r0_10) (View.ld x12 r0_10))⟩,
    ⟨r0_14, k0_pay28 (k0_pay92 x0 x1 x2 x3 x4 x5 x6 x7 x8 x9 x10 x11 x12) (View.ld x11 r0_10) (View.ld x12 r0_10)⟩,
    ⟨r0_13, k0_pay27 (k0_pay92 x0 x1 x2 x3 x4 x5 x6 x7 x8 x9 x10 x11 x12) (View.ld x11 r0_10) (View.ld x12 r0_10)⟩,
    ⟨r0_12, k0_pay24 (k0_pay92 x0 x1 x2 x3 x4 x5 x6 x7 x8 x9 x10 x11 x12) (View.ld x11 r0_10) (View.ld x12 r0_10)⟩,
    ⟨r0_11, k0_pay23 (k0_pay92 x0 x1 x2 x3 x4 x5 x6 x7 x8 x9 x10 x11 x12) (View.ld x11 r0_10) (View.ld x12 r0_10)⟩]

/-- Its stores tile the buffer (checked by evaluation), so they cover it. -/
theorem cover0_14 (p0 : Vec F S1x32x256 .f32) (p1 : Vec F S1x32x256 .f32) (p2 : Vec F S1x32x256 .f32) (p3 : Vec F S1x32x256 .f32) (p4 : Vec F S1x32x256 .f32) (p5 : Vec F S1x32x256 .f32) (p6 : Vec F S1x32x256 .f32) (p7 : Vec F S1x32x256 .f32) (p8 : Vec F S1x32x256 .f32) (p9 : Vec F S1x32x256 .f32) (p10 : Vec F S1x32x256 .f32) (p11 : Vec F S1x32x256 .f32) (p12 : Vec F S1x32x256 .f32) (p13 : Vec F S1x32x256 .f32) (p14 : Vec F S1x32x256 .f32) (p15 : Vec F S1x32x256 .f32) (y : S1x512x256.Idx) :
    ∃ pc ∈ ([⟨r0_26, p0⟩, ⟨r0_25, p1⟩, ⟨r0_24, p2⟩, ⟨r0_23, p3⟩, ⟨r0_22, p4⟩, ⟨r0_21, p5⟩, ⟨r0_20, p6⟩, ⟨r0_19, p7⟩, ⟨r0_18, p8⟩, ⟨r0_17, p9⟩, ⟨r0_16, p10⟩, ⟨r0_15, p11⟩, ⟨r0_14, p12⟩, ⟨r0_13, p13⟩, ⟨r0_12, p14⟩, ⟨r0_11, p15⟩] : List (View.Piece (Elt F) S1x512x256 .f32)), y ∈ pc.1.set :=
  View.cover_of_tiled [⟨r0_26, p0⟩, ⟨r0_25, p1⟩, ⟨r0_24, p2⟩, ⟨r0_23, p3⟩, ⟨r0_22, p4⟩, ⟨r0_21, p5⟩, ⟨r0_20, p6⟩, ⟨r0_19, p7⟩, ⟨r0_18, p8⟩, ⟨r0_17, p9⟩, ⟨r0_16, p10⟩, ⟨r0_15, p11⟩, ⟨r0_14, p12⟩, ⟨r0_13, p13⟩, ⟨r0_12, p14⟩, ⟨r0_11, p15⟩] S1x32x256.size (by rfl) y

/-- Window 15's staging buffer after the body, from the input windows' blocks: its 4 stores as pieces, LAST
    FIRST (Lib/Pipeline/FrameBody.lean `View.canon`; the payloads are the skeleton's and the values stated above). -/
def out0_15 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S256x512 .f32 :=
  View.canon [⟨r0_8, k0_pay60 (k0_pay86 x0 x1 x2 x3 x4 x5 x6 x7 x8 x9 x10 x11 x12) (View.ld x4 r0_27)⟩,
    ⟨r0_7, k0_pay59 (k0_pay86 x0 x1 x2 x3 x4 x5 x6 x7 x8 x9 x10 x11 x12) (View.ld x4 r0_27)⟩,
    ⟨r0_6, k0_pay58 (k0_pay86 x0 x1 x2 x3 x4 x5 x6 x7 x8 x9 x10 x11 x12) (View.ld x4 r0_27)⟩,
    ⟨r0_5, k0_pay57 (k0_pay86 x0 x1 x2 x3 x4 x5 x6 x7 x8 x9 x10 x11 x12) (View.ld x4 r0_27)⟩]

/-- Its stores tile the buffer (checked by evaluation), so they cover it. -/
theorem cover0_15 (p0 : Vec F S256x128 .f32) (p1 : Vec F S256x128 .f32) (p2 : Vec F S256x128 .f32) (p3 : Vec F S256x128 .f32) (y : S256x512.Idx) :
    ∃ pc ∈ ([⟨r0_8, p0⟩, ⟨r0_7, p1⟩, ⟨r0_6, p2⟩, ⟨r0_5, p3⟩] : List (View.Piece (Elt F) S256x512 .f32)), y ∈ pc.1.set :=
  View.cover_of_tiled [⟨r0_8, p0⟩, ⟨r0_7, p1⟩, ⟨r0_6, p2⟩, ⟨r0_5, p3⟩] S256x128.size (by rfl) y

/-- Window 16's staging buffer after the body, from the input windows' blocks: its 4 stores as pieces, LAST
    FIRST (Lib/Pipeline/FrameBody.lean `View.canon`; the payloads are the skeleton's and the values stated above). -/
def out0_16 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S256x512 .f32 :=
  View.canon [⟨r0_8, k0_pay68 (k0_pay89 x0 x1 x2 x3 x4 x5 x6 x7 x8 x9 x10 x11 x12) (k0_pay90 x0 x1 x2 x3 x4 x5 x6 x7 x8 x9 x10 x11 x12) (k0_pay61 (k0_pay86 x0 x1 x2 x3 x4 x5 x6 x7 x8 x9 x10 x11 x12) (View.ld x4 r0_28))⟩,
    ⟨r0_7, k0_pay67 (k0_pay65 (k0_pay86 x0 x1 x2 x3 x4 x5 x6 x7 x8 x9 x10 x11 x12) (k0_pay89 x0 x1 x2 x3 x4 x5 x6 x7 x8 x9 x10 x11 x12) (View.ld x4 r0_28)) (k0_pay66 (k0_pay86 x0 x1 x2 x3 x4 x5 x6 x7 x8 x9 x10 x11 x12) (k0_pay90 x0 x1 x2 x3 x4 x5 x6 x7 x8 x9 x10 x11 x12) (View.ld x4 r0_28))⟩,
    ⟨r0_6, k0_pay63 (k0_pay86 x0 x1 x2 x3 x4 x5 x6 x7 x8 x9 x10 x11 x12) (k0_pay89 x0 x1 x2 x3 x4 x5 x6 x7 x8 x9 x10 x11 x12) (k0_pay90 x0 x1 x2 x3 x4 x5 x6 x7 x8 x9 x10 x11 x12) (View.ld x4 r0_28)⟩,
    ⟨r0_5, k0_pay62 (k0_pay86 x0 x1 x2 x3 x4 x5 x6 x7 x8 x9 x10 x11 x12) (k0_pay89 x0 x1 x2 x3 x4 x5 x6 x7 x8 x9 x10 x11 x12) (k0_pay90 x0 x1 x2 x3 x4 x5 x6 x7 x8 x9 x10 x11 x12) (View.ld x4 r0_28)⟩]

/-- Its stores tile the buffer (checked by evaluation), so they cover it. -/
theorem cover0_16 (p0 : Vec F S256x128 .f32) (p1 : Vec F S256x128 .f32) (p2 : Vec F S256x128 .f32) (p3 : Vec F S256x128 .f32) (y : S256x512.Idx) :
    ∃ pc ∈ ([⟨r0_8, p0⟩, ⟨r0_7, p1⟩, ⟨r0_6, p2⟩, ⟨r0_5, p3⟩] : List (View.Piece (Elt F) S256x512 .f32)), y ∈ pc.1.set :=
  View.cover_of_tiled [⟨r0_8, p0⟩, ⟨r0_7, p1⟩, ⟨r0_6, p2⟩, ⟨r0_5, p3⟩] S256x128.size (by rfl) y

/-- Window 17's staging buffer after the body, from the input windows' blocks: its 4 stores as pieces, LAST
    FIRST (Lib/Pipeline/FrameBody.lean `View.canon`; the payloads are the skeleton's and the values stated above). -/
def out0_17 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S256x512 .f32 :=
  View.canon [⟨r0_8, k0_pay73 (k0_pay86 x0 x1 x2 x3 x4 x5 x6 x7 x8 x9 x10 x11 x12) (View.ld x4 r0_29)⟩,
    ⟨r0_7, k0_pay72 (k0_pay86 x0 x1 x2 x3 x4 x5 x6 x7 x8 x9 x10 x11 x12) (View.ld x4 r0_29)⟩,
    ⟨r0_6, k0_pay71 (k0_pay86 x0 x1 x2 x3 x4 x5 x6 x7 x8 x9 x10 x11 x12) (k0_pay89 x0 x1 x2 x3 x4 x5 x6 x7 x8 x9 x10 x11 x12) (k0_pay90 x0 x1 x2 x3 x4 x5 x6 x7 x8 x9 x10 x11 x12) (View.ld x4 r0_29)⟩,
    ⟨r0_5, k0_pay70 (k0_pay86 x0 x1 x2 x3 x4 x5 x6 x7 x8 x9 x10 x11 x12) (k0_pay89 x0 x1 x2 x3 x4 x5 x6 x7 x8 x9 x10 x11 x12) (k0_pay90 x0 x1 x2 x3 x4 x5 x6 x7 x8 x9 x10 x11 x12) (View.ld x4 r0_29)⟩]

/-- Its stores tile the buffer (checked by evaluation), so they cover it. -/
theorem cover0_17 (p0 : Vec F S256x128 .f32) (p1 : Vec F S256x128 .f32) (p2 : Vec F S256x128 .f32) (p3 : Vec F S256x128 .f32) (y : S256x512.Idx) :
    ∃ pc ∈ ([⟨r0_8, p0⟩, ⟨r0_7, p1⟩, ⟨r0_6, p2⟩, ⟨r0_5, p3⟩] : List (View.Piece (Elt F) S256x512 .f32)), y ∈ pc.1.set :=
  View.cover_of_tiled [⟨r0_8, p0⟩, ⟨r0_7, p1⟩, ⟨r0_6, p2⟩, ⟨r0_5, p3⟩] S256x128.size (by rfl) y

/-- Window 18's staging buffer after the body, from the input windows' blocks: its 4 stores as pieces, LAST
    FIRST (Lib/Pipeline/FrameBody.lean `View.canon`; the payloads are the skeleton's and the values stated above). -/
def out0_18 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S256x512 .f32 :=
  View.canon [⟨r0_8, k0_pay80 (k0_pay96 x0 x1 x2 x3 x4 x5 x6 x7 x8 x9 x10 x11 x12)⟩,
    ⟨r0_7, k0_pay79 (k0_pay96 x0 x1 x2 x3 x4 x5 x6 x7 x8 x9 x10 x11 x12)⟩,
    ⟨r0_6, k0_pay78 (k0_pay89 x0 x1 x2 x3 x4 x5 x6 x7 x8 x9 x10 x11 x12) (k0_pay90 x0 x1 x2 x3 x4 x5 x6 x7 x8 x9 x10 x11 x12) (k0_pay96 x0 x1 x2 x3 x4 x5 x6 x7 x8 x9 x10 x11 x12)⟩,
    ⟨r0_5, k0_pay77 (k0_pay90 x0 x1 x2 x3 x4 x5 x6 x7 x8 x9 x10 x11 x12) (k0_pay75 (k0_pay86 x0 x1 x2 x3 x4 x5 x6 x7 x8 x9 x10 x11 x12) (View.ld x4 r0_30)) (k0_pay76 (k0_pay86 x0 x1 x2 x3 x4 x5 x6 x7 x8 x9 x10 x11 x12) (k0_pay89 x0 x1 x2 x3 x4 x5 x6 x7 x8 x9 x10 x11 x12) (View.ld x4 r0_30)) 64#32⟩]

/-- Its stores tile the buffer (checked by evaluation), so they cover it. -/
theorem cover0_18 (p0 : Vec F S256x128 .f32) (p1 : Vec F S256x128 .f32) (p2 : Vec F S256x128 .f32) (p3 : Vec F S256x128 .f32) (y : S256x512.Idx) :
    ∃ pc ∈ ([⟨r0_8, p0⟩, ⟨r0_7, p1⟩, ⟨r0_6, p2⟩, ⟨r0_5, p3⟩] : List (View.Piece (Elt F) S256x512 .f32)), y ∈ pc.1.set :=
  View.cover_of_tiled [⟨r0_8, p0⟩, ⟨r0_7, p1⟩, ⟨r0_6, p2⟩, ⟨r0_5, p3⟩] S256x128.size (by rfl) y

/-- Window 19's staging buffer after the body, from the input windows' blocks: its 4 stores as pieces, LAST
    FIRST (Lib/Pipeline/FrameBody.lean `View.canon`; the payloads are the skeleton's and the values stated above). -/
def out0_19 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S256x512 .f32 :=
  View.canon [⟨r0_8, k0_pay85 (k0_pay86 x0 x1 x2 x3 x4 x5 x6 x7 x8 x9 x10 x11 x12) (View.ld x4 r0_31)⟩,
    ⟨r0_7, k0_pay84 (k0_pay86 x0 x1 x2 x3 x4 x5 x6 x7 x8 x9 x10 x11 x12) (View.ld x4 r0_31)⟩,
    ⟨r0_6, k0_pay83 (k0_pay86 x0 x1 x2 x3 x4 x5 x6 x7 x8 x9 x10 x11 x12) (k0_pay89 x0 x1 x2 x3 x4 x5 x6 x7 x8 x9 x10 x11 x12) (k0_pay90 x0 x1 x2 x3 x4 x5 x6 x7 x8 x9 x10 x11 x12) (View.ld x4 r0_31)⟩,
    ⟨r0_5, k0_pay82 (k0_pay86 x0 x1 x2 x3 x4 x5 x6 x7 x8 x9 x10 x11 x12) (k0_pay89 x0 x1 x2 x3 x4 x5 x6 x7 x8 x9 x10 x11 x12) (k0_pay90 x0 x1 x2 x3 x4 x5 x6 x7 x8 x9 x10 x11 x12) (View.ld x4 r0_31)⟩]

/-- Its stores tile the buffer (checked by evaluation), so they cover it. -/
theorem cover0_19 (p0 : Vec F S256x128 .f32) (p1 : Vec F S256x128 .f32) (p2 : Vec F S256x128 .f32) (p3 : Vec F S256x128 .f32) (y : S256x512.Idx) :
    ∃ pc ∈ ([⟨r0_8, p0⟩, ⟨r0_7, p1⟩, ⟨r0_6, p2⟩, ⟨r0_5, p3⟩] : List (View.Piece (Elt F) S256x512 .f32)), y ∈ pc.1.set :=
  View.cover_of_tiled [⟨r0_8, p0⟩, ⟨r0_7, p1⟩, ⟨r0_6, p2⟩, ⟨r0_5, p3⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) : Vec F S256x128 .f32 :=
  View.canon [⟨r0_3, k0_pay1 (k0_pay86 x0 x1 x2 x3 x4 x5 x6 x7 x8 x9 x10 x11 x12) (View.ld x5 r0_32)⟩]

/-- Its stores tile the buffer (checked by evaluation), so they cover it. -/
theorem cover0_20 (p0 : Vec F S256x128 .f32) (y : S256x128.Idx) :
    ∃ pc ∈ ([⟨r0_3, p0⟩] : List (View.Piece (Elt F) S256x128 .f32)), y ∈ pc.1.set :=
  View.cover_of_tiled [⟨r0_3, p0⟩] S256x128.size (by rfl) y

end Cert.EvenInIdeal.Gen

end
-- ==== Proof.In.EvenRun.lean ====
/- The attention layer's input call: its run. -/
module

public import proofs.«01_k».proof.Proof.In.EvenValues

@[expose] public section

set_option maxRecDepth 16384

noncomputable section

namespace Cert.EvenInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x1024 .f32) (harg2 : arg2.IsWhole) (arg3 : Memref sig .tc .vmem S1x1x1x1024 .f32) (harg3 : arg3.IsWhole) (arg4 : Memref sig .tc .vmem S1x1x1x1024 .f32) (harg4 : arg4.IsWhole) (arg5 : Memref sig .tc .vmem S1x1024 .f32) (harg5 : arg5.IsWhole) (arg6 : Memref sig .tc .vmem S1024x3584 .bf16) (harg6 : arg6.IsWhole) (arg7 : Memref sig .tc .vmem S1024x128 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S512x1024 .bf16) (harg12 : arg12.IsWhole) (arg13 : Memref sig .tc .vmem S32x256 .f32) (harg13 : arg13.IsWhole) (arg14 : Memref sig .tc .vmem S32x256 .f32) (harg14 : arg14.IsWhole) (arg15 : Memref sig .tc .vmem S256x512 .f32) (harg15 : arg15.IsWhole) (arg16 : Memref sig .tc .vmem S1x512x256 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .f32) (harg21 : arg21.IsWhole) (arg22 : Memref sig .tc .vmem S256x128 .f32) (harg22 : arg22.IsWhole)
    (x0 : Vec F S1x256x1024 .f32) (x1 : Vec F S1x1x1x1024 .f32) (x2 : Vec F S1x1x1x1024 .f32) (x3 : Vec F S1x1024 .f32) (x4 : Vec F S1024x3584 .bf16) (x5 : Vec F S1024x128 .bf16) (x6 : Vec F S256x128 .f32) (x7 : Vec F S256x128 .f32) (x8 : Vec F S256x128 .f32) (x9 : Vec F S256x128 .f32) (x10 : Vec F S512x1024 .bf16) (x11 : Vec F S32x256 .f32) (x12 : Vec F S32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (out0_13 x0 x1 x2 x3 x4 x5 x6 x7 x8 x9 x10 x11 x12) ∗ owns (c : Thread nD τ) arg16 fullShare (out0_14 x0 x1 x2 x3 x4 x5 x6 x7 x8 x9 x10 x11 x12) ∗ owns (c : Thread nD τ) arg17 fullShare (out0_15 x0 x1 x2 x3 x4 x5 x6 x7 x8 x9 x10 x11 x12) ∗ owns (c : Thread nD τ) arg18 fullShare (out0_16 x0 x1 x2 x3 x4 x5 x6 x7 x8 x9 x10 x11 x12) ∗ owns (c : Thread nD τ) arg19 fullShare (out0_17 x0 x1 x2 x3 x4 x5 x6 x7 x8 x9 x10 x11 x12) ∗ owns (c : Thread nD τ) arg20 fullShare (out0_18 x0 x1 x2 x3 x4 x5 x6 x7 x8 x9 x10 x11 x12) ∗ owns (c : Thread nD τ) arg21 fullShare (out0_19 x0 x1 x2 x3 x4 x5 x6 x7 x8 x9 x10 x11 x12) ∗ owns (c : Thread nD τ) arg22 fullShare (out0_20 x0 x1 x2 x3 x4 x5 x6 x7 x8 x9 x10 x11 x12)) -∗ K ⟨⟩))
      ⊢ wp frame (wpE (defs₀ (F := F)) Variants.none c none) E (cc0_even_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_even_inproj_eq_skeleton]; unfold cc0_even_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _ _ _ _ _ _ _ _ _ _ _ _ _)).trans ?_
    rfl
  isplitl [H15]
  · iexists _; isplitr
    swap; · iexact H15
    ipureintro
    refine (View.read_writes_eq_canon _ _ _ (cover0_15 _ _ _ _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _ _ _ _)).trans ?_
    rfl
  isplitl [H18]
  · iexists _; isplitr
    swap; · iexact H18
    ipureintro
    refine (View.read_writes_eq_canon _ _ _ (cover0_18 _ _ _ _)).trans ?_
    rfl
  isplitl [H19]
  · iexists _; isplitr
    swap; · iexact H19
    ipureintro
    refine (View.read_writes_eq_canon _ _ _ (cover0_19 _ _ _ _)).trans ?_
    rfl
  iexists _; isplitr
  swap; · iexact H20
  ipureintro
  refine (View.read_writes_eq_canon _ _ _ (cover0_20 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 21, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame at any `F`: every execution ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.EvenInIdeal.Gen

end
-- ==== Proof.In.EvenFrames.lean ====
/- The attention layer's input call: its frames. -/
module

public import proofs.«01_k».proof.Defs
public import proofs.«01_k».proof.Proof.Gen.EvenIn
public import proofs.«01_k».proof.Proof.Gen.EvenInRefIdeal.Run
public import proofs.«01_k».proof.Proof.In.EvenRun
public import proofs.«01_k».proof.Proof.In.EvenBitsRun

@[expose] public section

set_option maxRecDepth 16384

noncomputable section

namespace Cert.Proof.EvenIn

open Idealize.ShloMosaic Idealize.ShloMosaic.TcCoe Idealize.SL.Sem

/-- Every execution of the call ends, its arguments unchanged and its semaphores at zero: at the machine's floats, -/
theorem frame_kernel : Cert.quiescent_EvenIn := fun m ρ _ => Cert.EvenIn.Gen.frame m ρ
/-- at the extended reals, -/
theorem frame_ideal : Cert.quiescent_EvenInIdeal := fun m ρ _ => Cert.EvenInIdeal.Gen.frame m ρ
/-- and the reference's. -/
theorem frame_ref : Cert.quiescent_EvenInRefIdeal := fun m ρ _ =>
  (θ_run Cert.EvenInRefIdeal.defs _ _).mono (fun r h => ⟨fun c => (h c).2.2.2.2.2.2.2.2.2, sem_eq_zero_of_no_sems (by decide) r.2⟩)
    (Cert.EvenInRefIdeal.Value.run (F := Ideal) m ρ)

end Cert.Proof.EvenIn
end
-- ==== Proof.In.Row.lean ====
/- One token's row through the input projections, over the extended reals: what kernel and reference both compute. -/
module

public import proofs.«01_k».proof.Proof.Out.Row

@[expose] public section

noncomputable section

namespace Cert.In

open Idealize.ShloMosaic Cert.Out

/-- A column of the projection of a normalised, scaled and shifted row. -/
def proj {n : ℕ} (y nw sh sc : Fin 1024 → EReal) (w : Fin 1024 → Fin n → EReal) (x : Fin n) : EReal := ∑ a, modulated y nw sh sc a * w a x

/-- The queries' scale, and the divisor of the log decays. -/
abbrev qScale : EReal := Ideal.ofBits .f32 0x3DB504F3#32
abbrev tau : EReal := Ideal.ofBits .f32 0x41800000#32

/-- The logarithm of the logistic function. -/
def logSigmoid (x : EReal) : EReal := min x 0 - Ideal.log1p (Ideal.exp (0 - max x (-x)))

/-- The gate's row: a low-rank product of the row's last sixteen columns, with a bias. -/
def gateRow (g : Fin 16 → EReal) (wg : Fin 16 → Fin 512 → EReal) (b : Fin 512 → EReal) (j : Fin 512) : EReal := (∑ a, g a * wg a j) + b j

/-- A log decay. -/
def logDecay (g : Fin 16 → EReal) (wg : Fin 16 → Fin 512 → EReal) (b : Fin 512 → EReal) (j : Fin 512) : EReal :=
  Ideal.div (logSigmoid (gateRow g wg b j)) tau

/-- The logarithm of one more than an exponential is finite, below infinity. -/
theorem log1p_exp (z : EReal) (h : z ≠ ⊤) : ∃ r : ℝ, Ideal.log1p (Ideal.exp z) = r := by
  induction z using EReal.rec with
  | bot =>
    refine ⟨0, ?_⟩
    show Ideal.log (1 + 0) = _
    rw [add_zero, ← EReal.coe_one]
    show (if (1 : ℝ) ≤ 0 then (⊥ : EReal) else (Real.log 1 : EReal)) = _
    rw [if_neg (by norm_num), Real.log_one]
  | coe r =>
    refine ⟨Real.log (1 + Real.exp r), ?_⟩
    show Ideal.log (1 + ((Real.exp r : ℝ) : EReal)) = _
    rw [← EReal.coe_one, ← EReal.coe_add]
    show (if 1 + Real.exp r ≤ 0 then (⊥ : EReal) else (Real.log (1 + Real.exp r) : EReal)) = _
    rw [if_neg (by have := Real.exp_pos r; linarith)]
  | top => exact absurd rfl h

/-- The logarithm of the logistic function as the negated soft maximum of the negated argument and zero. -/
theorem logSigmoid_eq (x : EReal) : -(max (-x) 0 + Ideal.log1p (Ideal.exp (-max (-x - 0) (-(-x - 0))))) = logSigmoid x := by
  have e : -max (-x - 0) (-(-x - 0)) = 0 - max x (-x) := by rw [sub_zero, neg_neg, max_comm, zero_sub]
  have f : 0 - max x (-x) ≠ ⊤ := by
    rw [zero_sub]
    intro h
    have h1 : max x (-x) = ⊥ := by rw [← neg_neg (max x (-x)), h]; rfl
    have h2 : x = ⊥ := le_bot_iff.mp (h1 ▸ le_max_left _ _)
    have h3 : -x = ⊥ := le_bot_iff.mp (h1 ▸ le_max_right _ _)
    rw [h2] at h3
    exact absurd h3 (by decide)
  obtain ⟨r, hr⟩ := log1p_exp _ f
  unfold logSigmoid
  rw [e, hr, EReal.neg_add (.inr (EReal.coe_ne_top r)) (.inr (EReal.coe_ne_bot r))]
  refine congrArg (· - (r : EReal)) ?_
  rcases le_total x 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

/-- A sum over 128 places of which all but the first sixteen hold zero. -/
theorem sum_padded (F : Fin 128 → EReal) (f : Fin 16 → EReal) (h : ∀ g : Fin 128, F g = if h : (g : ℕ) < 16 then f ⟨g, h⟩ else 0) : ∑ g, F g = ∑ g, f g := by
  refine (Fin.sum_univ_add (a := 16) (b := 112) F).trans ?_
  refine (congrArg₂ (· + ·) (Finset.sum_congr rfl fun g _ => ?_) (Finset.sum_eq_zero fun g _ => ?_)).trans (add_zero (∑ g, f g))
  · rw [h]; exact dif_pos g.isLt
  · rw [h]; exact dif_neg (by show ¬16 + (g : ℕ) < 16; omega)

/-- The sequence and the position of row `r` of all tokens' rows. -/
def seq (r : Fin 16384) : Fin 4 := ⟨(r : ℕ) / 4096, by omega⟩
def pos (r : Fin 16384) : Fin 4096 := ⟨(r : ℕ) % 4096, Nat.mod_lt _ (by decide)⟩

end Cert.In
end
-- ==== Proof.In.Rope.lean ====
/- Rotary embedding of a row of heads, over the extended reals: what kernel and reference both compute. -/
module

public import proofs.«01_k».proof.Proof.In.Row

@[expose] public section

noncomputable section

namespace Cert.In

open Idealize.ShloMosaic

/-- The column a column of width-64 heads is turned with, the other half's, -/
def partnerA (x : Fin 512) : Fin 512 := if h : (x : ℕ) % 64 < 32 then ⟨x + 32, by omega⟩ else ⟨x - 32, by omega⟩
/-- and that of width-128 heads. -/
def partnerB (x : Fin 512) : Fin 512 := if h : (x : ℕ) % 128 < 64 then ⟨x + 64, by omega⟩ else ⟨x - 64, by omega⟩

/-- A row of width-64 heads turned by the cosines and signed sines of 128 columns, -/
def turnA (P : Fin 512 → EReal) (c s : Fin 128 → EReal) (x : Fin 512) : EReal :=
  P x * c ⟨x % 128, Nat.mod_lt _ (by decide)⟩ + P (partnerA x) * s ⟨x % 128, Nat.mod_lt _ (by decide)⟩
/-- one of width-128 heads, -/
def turnB (P : Fin 512 → EReal) (c s : Fin 128 → EReal) (x : Fin 512) : EReal :=
  P x * c ⟨x % 128, Nat.mod_lt _ (by decide)⟩ + P (partnerB x) * s ⟨x % 128, Nat.mod_lt _ (by decide)⟩
/-- keys and values side by side, of which only the keys are turned, -/
def turnKv (P : Fin 512 → EReal) (c s : Fin 128 → EReal) (x : Fin 512) : EReal := if (x : ℕ) < 256 then turnB P c s x else P x
/-- and a row of width-64 heads by the cosines and sines of one half. -/
def turnT (P : Fin 512 → EReal) (c s : Fin 32 → EReal) (x : Fin 512) : EReal :=
  P x * c ⟨x % 32, Nat.mod_lt _ (by decide)⟩ + P (partnerA x) * (if (x : ℕ) % 64 < 32 then -s ⟨x % 32, Nat.mod_lt _ (by decide)⟩ else s ⟨x % 32, Nat.mod_lt _ (by decide)⟩)

/-- In a head's first half the partner's product is subtracted, -/
theorem turnT_lo (o : ℕ) (ho : o % 64 = 0) (hb : o + 64 ≤ 512) (P : Fin 512 → EReal) (c s : Fin 32 → EReal) (r : Fin 32) :
    turnT P c s ⟨o + r, by omega⟩ = P ⟨o + r, by omega⟩ * c r - P ⟨o + 32 + r, by omega⟩ * s r := by
  have e : (⟨(o + (r : ℕ)) % 32, Nat.mod_lt _ (by decide)⟩ : Fin 32) = r := Fin.ext (show (o + (r : ℕ)) % 32 = (r : ℕ) by omega)
  have f : partnerA ⟨o + r, by omega⟩ = ⟨o + 32 + r, by omega⟩ := by
    unfold partnerA
    rw [dif_pos (show (o + (r : ℕ)) % 64 < 32 by omega)]
    exact Fin.ext (show o + (r : ℕ) + 32 = o + 32 + (r : ℕ) by omega)
  unfold turnT
  rw [f, if_pos (show (o + (r : ℕ)) % 64 < 32 by omega)]
  show _ * c ⟨(o + (r : ℕ)) % 32, _⟩ + _ * -s ⟨(o + (r : ℕ)) % 32, _⟩ = _
  rw [e, mul_neg, sub_eq_add_neg]
/-- in its second half it is added. -/
theorem turnT_hi (o : ℕ) (ho : o % 64 = 0) (hb : o + 64 ≤ 512) (P : Fin 512 → EReal) (c s : Fin 32 → EReal) (r : Fin 32) :
    turnT P c s ⟨o + 32 + r, by omega⟩ = P ⟨o + 32 + r, by omega⟩ * c r + P ⟨o + r, by omega⟩ * s r := by
  have e : (⟨(o + 32 + (r : ℕ)) % 32, Nat.mod_lt _ (by decide)⟩ : Fin 32) = r := Fin.ext (show (o + 32 + (r : ℕ)) % 32 = (r : ℕ) by omega)
  have f : partnerA ⟨o + 32 + r, by omega⟩ = ⟨o + r, by omega⟩ := by
    unfold partnerA
    rw [dif_neg (show ¬(o + 32 + (r : ℕ)) % 64 < 32 by omega)]
    exact Fin.ext (show o + 32 + (r : ℕ) - 32 = o + (r : ℕ) by omega)
  unfold turnT
  rw [f, if_neg (show ¬(o + 32 + (r : ℕ)) % 64 < 32 by omega)]
  show _ * c ⟨(o + 32 + (r : ℕ)) % 32, _⟩ + _ * s ⟨(o + 32 + (r : ℕ)) % 32, _⟩ = _
  rw [e]

/-- The same of width-128 heads, -/
def turnU (P : Fin 512 → EReal) (c s : Fin 64 → EReal) (x : Fin 512) : EReal :=
  P x * c ⟨x % 64, Nat.mod_lt _ (by decide)⟩ + P (partnerB x) * (if (x : ℕ) % 128 < 64 then -s ⟨x % 64, Nat.mod_lt _ (by decide)⟩ else s ⟨x % 64, Nat.mod_lt _ (by decide)⟩)
/-- and of keys and values side by side. -/
def turnUv (P : Fin 512 → EReal) (c s : Fin 64 → EReal) (x : Fin 512) : EReal := if (x : ℕ) < 256 then turnU P c s x else P x

/-- In a head's first half the partner's product is subtracted, -/
theorem turnU_lo (o : ℕ) (ho : o % 128 = 0) (hb : o + 128 ≤ 512) (P : Fin 512 → EReal) (c s : Fin 64 → EReal) (r : Fin 64) :
    turnU P c s ⟨o + r, by omega⟩ = P ⟨o + r, by omega⟩ * c r - P ⟨o + 64 + r, by omega⟩ * s r := by
  have e : (⟨(o + (r : ℕ)) % 64, Nat.mod_lt _ (by decide)⟩ : Fin 64) = r := Fin.ext (show (o + (r : ℕ)) % 64 = (r : ℕ) by omega)
  have f : partnerB ⟨o + r, by omega⟩ = ⟨o + 64 + r, by omega⟩ := by
    unfold partnerB
    rw [dif_pos (show (o + (r : ℕ)) % 128 < 64 by omega)]
    exact Fin.ext (show o + (r : ℕ) + 64 = o + 64 + (r : ℕ) by omega)
  unfold turnU
  rw [f, if_pos (show (o + (r : ℕ)) % 128 < 64 by omega)]
  show _ * c ⟨(o + (r : ℕ)) % 64, _⟩ + _ * -s ⟨(o + (r : ℕ)) % 64, _⟩ = _
  rw [e, mul_neg, sub_eq_add_neg]
/-- in its second half it is added. -/
theorem turnU_hi (o : ℕ) (ho : o % 128 = 0) (hb : o + 128 ≤ 512) (P : Fin 512 → EReal) (c s : Fin 64 → EReal) (r : Fin 64) :
    turnU P c s ⟨o + 64 + r, by omega⟩ = P ⟨o + 64 + r, by omega⟩ * c r + P ⟨o + r, by omega⟩ * s r := by
  have e : (⟨(o + 64 + (r : ℕ)) % 64, Nat.mod_lt _ (by decide)⟩ : Fin 64) = r := Fin.ext (show (o + 64 + (r : ℕ)) % 64 = (r : ℕ) by omega)
  have f : partnerB ⟨o + 64 + r, by omega⟩ = ⟨o + r, by omega⟩ := by
    unfold partnerB
    rw [dif_neg (show ¬(o + 64 + (r : ℕ)) % 128 < 64 by omega)]
    exact Fin.ext (show o + 64 + (r : ℕ) - 64 = o + (r : ℕ) by omega)
  unfold turnU
  rw [f, if_neg (show ¬(o + 64 + (r : ℕ)) % 128 < 64 by omega)]
  show _ * c ⟨(o + 64 + (r : ℕ)) % 64, _⟩ + _ * s ⟨(o + 64 + (r : ℕ)) % 64, _⟩ = _
  rw [e]

/-- The tables of 128 columns repeat the half's: width-64 heads, -/
theorem turnA_eq (P : Fin 512 → EReal) (c s : Fin 32 → EReal) (x : Fin 512) :
    turnA P (fun l => c ⟨l % 32, Nat.mod_lt _ (by decide)⟩) (fun l => if (l : ℕ) % 64 < 32 then -s ⟨l % 32, Nat.mod_lt _ (by decide)⟩ else s ⟨l % 32, Nat.mod_lt _ (by decide)⟩) x = turnT P c s x := by
  have a : (x : ℕ) % 128 % 64 = (x : ℕ) % 64 := by omega
  have b : (⟨(x : ℕ) % 128 % 32, Nat.mod_lt _ (by decide)⟩ : Fin 32) = ⟨(x : ℕ) % 32, Nat.mod_lt _ (by decide)⟩ := Fin.ext (show (x : ℕ) % 128 % 32 = (x : ℕ) % 32 by omega)
  unfold turnA turnT
  simp only [a, b]
/-- width-128 heads, -/
theorem turnB_eq (P : Fin 512 → EReal) (c s : Fin 64 → EReal) (x : Fin 512) :
    turnB P (fun l => c ⟨l % 64, Nat.mod_lt _ (by decide)⟩) (fun l => if (l : ℕ) < 64 then -s ⟨l % 64, Nat.mod_lt _ (by decide)⟩ else s ⟨l % 64, Nat.mod_lt _ (by decide)⟩) x = turnU P c s x := by
  have b : (⟨(x : ℕ) % 128 % 64, Nat.mod_lt _ (by decide)⟩ : Fin 64) = ⟨(x : ℕ) % 64, Nat.mod_lt _ (by decide)⟩ := Fin.ext (show (x : ℕ) % 128 % 64 = (x : ℕ) % 64 by omega)
  unfold turnB turnU
  simp only [b]
/-- keys and values. -/
theorem turnKv_eq (P : Fin 512 → EReal) (c s : Fin 64 → EReal) (x : Fin 512) :
    turnKv P (fun l => c ⟨l % 64, Nat.mod_lt _ (by decide)⟩) (fun l => if (l : ℕ) < 64 then -s ⟨l % 64, Nat.mod_lt _ (by decide)⟩ else s ⟨l % 64, Nat.mod_lt _ (by decide)⟩) x = turnUv P c s x := by
  unfold turnKv turnUv
  rw [turnB_eq]

end Cert.In
end
-- ==== Proof.In.EvenBlock.lean ====
/- What the attention layer's input call leaves in a block, over the extended reals. -/
module

public import proofs.«01_k».proof.Proof.In.EvenValues
public import proofs.«01_k».proof.Proof.In.Rope
public import Idealize.ShloMosaic.Lib.Pipeline.ValueKit

@[expose] public section

set_option maxRecDepth 16384

noncomputable section

namespace Cert.EvenInIdeal.In

open Cert.EvenInIdeal Cert.EvenInIdeal.Gen Cert.Out Cert.In
open Idealize.ShloMosaic Idealize.ShloMosaic.TcCoe Idealize.SL.Sem

/-- The projections' input row. -/
theorem modulated_apply (y : Vec Ideal S1x256x1024 .f32) (nw : Vec Ideal S1x1024 .f32) (sh sc : Vec Ideal S1x1x1x1024 .f32) (i : Fin 256) (j : Fin 1024) :
    k0_pay2 y nw sh sc (ix2 i j) = modulated (fun j => y (ix3 0 i j)) (fun j => nw (ix2 0 j)) (fun j => sh (ix4 0 0 0 j)) (fun j => sc (ix4 0 0 0 j)) j := by
  pointwise [k0_pay2, modulated, rms]
/-- A group of projections, -/
theorem group_apply (h : FVec Ideal S256x1024 .bf16) (w : Vec Ideal S1024x512 .bf16) (i : Fin 256) (x : Fin 512) :
    k0_pay7 h w (ix2 i x) = ∑ a, (h (ix2 i a) : EReal) * w (ix2 a x) := by
  pointwise [k0_pay7]
/-- the transposed keys, -/
theorem keys_apply (h : FVec Ideal S256x1024 .bf16) (w : Vec Ideal S512x1024 .bf16) (x : Fin 512) (i : Fin 256) :
    k0_pay18 h w (ix2 x i) = ∑ a, (w (ix2 x a) : EReal) * h (ix2 i a) := by
  pointwise [k0_pay18]
/-- and the gates. -/
theorem gates_apply (h : FVec Ideal S256x1024 .bf16) (w : Vec Ideal S1024x128 .bf16) (i : Fin 256) (g : Fin 128) :
    k0_pay1 h w (ix2 i g) = Ideal.logistic (∑ a, (h (ix2 i a) : EReal) * w (ix2 a g)) := by
  pointwise [k0_pay1]

/-- Which columns of two width-64 heads lie in their head's first half. -/
theorem first_half : ∀ j : Fin 128, k0_pay15 (ix2 0 j) = if (j : ℕ) % 64 < 32 then 1#1 else 0#1 := by decide +kernel

/-- Two width-64 heads turned, -/
def turn64 (p c s : FVec Ideal S256x128 .f32) : FVec Ideal S256x128 .f32 :=
  addf (mulf p c) (mulf (select (broadcastTo S256x128 (shapeCast S1x128 k0_pay15 shapeCasts_S1x128_S1x128) broadcasts_S1x128_S256x128)
    (dynamicRotate 1 96#32 none p rotates_S256x128_d1) (dynamicRotate 1 32#32 none p rotates_S256x128_d1)) s)
/-- and one of width 128. -/
def turn128 (p c s : FVec Ideal S256x128 .f32) : FVec Ideal S256x128 .f32 :=
  addf (mulf p c) (mulf (dynamicRotate 1 64#32 none p rotates_S256x128_d1) s)

theorem turn64_apply (p c s : FVec Ideal S256x128 .f32) (i : Fin 256) (l : Fin 128) :
    turn64 p c s (ix2 i l) = p (ix2 i l) * c (ix2 i l)
      + (if h : (l : ℕ) % 64 < 32 then p (ix2 i ⟨l + 32, by omega⟩) else p (ix2 i ⟨l - 32, by omega⟩)) * s (ix2 i l) := by
  pointwise [turn64]
  rw [first_half]
  by_cases h : (l : ℕ) % 64 < 32
  · rw [if_pos h, dif_pos h]
    refine congrArg (fun z => _ + p (ix2 i z) * _) (Fin.ext ?_)
    show ((l : ℕ) + 128 - 96) % 128 = (l : ℕ) + 32
    omega
  · rw [if_neg h, dif_neg h]
    refine congrArg (fun z => _ + p (ix2 i z) * _) (Fin.ext ?_)
    show ((l : ℕ) + 128 - 32) % 128 = (l : ℕ) - 32
    omega
theorem turn128_apply (p c s : FVec Ideal S256x128 .f32) (i : Fin 256) (l : Fin 128) :
    turn128 p c s (ix2 i l) = p (ix2 i l) * c (ix2 i l)
      + (if h : (l : ℕ) < 64 then p (ix2 i ⟨l + 64, by omega⟩) else p (ix2 i ⟨l - 64, by omega⟩)) * s (ix2 i l) := by
  pointwise [turn128]
  by_cases h : (l : ℕ) < 64
  · rw [dif_pos h]
    refine congrArg (fun z => _ + p (ix2 i z) * _) (Fin.ext ?_)
    show ((l : ℕ) + 128 - 64) % 128 = (l : ℕ) + 64
    omega
  · rw [dif_neg h]
    refine congrArg (fun z => _ + p (ix2 i z) * _) (Fin.ext ?_)
    show ((l : ℕ) + 128 - 64) % 128 = (l : ℕ) - 64
    omega

section

variable (H : FVec Ideal S256x1024 .bf16) (C S : FVec Ideal S256x128 .f32) (w : Vec Ideal S1024x512 .bf16)

/-- The body's pieces are pieces of a group, turned or as they are. -/
theorem piece8 : k0_pay8 H C S w = turn64 (extractStridedSlice S256x128 ![0, 0] (k0_pay7 H w) slices_S256x512_o0_0_S256x128) C S := rfl
theorem piece12 : k0_pay12 S (k0_pay9 H w) (k0_pay10 H C w) (Scalar.select (Scalar.cmpi .eq 64#32 0#32) 1#32 64#32) k0_pay11 = turn64 (extractStridedSlice S256x128 ![0, 128] (k0_pay7 H w) slices_S256x512_o0_128_S256x128) C S := rfl
theorem piece16 : k0_pay16 S (k0_pay13 (k0_pay7 H w)) (k0_pay14 C (k0_pay7 H w)) k0_pay15 96#32 = turn64 (extractStridedSlice S256x128 ![0, 256] (k0_pay7 H w) slices_S256x512_o0_256_S256x128) C S := rfl
theorem piece17 : k0_pay17 C S (k0_pay7 H w) = turn64 (extractStridedSlice S256x128 ![0, 384] (k0_pay7 H w) slices_S256x512_o0_384_S256x128) C S := rfl
theorem piece57 : k0_pay57 H w = extractStridedSlice S256x128 ![0, 0] (k0_pay7 H w) slices_S256x512_o0_0_S256x128 := rfl
theorem piece58 : k0_pay58 H w = extractStridedSlice S256x128 ![0, 128] (k0_pay7 H w) slices_S256x512_o0_128_S256x128 := rfl
theorem piece59 : k0_pay59 H w = extractStridedSlice S256x128 ![0, 256] (k0_pay7 H w) slices_S256x512_o0_256_S256x128 := rfl
theorem piece60 : k0_pay60 H w = extractStridedSlice S256x128 ![0, 384] (k0_pay7 H w) slices_S256x512_o0_384_S256x128 := rfl
theorem piece62 : k0_pay62 H C S w = turn128 (extractStridedSlice S256x128 ![0, 0] (k0_pay7 H w) slices_S256x512_o0_0_S256x128) C S := rfl
theorem piece63 : k0_pay63 H C S w = turn128 (extractStridedSlice S256x128 ![0, 128] (k0_pay7 H w) slices_S256x512_o0_128_S256x128) C S := rfl
theorem piece67 : k0_pay67 (k0_pay65 H C w) (k0_pay66 H S w) = turn128 (extractStridedSlice S256x128 ![0, 256] (k0_pay7 H w) slices_S256x512_o0_256_S256x128) C S := rfl
theorem piece68 : k0_pay68 C S (k0_pay61 H w) = turn128 (extractStridedSlice S256x128 ![0, 384] (k0_pay7 H w) slices_S256x512_o0_384_S256x128) C S := rfl
theorem piece70 : k0_pay70 H C S w = turn128 (extractStridedSlice S256x128 ![0, 0] (k0_pay7 H w) slices_S256x512_o0_0_S256x128) C S := rfl
theorem piece71 : k0_pay71 H C S w = turn128 (extractStridedSlice S256x128 ![0, 128] (k0_pay7 H w) slices_S256x512_o0_128_S256x128) C S := rfl
theorem piece72 : k0_pay72 H w = extractStridedSlice S256x128 ![0, 256] (k0_pay7 H w) slices_S256x512_o0_256_S256x128 := rfl
theorem piece73 : k0_pay73 H w = extractStridedSlice S256x128 ![0, 384] (k0_pay7 H w) slices_S256x512_o0_384_S256x128 := rfl
theorem piece77 : k0_pay77 S (k0_pay75 H w) (k0_pay76 H C w) 64#32 = turn128 (extractStridedSlice S256x128 ![0, 0] (k0_pay7 H w) slices_S256x512_o0_0_S256x128) C S := rfl
theorem piece78 : k0_pay78 C S (k0_pay74 H w) = turn128 (extractStridedSlice S256x128 ![0, 128] (k0_pay7 H w) slices_S256x512_o0_128_S256x128) C S := rfl
theorem piece79 : k0_pay79 (k0_pay74 H w) = extractStridedSlice S256x128 ![0, 256] (k0_pay7 H w) slices_S256x512_o0_256_S256x128 := rfl
theorem piece80 : k0_pay80 (k0_pay74 H w) = extractStridedSlice S256x128 ![0, 384] (k0_pay7 H w) slices_S256x512_o0_384_S256x128 := rfl
theorem piece82 : k0_pay82 H C S w = turn128 (extractStridedSlice S256x128 ![0, 0] (k0_pay7 H w) slices_S256x512_o0_0_S256x128) C S := rfl
theorem piece83 : k0_pay83 H C S w = turn128 (extractStridedSlice S256x128 ![0, 128] (k0_pay7 H w) slices_S256x512_o0_128_S256x128) C S := rfl
theorem piece84 : k0_pay84 H w = extractStridedSlice S256x128 ![0, 256] (k0_pay7 H w) slices_S256x512_o0_256_S256x128 := rfl
theorem piece85 : k0_pay85 H w = extractStridedSlice S256x128 ![0, 384] (k0_pay7 H w) slices_S256x512_o0_384_S256x128 := rfl

end

/-- A turned piece of 128 columns is the piece of the turned row: width-64 heads, -/
theorem turnA_piece (o : ℕ) (ho : o % 128 = 0) (hb : o + 128 ≤ 512) (P : Fin 512 → EReal) (p c s : FVec Ideal S256x128 .f32) (i : Fin 256)
    (hp : ∀ l : Fin 128, p (ix2 i l) = P ⟨o + l, by omega⟩) (l : Fin 128) :
    turn64 p c s (ix2 i l) = turnA P (fun l => c (ix2 i l)) (fun l => s (ix2 i l)) ⟨o + l, by omega⟩ := by
  have e : (⟨(o + (l : ℕ)) % 128, Nat.mod_lt _ (by decide)⟩ : Fin 128) = l := Fin.ext (show (o + (l : ℕ)) % 128 = (l : ℕ) by omega)
  rw [turn64_apply]
  unfold turnA partnerA
  show _ = P _ * c (ix2 i ⟨(o + (l : ℕ)) % 128, _⟩) + _ * s (ix2 i ⟨(o + (l : ℕ)) % 128, _⟩)
  rw [e, hp]
  by_cases h : (l : ℕ) % 64 < 32
  · rw [dif_pos h, dif_pos (show (o + (l : ℕ)) % 64 < 32 by omega), hp]
    refine congrArg (fun z => _ + P z * _) (Fin.ext ?_)
    show o + ((l : ℕ) + 32) = o + (l : ℕ) + 32
    omega
  · rw [dif_neg h, dif_neg (show ¬(o + (l : ℕ)) % 64 < 32 by omega), hp]
    refine congrArg (fun z => _ + P z * _) (Fin.ext ?_)
    show o + ((l : ℕ) - 32) = o + (l : ℕ) - 32
    omega
/-- and width-128 heads. -/
theorem turnB_piece (o : ℕ) (ho : o % 128 = 0) (hb : o + 128 ≤ 512) (P : Fin 512 → EReal) (p c s : FVec Ideal S256x128 .f32) (i : Fin 256)
    (hp : ∀ l : Fin 128, p (ix2 i l) = P ⟨o + l, by omega⟩) (l : Fin 128) :
    turn128 p c s (ix2 i l) = turnB P (fun l => c (ix2 i l)) (fun l => s (ix2 i l)) ⟨o + l, by omega⟩ := by
  have e : (⟨(o + (l : ℕ)) % 128, Nat.mod_lt _ (by decide)⟩ : Fin 128) = l := Fin.ext (show (o + (l : ℕ)) % 128 = (l : ℕ) by omega)
  rw [turn128_apply]
  unfold turnB partnerB
  show _ = P _ * c (ix2 i ⟨(o + (l : ℕ)) % 128, _⟩) + _ * s (ix2 i ⟨(o + (l : ℕ)) % 128, _⟩)
  rw [e, hp]
  by_cases h : (l : ℕ) < 64
  · rw [dif_pos h, dif_pos (show (o + (l : ℕ)) % 128 < 64 by omega), hp]
    refine congrArg (fun z => _ + P z * _) (Fin.ext ?_)
    show o + ((l : ℕ) + 64) = o + (l : ℕ) + 64
    omega
  · rw [dif_neg h, dif_neg (show ¬(o + (l : ℕ)) % 128 < 64 by omega), hp]
    refine congrArg (fun z => _ + P z * _) (Fin.ext ?_)
    show o + ((l : ℕ) - 64) = o + (l : ℕ) - 64
    omega
/-- The keys' columns are turned, -/
theorem kv_lo (o : ℕ) (hb : o + 128 ≤ 256) (P : Fin 512 → EReal) (c s : Fin 128 → EReal) (l : Fin 128) : turnB P c s ⟨o + l, by omega⟩ = turnKv P c s ⟨o + l, by omega⟩ := by
  unfold turnKv
  rw [if_pos (show o + (l : ℕ) < 256 by omega)]
/-- the values' are not. -/
theorem kv_hi (o : ℕ) (ho : 256 ≤ o) (hb : o + 128 ≤ 512) (P : Fin 512 → EReal) (c s : Fin 128 → EReal) (l : Fin 128) : P ⟨o + l, by omega⟩ = turnKv P c s ⟨o + l, by omega⟩ := by
  unfold turnKv
  rw [if_neg (show ¬o + (l : ℕ) < 256 by omega)]

/-- A piece of 128 of a group's columns. -/
theorem cols0 (P : FVec Ideal S256x512 .f32) (i : Fin 256) (l : Fin 128) : extractStridedSlice S256x128 ![0, 0] P slices_S256x512_o0_0_S256x128 (ix2 i l) = P (ix2 i ⟨0 + l, by omega⟩) := by
  pointwise []
theorem cols1 (P : FVec Ideal S256x512 .f32) (i : Fin 256) (l : Fin 128) : extractStridedSlice S256x128 ![0, 128] P slices_S256x512_o0_128_S256x128 (ix2 i l) = P (ix2 i ⟨128 + l, by omega⟩) := by
  pointwise []
theorem cols2 (P : FVec Ideal S256x512 .f32) (i : Fin 256) (l : Fin 128) : extractStridedSlice S256x128 ![0, 256] P slices_S256x512_o0_256_S256x128 (ix2 i l) = P (ix2 i ⟨256 + l, by omega⟩) := by
  pointwise []
theorem cols3 (P : FVec Ideal S256x512 .f32) (i : Fin 256) (l : Fin 128) : extractStridedSlice S256x128 ![0, 384] P slices_S256x512_o0_384_S256x128 (ix2 i l) = P (ix2 i ⟨384 + l, by omega⟩) := by
  pointwise []

section

variable (P : Fin 512 → EReal) (K : FVec Ideal S256x512 .f32) (C S : FVec Ideal S256x128 .f32) (i : Fin 256) (hK : ∀ x : Fin 512, K (ix2 i x) = P x) (l : Fin 128)
include hK

/-- A group's pieces of 128 columns. -/
theorem plain_c0 : extractStridedSlice S256x128 ![0, 0] K slices_S256x512_o0_0_S256x128 (ix2 i l) = P ⟨0 + l, by omega⟩ := by
  rw [cols0, hK]
theorem plain_c1 : extractStridedSlice S256x128 ![0, 128] K slices_S256x512_o0_128_S256x128 (ix2 i l) = P ⟨128 + l, by omega⟩ := by
  rw [cols1, hK]
theorem plain_c2 : extractStridedSlice S256x128 ![0, 256] K slices_S256x512_o0_256_S256x128 (ix2 i l) = P ⟨256 + l, by omega⟩ := by
  rw [cols2, hK]
theorem plain_c3 : extractStridedSlice S256x128 ![0, 384] K slices_S256x512_o0_384_S256x128 (ix2 i l) = P ⟨384 + l, by omega⟩ := by
  rw [cols3, hK]
theorem turnA_c0 : turn64 (extractStridedSlice S256x128 ![0, 0] K slices_S256x512_o0_0_S256x128) C S (ix2 i l) = turnA P (fun l => C (ix2 i l)) (fun l => S (ix2 i l)) ⟨0 + l, by omega⟩ := by
  have h := fun l => plain_c0 P K i hK l
  generalize extractStridedSlice S256x128 ![0, 0] K slices_S256x512_o0_0_S256x128 = p at h ⊢
  exact turnA_piece 0 (by decide) (by decide) P p C S i h l
theorem turnA_c1 : turn64 (extractStridedSlice S256x128 ![0, 128] K slices_S256x512_o0_128_S256x128) C S (ix2 i l) = turnA P (fun l => C (ix2 i l)) (fun l => S (ix2 i l)) ⟨128 + l, by omega⟩ := by
  have h := fun l => plain_c1 P K i hK l
  generalize extractStridedSlice S256x128 ![0, 128] K slices_S256x512_o0_128_S256x128 = p at h ⊢
  exact turnA_piece 128 (by decide) (by decide) P p C S i h l
theorem turnA_c2 : turn64 (extractStridedSlice S256x128 ![0, 256] K slices_S256x512_o0_256_S256x128) C S (ix2 i l) = turnA P (fun l => C (ix2 i l)) (fun l => S (ix2 i l)) ⟨256 + l, by omega⟩ := by
  have h := fun l => plain_c2 P K i hK l
  generalize extractStridedSlice S256x128 ![0, 256] K slices_S256x512_o0_256_S256x128 = p at h ⊢
  exact turnA_piece 256 (by decide) (by decide) P p C S i h l
theorem turnA_c3 : turn64 (extractStridedSlice S256x128 ![0, 384] K slices_S256x512_o0_384_S256x128) C S (ix2 i l) = turnA P (fun l => C (ix2 i l)) (fun l => S (ix2 i l)) ⟨384 + l, by omega⟩ := by
  have h := fun l => plain_c3 P K i hK l
  generalize extractStridedSlice S256x128 ![0, 384] K slices_S256x512_o0_384_S256x128 = p at h ⊢
  exact turnA_piece 384 (by decide) (by decide) P p C S i h l
theorem turnB_c0 : turn128 (extractStridedSlice S256x128 ![0, 0] K slices_S256x512_o0_0_S256x128) C S (ix2 i l) = turnB P (fun l => C (ix2 i l)) (fun l => S (ix2 i l)) ⟨0 + l, by omega⟩ := by
  have h := fun l => plain_c0 P K i hK l
  generalize extractStridedSlice S256x128 ![0, 0] K slices_S256x512_o0_0_S256x128 = p at h ⊢
  exact turnB_piece 0 (by decide) (by decide) P p C S i h l
theorem turnB_c1 : turn128 (extractStridedSlice S256x128 ![0, 128] K slices_S256x512_o0_128_S256x128) C S (ix2 i l) = turnB P (fun l => C (ix2 i l)) (fun l => S (ix2 i l)) ⟨128 + l, by omega⟩ := by
  have h := fun l => plain_c1 P K i hK l
  generalize extractStridedSlice S256x128 ![0, 128] K slices_S256x512_o0_128_S256x128 = p at h ⊢
  exact turnB_piece 128 (by decide) (by decide) P p C S i h l
theorem turnB_c2 : turn128 (extractStridedSlice S256x128 ![0, 256] K slices_S256x512_o0_256_S256x128) C S (ix2 i l) = turnB P (fun l => C (ix2 i l)) (fun l => S (ix2 i l)) ⟨256 + l, by omega⟩ := by
  have h := fun l => plain_c2 P K i hK l
  generalize extractStridedSlice S256x128 ![0, 256] K slices_S256x512_o0_256_S256x128 = p at h ⊢
  exact turnB_piece 256 (by decide) (by decide) P p C S i h l
theorem turnB_c3 : turn128 (extractStridedSlice S256x128 ![0, 384] K slices_S256x512_o0_384_S256x128) C S (ix2 i l) = turnB P (fun l => C (ix2 i l)) (fun l => S (ix2 i l)) ⟨384 + l, by omega⟩ := by
  have h := fun l => plain_c3 P K i hK l
  generalize extractStridedSlice S256x128 ![0, 384] K slices_S256x512_o0_384_S256x128 = p at h ⊢
  exact turnB_piece 384 (by decide) (by decide) P p C S i h l
theorem turnKv_c0 : turn128 (extractStridedSlice S256x128 ![0, 0] K slices_S256x512_o0_0_S256x128) C S (ix2 i l) = turnKv P (fun l => C (ix2 i l)) (fun l => S (ix2 i l)) ⟨0 + l, by omega⟩ :=
  (turnB_c0 P K C S i hK l).trans (kv_lo 0 (by decide) P _ _ l)
theorem turnKv_c1 : turn128 (extractStridedSlice S256x128 ![0, 128] K slices_S256x512_o0_128_S256x128) C S (ix2 i l) = turnKv P (fun l => C (ix2 i l)) (fun l => S (ix2 i l)) ⟨128 + l, by omega⟩ :=
  (turnB_c1 P K C S i hK l).trans (kv_lo 128 (by decide) P _ _ l)
theorem turnKv_c2 : extractStridedSlice S256x128 ![0, 256] K slices_S256x512_o0_256_S256x128 (ix2 i l) = turnKv P (fun l => C (ix2 i l)) (fun l => S (ix2 i l)) ⟨256 + l, by omega⟩ :=
  (plain_c2 P K i hK l).trans (kv_hi 256 (by decide) (by decide) P _ _ l)
theorem turnKv_c3 : extractStridedSlice S256x128 ![0, 384] K slices_S256x512_o0_384_S256x128 (ix2 i l) = turnKv P (fun l => C (ix2 i l)) (fun l => S (ix2 i l)) ⟨384 + l, by omega⟩ :=
  (plain_c3 P K i hK l).trans (kv_hi 384 (by decide) (by decide) P _ _ l)

end

/-- Four pieces of 128 columns side by side, read at an index. -/
theorem canon4 (p0 p1 p2 p3 : Vec Ideal S256x128 .f32) (f : Fin 512 → EReal) (i : Fin 256)
    (h0 : ∀ l : Fin 128, p0 (ix2 i l) = f ⟨0 + l, by omega⟩) (h1 : ∀ l : Fin 128, p1 (ix2 i l) = f ⟨128 + l, by omega⟩)
    (h2 : ∀ l : Fin 128, p2 (ix2 i l) = f ⟨256 + l, by omega⟩) (h3 : ∀ l : Fin 128, p3 (ix2 i l) = f ⟨384 + l, by omega⟩) (j : Fin 512) :
    View.canon ([⟨r0_8, p3⟩, ⟨r0_7, p2⟩, ⟨r0_6, p1⟩, ⟨r0_5, p0⟩] : List (View.Piece (Elt Ideal) S256x512 .f32)) (ix2 i j) = f j := by
  have key : ∀ (o : ℕ) (hb : o + 128 ≤ 512) (p : Vec Ideal S256x128 .f32) (_ : ∀ l : Fin 128, p (ix2 i l) = f ⟨o + l, by omega⟩) (x : S256x128.Idx)
      (_ : (i : ℕ) = 0 + (x 0 : ℕ)) (_ : (j : ℕ) = o + (x 1 : ℕ)), p x = f j := by
    intro o hb p hp x a b
    idx_vars x
    have a' : x0 = i := Fin.ext (by have : (i : ℕ) = 0 + (x0 : ℕ) := a; omega)
    have b' : j = ⟨o + x1, by omega⟩ := Fin.ext (by have : (j : ℕ) = o + (x1 : ℕ) := b; exact this)
    rw [a', hp, b']
  refine View.canon_eq_of_allAt _ _ _ (cover0_13 p3 p2 p1 p0 _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · exact fun x hx => key 384 (by decide) p3 h3 x (hx 0) (hx 1)
  · exact fun x hx => key 256 (by decide) p2 h2 x (hx 0) (hx 1)
  · exact fun x hx => key 128 (by decide) p1 h1 x (hx 0) (hx 1)
  · exact fun x hx => key 0 (by decide) p0 h0 x (hx 0) (hx 1)

/-- Sixteen pieces of 32 rows one under another, read at an index. -/
theorem canon16 (p0 p1 p2 p3 p4 p5 p6 p7 p8 p9 p10 p11 p12 p13 p14 p15 : Vec Ideal S1x32x256 .f32) (f : Fin 512 → EReal) (t : Fin 256)
    (h0 : ∀ r : Fin 32, p0 (ix3 0 r t) = f ⟨0 + r, by omega⟩)
    (h1 : ∀ r : Fin 32, p1 (ix3 0 r t) = f ⟨32 + r, by omega⟩)
    (h2 : ∀ r : Fin 32, p2 (ix3 0 r t) = f ⟨64 + r, by omega⟩)
    (h3 : ∀ r : Fin 32, p3 (ix3 0 r t) = f ⟨96 + r, by omega⟩)
    (h4 : ∀ r : Fin 32, p4 (ix3 0 r t) = f ⟨128 + r, by omega⟩)
    (h5 : ∀ r : Fin 32, p5 (ix3 0 r t) = f ⟨160 + r, by omega⟩)
    (h6 : ∀ r : Fin 32, p6 (ix3 0 r t) = f ⟨192 + r, by omega⟩)
    (h7 : ∀ r : Fin 32, p7 (ix3 0 r t) = f ⟨224 + r, by omega⟩)
    (h8 : ∀ r : Fin 32, p8 (ix3 0 r t) = f ⟨256 + r, by omega⟩)
    (h9 : ∀ r : Fin 32, p9 (ix3 0 r t) = f ⟨288 + r, by omega⟩)
    (h10 : ∀ r : Fin 32, p10 (ix3 0 r t) = f ⟨320 + r, by omega⟩)
    (h11 : ∀ r : Fin 32, p11 (ix3 0 r t) = f ⟨352 + r, by omega⟩)
    (h12 : ∀ r : Fin 32, p12 (ix3 0 r t) = f ⟨384 + r, by omega⟩)
    (h13 : ∀ r : Fin 32, p13 (ix3 0 r t) = f ⟨416 + r, by omega⟩)
    (h14 : ∀ r : Fin 32, p14 (ix3 0 r t) = f ⟨448 + r, by omega⟩)
    (h15 : ∀ r : Fin 32, p15 (ix3 0 r t) = f ⟨480 + r, by omega⟩) (j : Fin 512) :
    View.canon ([⟨r0_26, p15⟩, ⟨r0_25, p14⟩, ⟨r0_24, p13⟩, ⟨r0_23, p12⟩, ⟨r0_22, p11⟩, ⟨r0_21, p10⟩, ⟨r0_20, p9⟩, ⟨r0_19, p8⟩, ⟨r0_18, p7⟩, ⟨r0_17, p6⟩, ⟨r0_16, p5⟩, ⟨r0_15, p4⟩, ⟨r0_14, p3⟩, ⟨r0_13, p2⟩, ⟨r0_12, p1⟩, ⟨r0_11, p0⟩] : List (View.Piece (Elt Ideal) S1x512x256 .f32)) (ix3 0 j t) = f j := by
  have key : ∀ (o : ℕ) (hb : o + 32 ≤ 512) (p : Vec Ideal S1x32x256 .f32) (_ : ∀ r : Fin 32, p (ix3 0 r t) = f ⟨o + r, by omega⟩) (x : S1x32x256.Idx)
      (_ : (j : ℕ) = o + (x 1 : ℕ)) (_ : (t : ℕ) = 0 + (x 2 : ℕ)), p x = f j := by
    intro o hb p hp x b a
    idx_vars x
    have z' : x0 = 0 := Fin.ext (by omega)
    have a' : x2 = t := Fin.ext (by have : (t : ℕ) = 0 + (x2 : ℕ) := a; omega)
    have b' : j = ⟨o + x1, by omega⟩ := Fin.ext (by have : (j : ℕ) = o + (x1 : ℕ) := b; exact this)
    rw [z', a', hp, b']
  refine View.canon_eq_of_allAt _ _ _ (cover0_14 p15 p14 p13 p12 p11 p10 p9 p8 p7 p6 p5 p4 p3 p2 p1 p0 _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))))))))))
  · exact fun x hx => key 480 (by decide) p15 h15 x (hx 1) (hx 2)
  · exact fun x hx => key 448 (by decide) p14 h14 x (hx 1) (hx 2)
  · exact fun x hx => key 416 (by decide) p13 h13 x (hx 1) (hx 2)
  · exact fun x hx => key 384 (by decide) p12 h12 x (hx 1) (hx 2)
  · exact fun x hx => key 352 (by decide) p11 h11 x (hx 1) (hx 2)
  · exact fun x hx => key 320 (by decide) p10 h10 x (hx 1) (hx 2)
  · exact fun x hx => key 288 (by decide) p9 h9 x (hx 1) (hx 2)
  · exact fun x hx => key 256 (by decide) p8 h8 x (hx 1) (hx 2)
  · exact fun x hx => key 224 (by decide) p7 h7 x (hx 1) (hx 2)
  · exact fun x hx => key 192 (by decide) p6 h6 x (hx 1) (hx 2)
  · exact fun x hx => key 160 (by decide) p5 h5 x (hx 1) (hx 2)
  · exact fun x hx => key 128 (by decide) p4 h4 x (hx 1) (hx 2)
  · exact fun x hx => key 96 (by decide) p3 h3 x (hx 1) (hx 2)
  · exact fun x hx => key 64 (by decide) p2 h2 x (hx 1) (hx 2)
  · exact fun x hx => key 32 (by decide) p1 h1 x (hx 1) (hx 2)
  · exact fun x hx => key 0 (by decide) p0 h0 x (hx 1) (hx 2)

variable (x0 : Vec Ideal S1x256x1024 .f32) (x1 x2 : Vec Ideal S1x1x1x1024 .f32) (x3 : Vec Ideal S1x1024 .f32) (x4 : Vec Ideal S1024x3584 .bf16) (x5 : Vec Ideal S1024x128 .bf16)
  (x6 x7 x8 x9 : Vec Ideal S256x128 .f32) (x10 : Vec Ideal S512x1024 .bf16) (x11 x12 : Vec Ideal S32x256 .f32)

/-- The block's rows of projections by a weight. -/
abbrev projRow {n : ℕ} (i : Fin 256) (w : Fin 1024 → Fin n → EReal) : Fin n → EReal :=
  proj (fun j => x0 (ix3 0 i j)) (fun j => x3 (ix2 0 j)) (fun j => x1 (ix4 0 0 0 j)) (fun j => x2 (ix4 0 0 0 j)) w

/-- The block's normalised rows, and its tables. -/
theorem rows_apply (i : Fin 256) (a : Fin 1024) : k0_pay86 x0 x1 x2 x3 x4 x5 x6 x7 x8 x9 x10 x11 x12 (ix2 i a)
    = modulated (fun j => x0 (ix3 0 i j)) (fun j => x3 (ix2 0 j)) (fun j => x1 (ix4 0 0 0 j)) (fun j => x2 (ix4 0 0 0 j)) a := by
  unfold k0_pay86
  rw [modulated_apply]
  pointwise []
theorem c64_apply (i : Fin 256) (l : Fin 128) : k0_pay87 x0 x1 x2 x3 x4 x5 x6 x7 x8 x9 x10 x11 x12 (ix2 i l) = x6 (ix2 i l) := by pointwise [k0_pay87, k0_pay3]
theorem s64_apply (i : Fin 256) (l : Fin 128) : k0_pay88 x0 x1 x2 x3 x4 x5 x6 x7 x8 x9 x10 x11 x12 (ix2 i l) = x7 (ix2 i l) := by pointwise [k0_pay88, k0_pay4]
theorem c128_apply (i : Fin 256) (l : Fin 128) : k0_pay89 x0 x1 x2 x3 x4 x5 x6 x7 x8 x9 x10 x11 x12 (ix2 i l) = x8 (ix2 i l) := by pointwise [k0_pay89, k0_pay5]
theorem s128_apply (i : Fin 256) (l : Fin 128) : k0_pay90 x0 x1 x2 x3 x4 x5 x6 x7 x8 x9 x10 x11 x12 (ix2 i l) = x9 (ix2 i l) := by pointwise [k0_pay90, k0_pay6]
theorem ct_apply (r : Fin 32) (t : Fin 256) : k0_pay93 x0 x1 x2 x3 x4 x5 x6 x7 x8 x9 x10 x11 x12 (ix2 r t) = x11 (ix2 r t) := by pointwise [k0_pay93, k0_pay19]
theorem st_apply (r : Fin 32) (t : Fin 256) : k0_pay94 x0 x1 x2 x3 x4 x5 x6 x7 x8 x9 x10 x11 x12 (ix2 r t) = x12 (ix2 r t) := by pointwise [k0_pay94, k0_pay20]

theorem qa_apply (i : Fin 256) (x : Fin 512) : k0_pay7 (k0_pay86 x0 x1 x2 x3 x4 x5 x6 x7 x8 x9 x10 x11 x12) (View.ld x4 r0_4) (ix2 i x) = projRow x0 x1 x2 x3 i (fun a x => x4 (ix2 a x)) ⟨x, by omega⟩ := by
  rw [group_apply]
  simp only [rows_apply]
  pointwise [proj]
theorem va_apply (i : Fin 256) (x : Fin 512) : k0_pay7 (k0_pay86 x0 x1 x2 x3 x4 x5 x6 x7 x8 x9 x10 x11 x12) (View.ld x4 r0_27) (ix2 i x) = projRow x0 x1 x2 x3 i (fun a x => x4 (ix2 a x)) ⟨1024 + x, by omega⟩ := by
  rw [group_apply]
  simp only [rows_apply]
  pointwise [proj]
theorem qb_apply (i : Fin 256) (x : Fin 512) : k0_pay7 (k0_pay86 x0 x1 x2 x3 x4 x5 x6 x7 x8 x9 x10 x11 x12) (View.ld x4 r0_28) (ix2 i x) = projRow x0 x1 x2 x3 i (fun a x => x4 (ix2 a x)) ⟨1536 + x, by omega⟩ := by
  rw [group_apply]
  simp only [rows_apply]
  pointwise [proj]
theorem cmp_apply (i : Fin 256) (x : Fin 512) : k0_pay7 (k0_pay86 x0 x1 x2 x3 x4 x5 x6 x7 x8 x9 x10 x11 x12) (View.ld x4 r0_29) (ix2 i x) = projRow x0 x1 x2 x3 i (fun a x => x4 (ix2 a x)) ⟨2048 + x, by omega⟩ := by
  rw [group_apply]
  simp only [rows_apply]
  pointwise [proj]
theorem sel_apply (i : Fin 256) (x : Fin 512) : k0_pay7 (k0_pay86 x0 x1 x2 x3 x4 x5 x6 x7 x8 x9 x10 x11 x12) (View.ld x4 r0_30) (ix2 i x) = projRow x0 x1 x2 x3 i (fun a x => x4 (ix2 a x)) ⟨2560 + x, by omega⟩ := by
  rw [group_apply]
  simp only [rows_apply]
  pointwise [proj]
theorem win_apply (i : Fin 256) (x : Fin 512) : k0_pay7 (k0_pay86 x0 x1 x2 x3 x4 x5 x6 x7 x8 x9 x10 x11 x12) (View.ld x4 r0_31) (ix2 i x) = projRow x0 x1 x2 x3 i (fun a x => x4 (ix2 a x)) ⟨3072 + x, by omega⟩ := by
  rw [group_apply]
  simp only [rows_apply]
  pointwise [proj]

/-- The block of attention queries, turned, -/
theorem out13_apply (i : Fin 256) (j : Fin 512) : out0_13 x0 x1 x2 x3 x4 x5 x6 x7 x8 x9 x10 x11 x12 (ix2 i j) = (fun x => turnA (fun x : Fin 512 => projRow x0 x1 x2 x3 i (fun a x => x4 (ix2 a x)) ⟨x, by omega⟩) (fun l => x6 (ix2 i l)) (fun l => x7 (ix2 i l)) x) j := by
  have hP : ∀ x : Fin 512, k0_pay7 (k0_pay86 x0 x1 x2 x3 x4 x5 x6 x7 x8 x9 x10 x11 x12) (View.ld x4 r0_4) (ix2 i x) = (fun x : Fin 512 => projRow x0 x1 x2 x3 i (fun a x => x4 (ix2 a x)) ⟨x, by omega⟩) x := fun x => qa_apply x0 x1 x2 x3 x4 x5 x6 x7 x8 x9 x10 x11 x12 i x
  have hc : (fun l : Fin 128 => k0_pay87 x0 x1 x2 x3 x4 x5 x6 x7 x8 x9 x10 x11 x12 (ix2 i l)) = fun l => x6 (ix2 i l) := funext fun l => c64_apply x0 x1 x2 x3 x4 x5 x6 x7 x8 x9 x10 x11 x12 i l
  have hs : (fun l : Fin 128 => k0_pay88 x0 x1 x2 x3 x4 x5 x6 x7 x8 x9 x10 x11 x12 (ix2 i l)) = fun l => x7 (ix2 i l) := funext fun l => s64_apply x0 x1 x2 x3 x4 x5 x6 x7 x8 x9 x10 x11 x12 i l
  rw [← hc, ← hs]
  unfold out0_13 k0_pay91
  clear hc hs
  generalize (fun x : Fin 512 => projRow x0 x1 x2 x3 i (fun a x => x4 (ix2 a x)) ⟨x, by omega⟩) = P at hP ⊢
  generalize k0_pay86 x0 x1 x2 x3 x4 x5 x6 x7 x8 x9 x10 x11 x12 = H at hP ⊢
  generalize View.ld x4 r0_4 = w at hP ⊢
  generalize k0_pay87 x0 x1 x2 x3 x4 x5 x6 x7 x8 x9 x10 x11 x12 = C
  generalize k0_pay88 x0 x1 x2 x3 x4 x5 x6 x7 x8 x9 x10 x11 x12 = S
  refine canon4 _ _ _ _ (turnA P (fun l => C (ix2 i l)) (fun l => S (ix2 i l))) i (fun l => ?_) (fun l => ?_) (fun l => ?_) (fun l => ?_) j
  · refine (congrFun (piece8 _ _ _ _) (ix2 i l)).trans ?_
    exact turnA_c0 P (k0_pay7 H w) C S i hP l
  · refine (congrFun (piece12 _ _ _ _) (ix2 i l)).trans ?_
    exact turnA_c1 P (k0_pay7 H w) C S i hP l
  · refine (congrFun (piece16 _ _ _ _) (ix2 i l)).trans ?_
    exact turnA_c2 P (k0_pay7 H w) C S i hP l
  · refine (congrFun (piece17 _ _ _ _) (ix2 i l)).trans ?_
    exact turnA_c3 P (k0_pay7 H w) C S i hP l
/-- of values, -/
theorem out15_apply (i : Fin 256) (j : Fin 512) : out0_15 x0 x1 x2 x3 x4 x5 x6 x7 x8 x9 x10 x11 x12 (ix2 i j) = ((fun x : Fin 512 => projRow x0 x1 x2 x3 i (fun a x => x4 (ix2 a x)) ⟨1024 + x, by omega⟩)) j := by
  have hP : ∀ x : Fin 512, k0_pay7 (k0_pay86 x0 x1 x2 x3 x4 x5 x6 x7 x8 x9 x10 x11 x12) (View.ld x4 r0_27) (ix2 i x) = (fun x : Fin 512 => projRow x0 x1 x2 x3 i (fun a x => x4 (ix2 a x)) ⟨1024 + x, by omega⟩) x := fun x => va_apply x0 x1 x2 x3 x4 x5 x6 x7 x8 x9 x10 x11 x12 i x
  unfold out0_15
  refine canon4 _ _ _ _ (fun x : Fin 512 => projRow x0 x1 x2 x3 i (fun a x => x4 (ix2 a x)) ⟨1024 + x, by omega⟩) i (fun l => ?_) (fun l => ?_) (fun l => ?_) (fun l => ?_) j
  · exact (congrFun (piece57 _ _) (ix2 i l)).trans ((fun l => (cols0 (k0_pay7 (k0_pay86 x0 x1 x2 x3 x4 x5 x6 x7 x8 x9 x10 x11 x12) (View.ld x4 r0_27)) i l).trans (hP _)) l)
  · exact (congrFun (piece58 _ _) (ix2 i l)).trans ((fun l => (cols1 (k0_pay7 (k0_pay86 x0 x1 x2 x3 x4 x5 x6 x7 x8 x9 x10 x11 x12) (View.ld x4 r0_27)) i l).trans (hP _)) l)
  · exact (congrFun (piece59 _ _) (ix2 i l)).trans ((fun l => (cols2 (k0_pay7 (k0_pay86 x0 x1 x2 x3 x4 x5 x6 x7 x8 x9 x10 x11 x12) (View.ld x4 r0_27)) i l).trans (hP _)) l)
  · exact (congrFun (piece60 _ _) (ix2 i l)).trans ((fun l => (cols3 (k0_pay7 (k0_pay86 x0 x1 x2 x3 x4 x5 x6 x7 x8 x9 x10 x11 x12) (View.ld x4 r0_27)) i l).trans (hP _)) l)
/-- of sparse queries, turned, -/
theorem out16_apply (i : Fin 256) (j : Fin 512) : out0_16 x0 x1 x2 x3 x4 x5 x6 x7 x8 x9 x10 x11 x12 (ix2 i j) = (fun x => turnB (fun x : Fin 512 => projRow x0 x1 x2 x3 i (fun a x => x4 (ix2 a x)) ⟨1536 + x, by omega⟩) (fun l => x8 (ix2 i l)) (fun l => x9 (ix2 i l)) x) j := by
  have hP : ∀ x : Fin 512, k0_pay7 (k0_pay86 x0 x1 x2 x3 x4 x5 x6 x7 x8 x9 x10 x11 x12) (View.ld x4 r0_28) (ix2 i x) = (fun x : Fin 512 => projRow x0 x1 x2 x3 i (fun a x => x4 (ix2 a x)) ⟨1536 + x, by omega⟩) x := fun x => qb_apply x0 x1 x2 x3 x4 x5 x6 x7 x8 x9 x10 x11 x12 i x
  have hc : (fun l : Fin 128 => k0_pay89 x0 x1 x2 x3 x4 x5 x6 x7 x8 x9 x10 x11 x12 (ix2 i l)) = fun l => x8 (ix2 i l) := funext fun l => c128_apply x0 x1 x2 x3 x4 x5 x6 x7 x8 x9 x10 x11 x12 i l
  have hs : (fun l : Fin 128 => k0_pay90 x0 x1 x2 x3 x4 x5 x6 x7 x8 x9 x10 x11 x12 (ix2 i l)) = fun l => x9 (ix2 i l) := funext fun l => s128_apply x0 x1 x2 x3 x4 x5 x6 x7 x8 x9 x10 x11 x12 i l
  rw [← hc, ← hs]
  unfold out0_16
  clear hc hs
  generalize (fun x : Fin 512 => projRow x0 x1 x2 x3 i (fun a x => x4 (ix2 a x)) ⟨1536 + x, by omega⟩) = P at hP ⊢
  generalize k0_pay86 x0 x1 x2 x3 x4 x5 x6 x7 x8 x9 x10 x11 x12 = H at hP ⊢
  generalize View.ld x4 r0_28 = w at hP ⊢
  generalize k0_pay89 x0 x1 x2 x3 x4 x5 x6 x7 x8 x9 x10 x11 x12 = C
  generalize k0_pay90 x0 x1 x2 x3 x4 x5 x6 x7 x8 x9 x10 x11 x12 = S
  refine canon4 _ _ _ _ (turnB P (fun l => C (ix2 i l)) (fun l => S (ix2 i l))) i (fun l => ?_) (fun l => ?_) (fun l => ?_) (fun l => ?_) j
  · refine (congrFun (piece62 _ _ _ _) (ix2 i l)).trans ?_
    exact turnB_c0 P (k0_pay7 H w) C S i hP l
  · refine (congrFun (piece63 _ _ _ _) (ix2 i l)).trans ?_
    exact turnB_c1 P (k0_pay7 H w) C S i hP l
  · refine (congrFun (piece67 _ _ _ _) (ix2 i l)).trans ?_
    exact turnB_c2 P (k0_pay7 H w) C S i hP l
  · refine (congrFun (piece68 _ _ _ _) (ix2 i l)).trans ?_
    exact turnB_c3 P (k0_pay7 H w) C S i hP l
/-- of keys and values to compress, -/
theorem out17_apply (i : Fin 256) (j : Fin 512) : out0_17 x0 x1 x2 x3 x4 x5 x6 x7 x8 x9 x10 x11 x12 (ix2 i j) = (fun x => turnKv (fun x : Fin 512 => projRow x0 x1 x2 x3 i (fun a x => x4 (ix2 a x)) ⟨2048 + x, by omega⟩) (fun l => x8 (ix2 i l)) (fun l => x9 (ix2 i l)) x) j := by
  have hP : ∀ x : Fin 512, k0_pay7 (k0_pay86 x0 x1 x2 x3 x4 x5 x6 x7 x8 x9 x10 x11 x12) (View.ld x4 r0_29) (ix2 i x) = (fun x : Fin 512 => projRow x0 x1 x2 x3 i (fun a x => x4 (ix2 a x)) ⟨2048 + x, by omega⟩) x := fun x => cmp_apply x0 x1 x2 x3 x4 x5 x6 x7 x8 x9 x10 x11 x12 i x
  have hc : (fun l : Fin 128 => k0_pay89 x0 x1 x2 x3 x4 x5 x6 x7 x8 x9 x10 x11 x12 (ix2 i l)) = fun l => x8 (ix2 i l) := funext fun l => c128_apply x0 x1 x2 x3 x4 x5 x6 x7 x8 x9 x10 x11 x12 i l
  have hs : (fun l : Fin 128 => k0_pay90 x0 x1 x2 x3 x4 x5 x6 x7 x8 x9 x10 x11 x12 (ix2 i l)) = fun l => x9 (ix2 i l) := funext fun l => s128_apply x0 x1 x2 x3 x4 x5 x6 x7 x8 x9 x10 x11 x12 i l
  rw [← hc, ← hs]
  unfold out0_17
  clear hc hs
  generalize (fun x : Fin 512 => projRow x0 x1 x2 x3 i (fun a x => x4 (ix2 a x)) ⟨2048 + x, by omega⟩) = P at hP ⊢
  generalize k0_pay86 x0 x1 x2 x3 x4 x5 x6 x7 x8 x9 x10 x11 x12 = H at hP ⊢
  generalize View.ld x4 r0_29 = w at hP ⊢
  generalize k0_pay89 x0 x1 x2 x3 x4 x5 x6 x7 x8 x9 x10 x11 x12 = C
  generalize k0_pay90 x0 x1 x2 x3 x4 x5 x6 x7 x8 x9 x10 x11 x12 = S
  refine canon4 _ _ _ _ (turnKv P (fun l => C (ix2 i l)) (fun l => S (ix2 i l))) i (fun l => ?_) (fun l => ?_) (fun l => ?_) (fun l => ?_) j
  · refine (congrFun (piece70 _ _ _ _) (ix2 i l)).trans ?_
    exact turnKv_c0 P (k0_pay7 H w) C S i hP l
  · refine (congrFun (piece71 _ _ _ _) (ix2 i l)).trans ?_
    exact turnKv_c1 P (k0_pay7 H w) C S i hP l
  · refine (congrFun (piece72 _ _) (ix2 i l)).trans ?_
    exact turnKv_c2 P (k0_pay7 H w) C S i hP l
  · refine (congrFun (piece73 _ _) (ix2 i l)).trans ?_
    exact turnKv_c3 P (k0_pay7 H w) C S i hP l
/-- of those to select, -/
theorem out18_apply (i : Fin 256) (j : Fin 512) : out0_18 x0 x1 x2 x3 x4 x5 x6 x7 x8 x9 x10 x11 x12 (ix2 i j) = (fun x => turnKv (fun x : Fin 512 => projRow x0 x1 x2 x3 i (fun a x => x4 (ix2 a x)) ⟨2560 + x, by omega⟩) (fun l => x8 (ix2 i l)) (fun l => x9 (ix2 i l)) x) j := by
  have hP : ∀ x : Fin 512, k0_pay7 (k0_pay86 x0 x1 x2 x3 x4 x5 x6 x7 x8 x9 x10 x11 x12) (View.ld x4 r0_30) (ix2 i x) = (fun x : Fin 512 => projRow x0 x1 x2 x3 i (fun a x => x4 (ix2 a x)) ⟨2560 + x, by omega⟩) x := fun x => sel_apply x0 x1 x2 x3 x4 x5 x6 x7 x8 x9 x10 x11 x12 i x
  have hc : (fun l : Fin 128 => k0_pay89 x0 x1 x2 x3 x4 x5 x6 x7 x8 x9 x10 x11 x12 (ix2 i l)) = fun l => x8 (ix2 i l) := funext fun l => c128_apply x0 x1 x2 x3 x4 x5 x6 x7 x8 x9 x10 x11 x12 i l
  have hs : (fun l : Fin 128 => k0_pay90 x0 x1 x2 x3 x4 x5 x6 x7 x8 x9 x10 x11 x12 (ix2 i l)) = fun l => x9 (ix2 i l) := funext fun l => s128_apply x0 x1 x2 x3 x4 x5 x6 x7 x8 x9 x10 x11 x12 i l
  rw [← hc, ← hs]
  unfold out0_18 k0_pay96
  clear hc hs
  generalize (fun x : Fin 512 => projRow x0 x1 x2 x3 i (fun a x => x4 (ix2 a x)) ⟨2560 + x, by omega⟩) = P at hP ⊢
  generalize k0_pay86 x0 x1 x2 x3 x4 x5 x6 x7 x8 x9 x10 x11 x12 = H at hP ⊢
  generalize View.ld x4 r0_30 = w at hP ⊢
  generalize k0_pay89 x0 x1 x2 x3 x4 x5 x6 x7 x8 x9 x10 x11 x12 = C
  generalize k0_pay90 x0 x1 x2 x3 x4 x5 x6 x7 x8 x9 x10 x11 x12 = S
  refine canon4 _ _ _ _ (turnKv P (fun l => C (ix2 i l)) (fun l => S (ix2 i l))) i (fun l => ?_) (fun l => ?_) (fun l => ?_) (fun l => ?_) j
  · refine (congrFun (piece77 _ _ _ _) (ix2 i l)).trans ?_
    exact turnKv_c0 P (k0_pay7 H w) C S i hP l
  · refine (congrFun (piece78 _ _ _ _) (ix2 i l)).trans ?_
    exact turnKv_c1 P (k0_pay7 H w) C S i hP l
  · refine (congrFun (piece79 _ _) (ix2 i l)).trans ?_
    exact turnKv_c2 P (k0_pay7 H w) C S i hP l
  · refine (congrFun (piece80 _ _) (ix2 i l)).trans ?_
    exact turnKv_c3 P (k0_pay7 H w) C S i hP l
/-- of the window's, -/
theorem out19_apply (i : Fin 256) (j : Fin 512) : out0_19 x0 x1 x2 x3 x4 x5 x6 x7 x8 x9 x10 x11 x12 (ix2 i j) = (fun x => turnKv (fun x : Fin 512 => projRow x0 x1 x2 x3 i (fun a x => x4 (ix2 a x)) ⟨3072 + x, by omega⟩) (fun l => x8 (ix2 i l)) (fun l => x9 (ix2 i l)) x) j := by
  have hP : ∀ x : Fin 512, k0_pay7 (k0_pay86 x0 x1 x2 x3 x4 x5 x6 x7 x8 x9 x10 x11 x12) (View.ld x4 r0_31) (ix2 i x) = (fun x : Fin 512 => projRow x0 x1 x2 x3 i (fun a x => x4 (ix2 a x)) ⟨3072 + x, by omega⟩) x := fun x => win_apply x0 x1 x2 x3 x4 x5 x6 x7 x8 x9 x10 x11 x12 i x
  have hc : (fun l : Fin 128 => k0_pay89 x0 x1 x2 x3 x4 x5 x6 x7 x8 x9 x10 x11 x12 (ix2 i l)) = fun l => x8 (ix2 i l) := funext fun l => c128_apply x0 x1 x2 x3 x4 x5 x6 x7 x8 x9 x10 x11 x12 i l
  have hs : (fun l : Fin 128 => k0_pay90 x0 x1 x2 x3 x4 x5 x6 x7 x8 x9 x10 x11 x12 (ix2 i l)) = fun l => x9 (ix2 i l) := funext fun l => s128_apply x0 x1 x2 x3 x4 x5 x6 x7 x8 x9 x10 x11 x12 i l
  rw [← hc, ← hs]
  unfold out0_19
  clear hc hs
  generalize (fun x : Fin 512 => projRow x0 x1 x2 x3 i (fun a x => x4 (ix2 a x)) ⟨3072 + x, by omega⟩) = P at hP ⊢
  generalize k0_pay86 x0 x1 x2 x3 x4 x5 x6 x7 x8 x9 x10 x11 x12 = H at hP ⊢
  generalize View.ld x4 r0_31 = w at hP ⊢
  generalize k0_pay89 x0 x1 x2 x3 x4 x5 x6 x7 x8 x9 x10 x11 x12 = C
  generalize k0_pay90 x0 x1 x2 x3 x4 x5 x6 x7 x8 x9 x10 x11 x12 = S
  refine canon4 _ _ _ _ (turnKv P (fun l => C (ix2 i l)) (fun l => S (ix2 i l))) i (fun l => ?_) (fun l => ?_) (fun l => ?_) (fun l => ?_) j
  · refine (congrFun (piece82 _ _ _ _) (ix2 i l)).trans ?_
    exact turnKv_c0 P (k0_pay7 H w) C S i hP l
  · refine (congrFun (piece83 _ _ _ _) (ix2 i l)).trans ?_
    exact turnKv_c1 P (k0_pay7 H w) C S i hP l
  · refine (congrFun (piece84 _ _) (ix2 i l)).trans ?_
    exact turnKv_c2 P (k0_pay7 H w) C S i hP l
  · refine (congrFun (piece85 _ _) (ix2 i l)).trans ?_
    exact turnKv_c3 P (k0_pay7 H w) C S i hP l
/-- of transposed keys, turned, -/
theorem out14_apply (x : Fin 512) (t : Fin 256) : out0_14 x0 x1 x2 x3 x4 x5 x6 x7 x8 x9 x10 x11 x12 (ix3 0 x t)
    = turnT (fun x => projRow x0 x1 x2 x3 t (fun a x => x10 (ix2 x a)) x) (fun r => x11 (ix2 r t)) (fun r => x12 (ix2 r t)) x := by
  have hP : (fun x : Fin 512 => k0_pay92 x0 x1 x2 x3 x4 x5 x6 x7 x8 x9 x10 x11 x12 (ix2 x t)) = fun x => projRow x0 x1 x2 x3 t (fun a x => x10 (ix2 x a)) x := by
    funext x
    unfold k0_pay92
    rw [keys_apply]
    simp only [rows_apply]
    pointwise [proj]
    exact Finset.sum_congr rfl fun a _ => mul_comm _ _
  rw [← hP]
  unfold out0_14
  unfold k0_pay95 k0_pay93 k0_pay94
  generalize k0_pay92 x0 x1 x2 x3 x4 x5 x6 x7 x8 x9 x10 x11 x12 = K
  refine canon16 _ _ _ _ _ _ _ _ _ _ _ _ _ _ _ _ _ t (fun r => ?_) (fun r => ?_) (fun r => ?_) (fun r => ?_) (fun r => ?_) (fun r => ?_) (fun r => ?_) (fun r => ?_)
    (fun r => ?_) (fun r => ?_) (fun r => ?_) (fun r => ?_) (fun r => ?_) (fun r => ?_) (fun r => ?_) (fun r => ?_) x
  · refine Eq.trans ?_ (turnT_lo 0 (by decide) (by decide) _ _ _ r).symm
    pointwise [k0_pay23, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 0 (by decide) (by decide) _ _ _ r).symm
    pointwise [k0_pay24, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_lo 64 (by decide) (by decide) _ _ _ r).symm
    pointwise [k0_pay27, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 64 (by decide) (by decide) _ _ _ r).symm
    pointwise [k0_pay28, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_lo 128 (by decide) (by decide) _ _ _ r).symm
    pointwise [k0_pay32, k0_pay31, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 128 (by decide) (by decide) _ _ _ r).symm
    pointwise [k0_pay33, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_lo 192 (by decide) (by decide) _ _ _ r).symm
    pointwise [k0_pay36, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 192 (by decide) (by decide) _ _ _ r).symm
    pointwise [k0_pay37, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_lo 256 (by decide) (by decide) _ _ _ r).symm
    pointwise [k0_pay40, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 256 (by decide) (by decide) _ _ _ r).symm
    pointwise [k0_pay41, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_lo 320 (by decide) (by decide) _ _ _ r).symm
    pointwise [k0_pay45, k0_pay44, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 320 (by decide) (by decide) _ _ _ r).symm
    pointwise [k0_pay46, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_lo 384 (by decide) (by decide) _ _ _ r).symm
    pointwise [k0_pay49, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 384 (by decide) (by decide) _ _ _ r).symm
    pointwise [k0_pay50, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_lo 448 (by decide) (by decide) _ _ _ r).symm
    pointwise [k0_pay53, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
  · refine Eq.trans ?_ (turnT_hi 448 (by decide) (by decide) _ _ _ r).symm
    pointwise [k0_pay55, k0_pay54, k0_pay19, k0_pay20, k0_pay21, k0_pay22, k0_pay25, k0_pay26, k0_pay29, k0_pay30, k0_pay34, k0_pay35, k0_pay38, k0_pay39, k0_pay42, k0_pay43, k0_pay47, k0_pay48, k0_pay51, k0_pay52]
/-- and of the gates. -/
theorem out20_apply (i : Fin 256) (g : Fin 128) : out0_20 x0 x1 x2 x3 x4 x5 x6 x7 x8 x9 x10 x11 x12 (ix2 i g) = Ideal.logistic (projRow x0 x1 x2 x3 i (fun a x => x5 (ix2 a x)) g) := by
  unfold out0_20
  have e : (ix2 i g : S256x128.Idx) = r0_3.emb (ix2 i g) := by blk_ext [r0_3]
  rw [e]
  refine (View.canon_cons_emb r0_3 _ [] _).trans ?_
  rw [gates_apply]
  simp only [rows_apply]
  pointwise [proj]

end Cert.EvenInIdeal.In
end
-- ==== Proof.In.EvenRef.lean ====
/- The reference of the attention layer's input call, read at an index over the extended reals. -/
module

public import proofs.«01_k».proof.Proof.Gen.EvenInRefIdeal
public import proofs.«01_k».proof.Proof.Out.GlaRef
public import proofs.«01_k».proof.Proof.In.Rope

@[expose] public section

set_option maxRecDepth 16384

noncomputable section

namespace Cert.EvenInRefIdeal.In

open Cert.EvenInRefIdeal Cert.EvenInRefIdeal.Gen Cert.Out Cert.In Idealize.ShloMosaic
open Cert.GlaOutRefIdeal.Out (vec modulate vec_apply modulate_apply)

/-- The projection of every token's row, -/
def projected (y : FVec Ideal S4x4096x1024 .f32) (md : FVec Ideal S4x6144 .f32) (nw : FVec Ideal S1024 .f32) (w : FVec Ideal S1024x3596 .f32) : FVec Ideal S4x4096x3596 .f32 :=
  Host.dotGeneral dot_S4x4096x1024_S1024x3596_S4x4096x3596_2_0_01_1_n_n none (modulate y nw (vec md 0 slices_S4x6x1024_S4x1x1024_0_0_0) (vec md 1 slices_S4x6x1024_S4x1x1024_0_1_0)) w
/-- the positions, -/
def positions : FVec Ideal S4096 .f32 := sitofp .f32 (iotaInDim S4096 32 0)
/-- the angles of width-64 heads -/
def angles64 : FVec Ideal S4096x32 .f32 :=
  mulf (broadcastInDim S4096x32 ![0, 1] bcast_S4096x1_S4096x32_0_1 (broadcastInDim S4096x1 ![0] bcast_S4096_S4096x1_0 positions))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
            (mulf (broadcastInDim S32 ![] bcast_S_S32 (constant S_ .f32 0x40000000#32)) (sitofp .f32 (iotaInDim S32 32 0)))))
          (broadcastInDim S32 ![] bcast_S_S32 (constant S_ .f32 0x42800000#32))))))
/-- and of width-128 heads. -/
def angles128 : FVec Ideal S4096x64 .f32 :=
  mulf (broadcastInDim S4096x64 ![0, 1] bcast_S4096x1_S4096x64_0_1 (broadcastInDim S4096x1 ![0] bcast_S4096_S4096x1_0 positions))
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

/-- A position's row spread over all heads: width-64 heads, -/
def spread64 (a : FVec Ideal S4096x1x1x32 .f32) : FVec Ideal S4x4096x4x2x32 .f32 :=
  broadcastInDim S4x4096x4x2x32 ![0, 1, 2, 3, 4] bcast_S1x4096x1x1x32_S4x4096x4x2x32_0_1_2_3_4 (broadcastInDim S1x4096x1x1x32 ![1, 2, 3, 4] bcast_S4096x1x1x32_S1x4096x1x1x32_1_2_3_4 a)
/-- width-128 heads in groups, -/
def spread128 (a : FVec Ideal S4096x1x1x64 .f32) : FVec Ideal S4x4096x2x2x64 .f32 :=
  broadcastInDim S4x4096x2x2x64 ![0, 1, 2, 3, 4] bcast_S1x4096x1x1x64_S4x4096x2x2x64_0_1_2_3_4 (broadcastInDim S1x4096x1x1x64 ![1, 2, 3, 4] bcast_S4096x1x1x64_S1x4096x1x1x64_1_2_3_4 a)
/-- and alone. -/
def spreadKv (a : FVec Ideal S4096x1x64 .f32) : FVec Ideal S4x4096x2x64 .f32 :=
  broadcastInDim S4x4096x2x64 ![0, 1, 2, 3] bcast_S1x4096x1x64_S4x4096x2x64_0_1_2_3 (broadcastInDim S1x4096x1x64 ![1, 2, 3] bcast_S4096x1x64_S1x4096x1x64_1_2_3 a)

/-- Rotary embedding from two halves: width-64 heads, -/
def ropeOf64 (lo hi c s : FVec Ideal S4x4096x4x2x32 .f32) : FVec Ideal S4x4096x4x2x64 .f32 :=
  concatenate S4x4096x4x2x64 4 [⟨S4x4096x4x2x32, subf (mulf lo c) (mulf hi s)⟩, ⟨S4x4096x4x2x32, addf (mulf hi c) (mulf lo s)⟩] concatenates_S4x4096x4x2x32_S4x4096x4x2x32_S4x4096x4x2x64_d4
/-- width-128 heads in groups, -/
def ropeOf128 (lo hi c s : FVec Ideal S4x4096x2x2x64 .f32) : FVec Ideal S4x4096x2x2x128 .f32 :=
  concatenate S4x4096x2x2x128 4 [⟨S4x4096x2x2x64, subf (mulf lo c) (mulf hi s)⟩, ⟨S4x4096x2x2x64, addf (mulf hi c) (mulf lo s)⟩] concatenates_S4x4096x2x2x64_S4x4096x2x2x64_S4x4096x2x2x128_d4
/-- and alone. -/
def ropeOfKv (lo hi c s : FVec Ideal S4x4096x2x64 .f32) : FVec Ideal S4x4096x2x128 .f32 :=
  concatenate S4x4096x2x128 3 [⟨S4x4096x2x64, subf (mulf lo c) (mulf hi s)⟩, ⟨S4x4096x2x64, addf (mulf hi c) (mulf lo s)⟩] concatenates_S4x4096x2x64_S4x4096x2x64_S4x4096x2x128_d3

def rope64 (x : FVec Ideal S4x4096x4x2x64 .f32) : FVec Ideal S4x4096x4x2x64 .f32 :=
  ropeOf64 (extractStridedSlice S4x4096x4x2x32 ![0, 0, 0, 0, 0] x slices_S4x4096x4x2x64_S4x4096x4x2x32_0_0_0_0_0)
    (extractStridedSlice S4x4096x4x2x32 ![0, 0, 0, 0, 32] x slices_S4x4096x4x2x64_S4x4096x4x2x32_0_0_0_0_32)
    (spread64 (Host.cos (shapeCast _ angles64 shapeCasts_S4096x32_S4096x1x1x32))) (spread64 (Host.sin (shapeCast _ angles64 shapeCasts_S4096x32_S4096x1x1x32)))
def rope128 (x : FVec Ideal S4x4096x2x2x128 .f32) : FVec Ideal S4x4096x2x2x128 .f32 :=
  ropeOf128 (extractStridedSlice S4x4096x2x2x64 ![0, 0, 0, 0, 0] x slices_S4x4096x2x2x128_S4x4096x2x2x64_0_0_0_0_0)
    (extractStridedSlice S4x4096x2x2x64 ![0, 0, 0, 0, 64] x slices_S4x4096x2x2x128_S4x4096x2x2x64_0_0_0_0_64)
    (spread128 (Host.cos (shapeCast _ angles128 shapeCasts_S4096x64_S4096x1x1x64))) (spread128 (Host.sin (shapeCast _ angles128 shapeCasts_S4096x64_S4096x1x1x64)))
def ropeKv (x : FVec Ideal S4x4096x2x128 .f32) : FVec Ideal S4x4096x2x128 .f32 :=
  ropeOfKv (extractStridedSlice S4x4096x2x64 ![0, 0, 0, 0] x slices_S4x4096x2x128_S4x4096x2x64_0_0_0_0)
    (extractStridedSlice S4x4096x2x64 ![0, 0, 0, 64] x slices_S4x4096x2x128_S4x4096x2x64_0_0_0_64)
    (spreadKv (Host.cos (shapeCast _ angles128 shapeCasts_S4096x64_S4096x1x64))) (spreadKv (Host.sin (shapeCast _ angles128 shapeCasts_S4096x64_S4096x1x64)))
/-- Keys and values side by side. -/
def stackKv (k v : FVec Ideal S4x4096x2x128 .f32) : FVec Ideal S4x4096x2x2x128 .f32 :=
  concatenate S4x4096x2x2x128 2 [⟨S4x4096x1x2x128, broadcastInDim S4x4096x1x2x128 ![0, 1, 3, 4] bcast_S4x4096x2x128_S4x4096x1x2x128_0_1_3_4 k⟩,
    ⟨S4x4096x1x2x128, broadcastInDim S4x4096x1x2x128 ![0, 1, 3, 4] bcast_S4x4096x2x128_S4x4096x1x2x128_0_1_3_4 v⟩] concatenates_S4x4096x1x2x128_S4x4096x1x2x128_S4x4096x2x2x128_d2

/-- The half angles of position `t`, -/
def ang64 (t : Fin 4096) (f : Fin 32) : EReal := angles64 (ix2 t f)
def ang128 (t : Fin 4096) (f : Fin 64) : EReal := angles128 (ix2 t f)
/-- the row of projections. -/
abbrev row (p : FVec Ideal S4x4096x3596 .f32) (b : Fin 4) (t : Fin 4096) (x : Fin 3596) : EReal := p (ix3 b t x)

theorem projected_apply (y : FVec Ideal S4x4096x1024 .f32) (md : FVec Ideal S4x6144 .f32) (nw : FVec Ideal S1024 .f32) (w : FVec Ideal S1024x3596 .f32) (b : Fin 4) (i : Fin 4096) (x : Fin 3596) :
    projected y md nw w (ix3 b i x) = proj (fun j => y (ix3 b i j)) (fun j => nw (ix1 j)) (fun j => md (ix2 b (part 0 j))) (fun j => md (ix2 b (part 1 j))) (fun a x => w (ix2 a x)) x := by
  unfold projected
  generalize hx : modulate y nw _ _ = X
  pointwise []
  subst hx
  simp only [modulate_apply, vec_apply _ 0 (by decide), vec_apply _ 1 (by decide)]
  rfl

theorem spread64_cos (t : Fin 4096) (b h : Fin 4) (e : Fin 2) (d : Fin 32) :
    spread64 (Host.cos (shapeCast _ angles64 shapeCasts_S4096x32_S4096x1x1x32)) (ix5 b t h e d) = Ideal.cos (ang64 t d) := by
  unfold ang64
  generalize angles64 = A
  pointwise [spread64]
theorem spread64_sin (t : Fin 4096) (b h : Fin 4) (e : Fin 2) (d : Fin 32) :
    spread64 (Host.sin (shapeCast _ angles64 shapeCasts_S4096x32_S4096x1x1x32)) (ix5 b t h e d) = Ideal.sin (ang64 t d) := by
  unfold ang64
  generalize angles64 = A
  pointwise [spread64]
theorem spread128_cos (t : Fin 4096) (b : Fin 4) (h e : Fin 2) (d : Fin 64) :
    spread128 (Host.cos (shapeCast _ angles128 shapeCasts_S4096x64_S4096x1x1x64)) (ix5 b t h e d) = Ideal.cos (ang128 t d) := by
  unfold ang128
  generalize angles128 = A
  pointwise [spread128]
theorem spread128_sin (t : Fin 4096) (b : Fin 4) (h e : Fin 2) (d : Fin 64) :
    spread128 (Host.sin (shapeCast _ angles128 shapeCasts_S4096x64_S4096x1x1x64)) (ix5 b t h e d) = Ideal.sin (ang128 t d) := by
  unfold ang128
  generalize angles128 = A
  pointwise [spread128]
theorem spreadKv_cos (t : Fin 4096) (b : Fin 4) (h : Fin 2) (d : Fin 64) :
    spreadKv (Host.cos (shapeCast _ angles128 shapeCasts_S4096x64_S4096x1x64)) (ix4 b t h d) = Ideal.cos (ang128 t d) := by
  unfold ang128
  generalize angles128 = A
  pointwise [spreadKv]
theorem spreadKv_sin (t : Fin 4096) (b : Fin 4) (h : Fin 2) (d : Fin 64) :
    spreadKv (Host.sin (shapeCast _ angles128 shapeCasts_S4096x64_S4096x1x64)) (ix4 b t h d) = Ideal.sin (ang128 t d) := by
  unfold ang128
  generalize angles128 = A
  pointwise [spreadKv]

/-- A turned head is the turned row's: width-64 heads, -/
theorem rope64_apply (x : FVec Ideal S4x4096x4x2x64 .f32) (P : Fin 512 → EReal) (b h : Fin 4) (t : Fin 4096) (e : Fin 2)
    (hP : ∀ d : Fin 64, x (ix5 b t h e d) = P ⟨128 * (h : ℕ) + 64 * (e : ℕ) + d, by omega⟩) (d : Fin 64) :
    rope64 x (ix5 b t h e d) = turnT P (fun f => Ideal.cos (ang64 t f)) (fun f => Ideal.sin (ang64 t f)) ⟨128 * (h : ℕ) + 64 * (e : ℕ) + d, by omega⟩ := by
  unfold rope64
  have hc := spread64_cos t b h e
  have hs := spread64_sin t b h e
  generalize spread64 (Host.cos _) = C at hc ⊢
  generalize spread64 (Host.sin _) = S at hs ⊢
  pointwise [ropeOf64]
  simp only [hc, hs, hP]
  by_cases hd : (d : ℕ) < 32
  · have key := turnT_lo (128 * (h : ℕ) + 64 * (e : ℕ)) (by omega) (by omega) P (fun f => Ideal.cos (ang64 t f)) (fun f => Ideal.sin (ang64 t f)) ⟨d, hd⟩
    rw [dif_pos hd]
    refine Eq.trans ?_ key.symm
    refine congrArg (fun z => _ - P z * _) (Fin.ext ?_)
    show 128 * (h : ℕ) + 64 * (e : ℕ) + (32 + (d : ℕ)) = 128 * (h : ℕ) + 64 * (e : ℕ) + 32 + (d : ℕ)
    omega
  · have key := turnT_hi (128 * (h : ℕ) + 64 * (e : ℕ)) (by omega) (by omega) P (fun f => Ideal.cos (ang64 t f)) (fun f => Ideal.sin (ang64 t f)) ⟨d - 32, by omega⟩
    have hi : (⟨128 * (h : ℕ) + 64 * (e : ℕ) + d, by omega⟩ : Fin 512) = ⟨128 * (h : ℕ) + 64 * (e : ℕ) + 32 + ((d : ℕ) - 32), by omega⟩ :=
      Fin.ext (show 128 * (h : ℕ) + 64 * (e : ℕ) + (d : ℕ) = 128 * (h : ℕ) + 64 * (e : ℕ) + 32 + ((d : ℕ) - 32) by omega)
    rw [dif_neg hd, hi]
    refine Eq.trans ?_ key.symm
    refine congrArg (fun z => P z * _ + _) (Fin.ext ?_)
    show 128 * (h : ℕ) + 64 * (e : ℕ) + (32 + ((d : ℕ) - 32)) = 128 * (h : ℕ) + 64 * (e : ℕ) + 32 + ((d : ℕ) - 32)
    omega
/-- width-128 heads in groups, -/
theorem rope128_apply (x : FVec Ideal S4x4096x2x2x128 .f32) (P : Fin 512 → EReal) (b : Fin 4) (t : Fin 4096) (h e : Fin 2)
    (hP : ∀ d : Fin 128, x (ix5 b t h e d) = P ⟨256 * (h : ℕ) + 128 * (e : ℕ) + d, by omega⟩) (d : Fin 128) :
    rope128 x (ix5 b t h e d) = turnU P (fun f => Ideal.cos (ang128 t f)) (fun f => Ideal.sin (ang128 t f)) ⟨256 * (h : ℕ) + 128 * (e : ℕ) + d, by omega⟩ := by
  unfold rope128
  have hc := spread128_cos t b h e
  have hs := spread128_sin t b h e
  generalize spread128 (Host.cos _) = C at hc ⊢
  generalize spread128 (Host.sin _) = S at hs ⊢
  pointwise [ropeOf128]
  simp only [hc, hs, hP]
  by_cases hd : (d : ℕ) < 64
  · have key := turnU_lo (256 * (h : ℕ) + 128 * (e : ℕ)) (by omega) (by omega) P (fun f => Ideal.cos (ang128 t f)) (fun f => Ideal.sin (ang128 t f)) ⟨d, hd⟩
    rw [dif_pos hd]
    refine Eq.trans ?_ key.symm
    refine congrArg (fun z => _ - P z * _) (Fin.ext ?_)
    show 256 * (h : ℕ) + 128 * (e : ℕ) + (64 + (d : ℕ)) = 256 * (h : ℕ) + 128 * (e : ℕ) + 64 + (d : ℕ)
    omega
  · have key := turnU_hi (256 * (h : ℕ) + 128 * (e : ℕ)) (by omega) (by omega) P (fun f => Ideal.cos (ang128 t f)) (fun f => Ideal.sin (ang128 t f)) ⟨d - 64, by omega⟩
    have hi : (⟨256 * (h : ℕ) + 128 * (e : ℕ) + d, by omega⟩ : Fin 512) = ⟨256 * (h : ℕ) + 128 * (e : ℕ) + 64 + ((d : ℕ) - 64), by omega⟩ :=
      Fin.ext (show 256 * (h : ℕ) + 128 * (e : ℕ) + (d : ℕ) = 256 * (h : ℕ) + 128 * (e : ℕ) + 64 + ((d : ℕ) - 64) by omega)
    rw [dif_neg hd, hi]
    refine Eq.trans ?_ key.symm
    refine congrArg (fun z => P z * _ + _) (Fin.ext ?_)
    show 256 * (h : ℕ) + 128 * (e : ℕ) + (64 + ((d : ℕ) - 64)) = 256 * (h : ℕ) + 128 * (e : ℕ) + 64 + ((d : ℕ) - 64)
    omega
/-- and alone. -/
theorem ropeKv_apply (x : FVec Ideal S4x4096x2x128 .f32) (P : Fin 512 → EReal) (b : Fin 4) (t : Fin 4096) (h : Fin 2)
    (hP : ∀ d : Fin 128, x (ix4 b t h d) = P ⟨128 * (h : ℕ) + d, by omega⟩) (d : Fin 128) :
    ropeKv x (ix4 b t h d) = turnU P (fun f => Ideal.cos (ang128 t f)) (fun f => Ideal.sin (ang128 t f)) ⟨128 * (h : ℕ) + d, by omega⟩ := by
  unfold ropeKv
  have hc := spreadKv_cos t b h
  have hs := spreadKv_sin t b h
  generalize spreadKv (Host.cos _) = C at hc ⊢
  generalize spreadKv (Host.sin _) = S at hs ⊢
  pointwise [ropeOfKv]
  simp only [hc, hs, hP]
  by_cases hd : (d : ℕ) < 64
  · have key := turnU_lo (128 * (h : ℕ)) (by omega) (by omega) P (fun f => Ideal.cos (ang128 t f)) (fun f => Ideal.sin (ang128 t f)) ⟨d, hd⟩
    rw [dif_pos hd]
    refine Eq.trans ?_ key.symm
    refine congrArg (fun z => _ - P z * _) (Fin.ext ?_)
    show 128 * (h : ℕ) + (64 + (d : ℕ)) = 128 * (h : ℕ) + 64 + (d : ℕ)
    omega
  · have key := turnU_hi (128 * (h : ℕ)) (by omega) (by omega) P (fun f => Ideal.cos (ang128 t f)) (fun f => Ideal.sin (ang128 t f)) ⟨d - 64, by omega⟩
    have hi : (⟨128 * (h : ℕ) + d, by omega⟩ : Fin 512) = ⟨128 * (h : ℕ) + 64 + ((d : ℕ) - 64), by omega⟩ :=
      Fin.ext (show 128 * (h : ℕ) + (d : ℕ) = 128 * (h : ℕ) + 64 + ((d : ℕ) - 64) by omega)
    rw [dif_neg hd, hi]
    refine Eq.trans ?_ key.symm
    refine congrArg (fun z => P z * _ + _) (Fin.ext ?_)
    show 128 * (h : ℕ) + (64 + ((d : ℕ) - 64)) = 128 * (h : ℕ) + 64 + ((d : ℕ) - 64)
    omega

/-- Keys, turned, and values side by side. -/
theorem stackKv_apply (k v : FVec Ideal S4x4096x2x128 .f32) (P : Fin 512 → EReal) (b : Fin 4) (t : Fin 4096)
    (hk : ∀ (h : Fin 2) (d : Fin 128), k (ix4 b t h d) = P ⟨128 * (h : ℕ) + d, by omega⟩) (hv : ∀ (h : Fin 2) (d : Fin 128), v (ix4 b t h d) = P ⟨256 + 128 * (h : ℕ) + d, by omega⟩)
    (e h : Fin 2) (d : Fin 128) :
    stackKv (ropeKv k) v (ix5 b t e h d) = turnUv P (fun f => Ideal.cos (ang128 t f)) (fun f => Ideal.sin (ang128 t f)) ⟨256 * (e : ℕ) + 128 * (h : ℕ) + d, by omega⟩ := by
  have hr := fun h d => ropeKv_apply k P b t h (hk h) d
  generalize ropeKv k = K at hr ⊢
  pointwise [stackKv]
  unfold turnUv
  by_cases he : (e : ℕ) < 1
  · rw [dif_pos he, if_pos (show 256 * (e : ℕ) + 128 * (h : ℕ) + (d : ℕ) < 256 by omega), hr]
    refine congrArg (turnU P _ _) (Fin.ext ?_)
    show 128 * (h : ℕ) + (d : ℕ) = 256 * (e : ℕ) + 128 * (h : ℕ) + (d : ℕ)
    omega
  · rw [dif_neg he, if_neg (show ¬256 * (e : ℕ) + 128 * (h : ℕ) + (d : ℕ) < 256 by omega), hv]
    refine congrArg P (Fin.ext ?_)
    show 256 + 128 * (h : ℕ) + (d : ℕ) = 256 * (e : ℕ) + 128 * (h : ℕ) + (d : ℕ)
    omega

/-! The reference's results. -/

/-- Equal columns read equal values. -/
theorem at_eq (f : Fin 3596 → EReal) {a b : ℕ} (ha : a < 3596) (hb : b < 3596) (h : a = b) : f ⟨a, ha⟩ = f ⟨b, hb⟩ := by
  subst h
  rfl

def queriesA (p : FVec Ideal S4x4096x3596 .f32) : FVec Ideal S16384x512 .f32 :=
  shapeCast _ (rope64 (shapeCast _ (extractStridedSlice S4x4096x512 ![0, 0, 0] p slices_S4x4096x3596_S4x4096x512_0_0_0) shapeCasts_S4x4096x512_S4x4096x4x2x64)) shapeCasts_S4x4096x4x2x64_S16384x512
def keysA (p : FVec Ideal S4x4096x3596 .f32) : FVec Ideal S4x4096x4x2x64 .f32 :=
  rope64 (shapeCast _ (extractStridedSlice S4x4096x512 ![0, 0, 512] p slices_S4x4096x3596_S4x4096x512_0_0_512) shapeCasts_S4x4096x512_S4x4096x4x2x64)
def valuesA (p : FVec Ideal S4x4096x3596 .f32) : FVec Ideal S4x4096x4x128 .f32 :=
  shapeCast _ (extractStridedSlice S4x4096x512 ![0, 0, 1024] p slices_S4x4096x3596_S4x4096x512_0_0_1024) shapeCasts_S4x4096x512_S4x4096x4x128
def queriesB (p : FVec Ideal S4x4096x3596 .f32) : FVec Ideal S16384x512 .f32 :=
  shapeCast _ (rope128 (shapeCast _ (extractStridedSlice S4x4096x512 ![0, 0, 1536] p slices_S4x4096x3596_S4x4096x512_0_0_1536) shapeCasts_S4x4096x512_S4x4096x2x2x128)) shapeCasts_S4x4096x2x2x128_S16384x512
def kvCmp (p : FVec Ideal S4x4096x3596 .f32) : FVec Ideal S4x4096x2x2x128 .f32 :=
  stackKv (ropeKv (shapeCast _ (extractStridedSlice S4x4096x256 ![0, 0, 2048] p slices_S4x4096x3596_S4x4096x256_0_0_2048) shapeCasts_S4x4096x256_S4x4096x2x128))
    (shapeCast _ (extractStridedSlice S4x4096x256 ![0, 0, 2304] p slices_S4x4096x3596_S4x4096x256_0_0_2304) shapeCasts_S4x4096x256_S4x4096x2x128)
def kvSel (p : FVec Ideal S4x4096x3596 .f32) : FVec Ideal S4x4096x2x2x128 .f32 :=
  stackKv (ropeKv (shapeCast _ (extractStridedSlice S4x4096x256 ![0, 0, 2560] p slices_S4x4096x3596_S4x4096x256_0_0_2560) shapeCasts_S4x4096x256_S4x4096x2x128))
    (shapeCast _ (extractStridedSlice S4x4096x256 ![0, 0, 2816] p slices_S4x4096x3596_S4x4096x256_0_0_2816) shapeCasts_S4x4096x256_S4x4096x2x128)
def kvWin (p : FVec Ideal S4x4096x3596 .f32) : FVec Ideal S4x4096x2x2x128 .f32 :=
  stackKv (ropeKv (shapeCast _ (extractStridedSlice S4x4096x256 ![0, 0, 3072] p slices_S4x4096x3596_S4x4096x256_0_0_3072) shapeCasts_S4x4096x256_S4x4096x2x128))
    (shapeCast _ (extractStridedSlice S4x4096x256 ![0, 0, 3328] p slices_S4x4096x3596_S4x4096x256_0_0_3328) shapeCasts_S4x4096x256_S4x4096x2x128)
def winRows (p : FVec Ideal S4x4096x3596 .f32) : FVec Ideal S16384x512 .f32 := shapeCast _ (kvWin p) shapeCasts_S4x4096x2x2x128_S16384x512
def winTail (p : FVec Ideal S4x4096x3596 .f32) : FVec Ideal S4x512x2x2x128 .f32 := extractStridedSlice S4x512x2x2x128 ![0, 3584, 0, 0, 0] (kvWin p) slices_S4x4096x2x2x128_S4x512x2x2x128_0_3584_0_0_0
def gates (p : FVec Ideal S4x4096x3596 .f32) : FVec Ideal S16384x12 .f32 :=
  shapeCast _ (Host.divf (broadcastInDim S4x4096x12 ![] bcast_S_S4x4096x12 (constant S_ .f32 0x3F800000#32)) (addf (broadcastInDim S4x4096x12 ![] bcast_S_S4x4096x12 (constant S_ .f32 0x3F800000#32))
    (Host.exp (Host.negf (extractStridedSlice S4x4096x12 ![0, 0, 3584] p slices_S4x4096x3596_S4x4096x12_0_0_3584))))) shapeCasts_S4x4096x12_S16384x12

theorem keysA_apply (p : FVec Ideal S4x4096x3596 .f32) (b h : Fin 4) (t : Fin 4096) (e : Fin 2) (d : Fin 64) :
    keysA p (ix5 b t h e d) = turnT (fun x => p (ix3 b t ⟨512 + x, by omega⟩)) (fun f => Ideal.cos (ang64 t f)) (fun f => Ideal.sin (ang64 t f)) ⟨128 * (h : ℕ) + 64 * (e : ℕ) + d, by omega⟩ := by
  unfold keysA
  refine rope64_apply _ (fun x => p (ix3 b t ⟨512 + x, by omega⟩)) b h t e (fun d => ?_) d
  pointwise []
  exact at_eq (fun z => p (ix3 b t z)) _ _ (by omega)
theorem valuesA_apply (p : FVec Ideal S4x4096x3596 .f32) (b h : Fin 4) (t : Fin 4096) (d : Fin 128) :
    valuesA p (ix4 b t h d) = p (ix3 b t ⟨1024 + (128 * (h : ℕ) + d), by omega⟩) := by
  pointwise [valuesA]
  exact at_eq (fun z => p (ix3 b t z)) _ _ (by omega)
theorem queriesA_apply (p : FVec Ideal S4x4096x3596 .f32) (r : Fin 16384) (x : Fin 512) :
    queriesA p (ix2 r x) = turnT (fun x => p (ix3 (seq r) (pos r) ⟨x, by omega⟩)) (fun f => Ideal.cos (ang64 (pos r) f)) (fun f => Ideal.sin (ang64 (pos r) f)) x := by
  unfold queriesA
  have hr := fun h e => rope64_apply (shapeCast _ (extractStridedSlice S4x4096x512 ![0, 0, 0] p slices_S4x4096x3596_S4x4096x512_0_0_0) shapeCasts_S4x4096x512_S4x4096x4x2x64)
    (fun x => p (ix3 (seq r) (pos r) ⟨x, by omega⟩)) (seq r) h (pos r) e (fun d => by
      pointwise []
      exact at_eq (fun z => p (ix3 (seq r) (pos r) z)) _ _ (by omega))
  generalize rope64 _ = R at hr ⊢
  pointwise []
  refine (hr ⟨(x : ℕ) / 128, by omega⟩ ⟨(x : ℕ) / 64 % 2, by omega⟩ ⟨(x : ℕ) % 64, by omega⟩).trans ?_
  refine congrArg (turnT _ _ _) (Fin.ext ?_)
  show 128 * ((x : ℕ) / 128) + 64 * ((x : ℕ) / 64 % 2) + (x : ℕ) % 64 = (x : ℕ)
  omega
theorem queriesB_apply (p : FVec Ideal S4x4096x3596 .f32) (r : Fin 16384) (x : Fin 512) :
    queriesB p (ix2 r x) = turnU (fun x => p (ix3 (seq r) (pos r) ⟨1536 + x, by omega⟩)) (fun f => Ideal.cos (ang128 (pos r) f)) (fun f => Ideal.sin (ang128 (pos r) f)) x := by
  unfold queriesB
  have hr := fun h e => rope128_apply (shapeCast _ (extractStridedSlice S4x4096x512 ![0, 0, 1536] p slices_S4x4096x3596_S4x4096x512_0_0_1536) shapeCasts_S4x4096x512_S4x4096x2x2x128)
    (fun x => p (ix3 (seq r) (pos r) ⟨1536 + x, by omega⟩)) (seq r) (pos r) h e (fun d => by
      pointwise []
      exact at_eq (fun z => p (ix3 (seq r) (pos r) z)) _ _ (by omega))
  generalize rope128 _ = R at hr ⊢
  pointwise []
  refine (hr ⟨(x : ℕ) / 256, by omega⟩ ⟨(x : ℕ) / 128 % 2, by omega⟩ ⟨(x : ℕ) % 128, by omega⟩).trans ?_
  refine congrArg (turnU _ _ _) (Fin.ext ?_)
  show 256 * ((x : ℕ) / 256) + 128 * ((x : ℕ) / 128 % 2) + (x : ℕ) % 128 = (x : ℕ)
  omega
theorem kvCmp_apply (p : FVec Ideal S4x4096x3596 .f32) (b : Fin 4) (t : Fin 4096) (e h : Fin 2) (d : Fin 128) :
    kvCmp p (ix5 b t e h d) = turnUv (fun x => p (ix3 b t ⟨2048 + x, by omega⟩)) (fun f => Ideal.cos (ang128 t f)) (fun f => Ideal.sin (ang128 t f)) ⟨256 * (e : ℕ) + 128 * (h : ℕ) + d, by omega⟩ := by
  unfold kvCmp
  refine stackKv_apply _ _ (fun x => p (ix3 b t ⟨2048 + x, by omega⟩)) b t (fun h d => ?_) (fun h d => ?_) e h d
  · pointwise []
    exact at_eq (fun z => p (ix3 b t z)) _ _ (by omega)
  · pointwise []
    exact at_eq (fun z => p (ix3 b t z)) _ _ (by omega)
theorem kvSel_apply (p : FVec Ideal S4x4096x3596 .f32) (b : Fin 4) (t : Fin 4096) (e h : Fin 2) (d : Fin 128) :
    kvSel p (ix5 b t e h d) = turnUv (fun x => p (ix3 b t ⟨2560 + x, by omega⟩)) (fun f => Ideal.cos (ang128 t f)) (fun f => Ideal.sin (ang128 t f)) ⟨256 * (e : ℕ) + 128 * (h : ℕ) + d, by omega⟩ := by
  unfold kvSel
  refine stackKv_apply _ _ (fun x => p (ix3 b t ⟨2560 + x, by omega⟩)) b t (fun h d => ?_) (fun h d => ?_) e h d
  · pointwise []
    exact at_eq (fun z => p (ix3 b t z)) _ _ (by omega)
  · pointwise []
    exact at_eq (fun z => p (ix3 b t z)) _ _ (by omega)
theorem kvWin_apply (p : FVec Ideal S4x4096x3596 .f32) (b : Fin 4) (t : Fin 4096) (e h : Fin 2) (d : Fin 128) :
    kvWin p (ix5 b t e h d) = turnUv (fun x => p (ix3 b t ⟨3072 + x, by omega⟩)) (fun f => Ideal.cos (ang128 t f)) (fun f => Ideal.sin (ang128 t f)) ⟨256 * (e : ℕ) + 128 * (h : ℕ) + d, by omega⟩ := by
  unfold kvWin
  refine stackKv_apply _ _ (fun x => p (ix3 b t ⟨3072 + x, by omega⟩)) b t (fun h d => ?_) (fun h d => ?_) e h d
  · pointwise []
    exact at_eq (fun z => p (ix3 b t z)) _ _ (by omega)
  · pointwise []
    exact at_eq (fun z => p (ix3 b t z)) _ _ (by omega)
theorem winRows_apply (p : FVec Ideal S4x4096x3596 .f32) (r : Fin 16384) (x : Fin 512) :
    winRows p (ix2 r x) = turnUv (fun x => p (ix3 (seq r) (pos r) ⟨3072 + x, by omega⟩)) (fun f => Ideal.cos (ang128 (pos r) f)) (fun f => Ideal.sin (ang128 (pos r) f)) x := by
  unfold winRows
  have hr := kvWin_apply p (seq r) (pos r)
  generalize kvWin p = R at hr ⊢
  pointwise []
  refine (hr ⟨(x : ℕ) / 256, by omega⟩ ⟨(x : ℕ) / 128 % 2, by omega⟩ ⟨(x : ℕ) % 128, by omega⟩).trans ?_
  refine congrArg (turnUv _ _ _) (Fin.ext ?_)
  show 256 * ((x : ℕ) / 256) + 128 * ((x : ℕ) / 128 % 2) + (x : ℕ) % 128 = (x : ℕ)
  omega
theorem winTail_apply (p : FVec Ideal S4x4096x3596 .f32) (b : Fin 4) (t : Fin 512) (e h : Fin 2) (d : Fin 128) :
    winTail p (ix5 b t e h d) = kvWin p (ix5 b ⟨3584 + t, by omega⟩ e h d) := by
  unfold winTail
  generalize kvWin p = R
  pointwise []
theorem gates_apply (p : FVec Ideal S4x4096x3596 .f32) (r : Fin 16384) (g : Fin 12) :
    gates p (ix2 r g) = Ideal.logistic (p (ix3 (seq r) (pos r) ⟨3584 + g, by omega⟩)) := by
  pointwise [gates, seq, pos]
  rfl

end Cert.EvenInRefIdeal.In
end
-- ==== Proof.In.EvenStaged.lean ====
/- The attention layer's input call over the extended reals: the arrays it stages. -/
module

public import proofs.«01_k».proof.Proof.In.EvenBlock
public import proofs.«01_k».proof.Proof.In.EvenRun
public import proofs.«01_k».proof.Proof.In.EvenRef

@[expose] public section

set_option maxRecDepth 16384

noncomputable section

namespace Cert.EvenInIdeal.In

open Cert.EvenInIdeal Cert.EvenInIdeal.Gen Cert.Out Cert.In
open Idealize.ShloMosaic Idealize.ShloMosaic.TcCoe Idealize.SL.Sem
open Cert.EvenInRefIdeal.In (ang64 ang128 angles64 angles128 positions)

variable (m : (ℓ : Loc nD τ sig) → Buf (Elt Ideal) ℓ) (c : Dev nD)

abbrev arrY : FVec Ideal S4x4096x1024 .f32 := m ((c.tc : Thread nD τ).loc main_arg0)
abbrev arrMod : FVec Ideal S4x6144 .f32 := m ((c.tc : Thread nD τ).loc main_arg1)
abbrev arrNw : FVec Ideal S1024 .f32 := m ((c.tc : Thread nD τ).loc main_arg2)
abbrev arrW : FVec Ideal S1024x3596 .f32 := m ((c.tc : Thread nD τ).loc main_arg3)

/-! The arrays the call stages, as the host hands them over. -/

/-- The integer zero the weights are padded with, as a float. -/
theorem pad_zero : (FloatOps.sitofp .f32 0#32 : Ideal .f32) = (0 : EReal) := by
  show ((((0#32 : BitVec 32).toInt : ℝ)) : EReal) = 0
  simp
theorem V1_apply (a : Fin 1024) (x : Fin 3584) : (V m c main_v1 : FVec Ideal S1024x3584 .bf16) (ix2 a x) = arrW m c (ix2 a ⟨x, by omega⟩) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
theorem V4_apply (a : Fin 1024) (g : Fin 128) : (V m c main_v4 : FVec Ideal S1024x128 .bf16) (ix2 a g) = if h : (g : ℕ) < 12 then arrW m c (ix2 a ⟨3584 + g, by omega⟩) else 0 := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
  rw [pad_zero]
theorem V82_apply (k : Fin 6) (b : Fin 4) (j : Fin 1024) : (V m c main_v82 : FVec Ideal S6x4x1x1024 .f32) (ix4 k b 0 j) = arrMod m c (ix2 b (part k j)) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise [part]
theorem V83_apply (j : Fin 1024) : (V m c main_v83 : FVec Ideal S1x1024 .f32) (ix2 0 j) = arrNw m c (ix1 j) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
theorem V85_apply (x : Fin 512) (a : Fin 1024) : (V m c main_v85 : FVec Ideal S512x1024 .bf16) (ix2 x a) = arrW m c (ix2 a ⟨512 + x, by omega⟩) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []

/-- The half angles, spelled out: width-64 heads, -/
theorem ang64_eq (t : Fin 4096) (f : Fin 32) : ang64 t f = FloatOps.sitofp (F := Ideal) .f32 (BitVec.ofNat 32 t)
    * Ideal.pow (Ideal.ofBits .f32 1176256512#32) (Ideal.div (-(Ideal.ofBits .f32 1073741824#32 * FloatOps.sitofp (F := Ideal) .f32 (BitVec.ofNat 32 f))) (Ideal.ofBits .f32 1115684864#32)) := by
  pointwise [ang64, angles64, positions]
/-- and width-128 heads. -/
theorem ang128_eq (t : Fin 4096) (f : Fin 64) : ang128 t f = FloatOps.sitofp (F := Ideal) .f32 (BitVec.ofNat 32 t)
    * Ideal.pow (Ideal.ofBits .f32 1176256512#32) (Ideal.div (-(Ideal.ofBits .f32 1073741824#32 * FloatOps.sitofp (F := Ideal) .f32 (BitVec.ofNat 32 f))) (Ideal.ofBits .f32 1124073472#32)) := by
  pointwise [ang128, angles128, positions]
theorem V27_apply (t : Fin 4096) (l : Fin 128) : (V m c main_v27 : FVec Ideal S4096x128 .f32) (ix2 t l) = Ideal.cos (ang64 t ⟨l % 32, Nat.mod_lt _ (by decide)⟩) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
  by_cases h : (l : ℕ) % 64 < 32
  · have e : (l : ℕ) % 32 = (l : ℕ) % 64 := by omega
    rw [dif_pos h, ang64_eq]
    simp only [e]
  · have e : (l : ℕ) % 32 = (l : ℕ) % 64 - 32 := by omega
    rw [dif_neg h, ang64_eq]
    simp only [e]
theorem V32_apply (t : Fin 4096) (l : Fin 128) : (V m c main_v32 : FVec Ideal S4096x128 .f32) (ix2 t l) = if (l : ℕ) % 64 < 32 then -Ideal.sin (ang64 t ⟨l % 32, Nat.mod_lt _ (by decide)⟩) else Ideal.sin (ang64 t ⟨l % 32, Nat.mod_lt _ (by decide)⟩) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
  by_cases h : (l : ℕ) % 64 < 32
  · have e : (l : ℕ) % 32 = (l : ℕ) % 64 := by omega
    rw [dif_pos h, if_pos h, ang64_eq]
    simp only [e]
  · have e : (l : ℕ) % 32 = (l : ℕ) % 64 - 32 := by omega
    rw [dif_neg h, if_neg h, ang64_eq]
    simp only [e]
theorem V55_apply (t : Fin 4096) (l : Fin 128) : (V m c main_v55 : FVec Ideal S4096x128 .f32) (ix2 t l) = Ideal.cos (ang128 t ⟨l % 64, Nat.mod_lt _ (by decide)⟩) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
  by_cases h : (l : ℕ) < 64
  · have e : (l : ℕ) % 64 = (l : ℕ) := by omega
    rw [dif_pos h, ang128_eq]
    simp only [e]
  · have e : (l : ℕ) % 64 = (l : ℕ) - 64 := by omega
    rw [dif_neg h, ang128_eq]
    simp only [e]
theorem V60_apply (t : Fin 4096) (l : Fin 128) : (V m c main_v60 : FVec Ideal S4096x128 .f32) (ix2 t l) = if (l : ℕ) < 64 then -Ideal.sin (ang128 t ⟨l % 64, Nat.mod_lt _ (by decide)⟩) else Ideal.sin (ang128 t ⟨l % 64, Nat.mod_lt _ (by decide)⟩) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
  by_cases h : (l : ℕ) < 64
  · have e : (l : ℕ) % 64 = (l : ℕ) := by omega
    rw [dif_pos h, if_pos h, ang128_eq]
    simp only [e]
  · have e : (l : ℕ) % 64 = (l : ℕ) - 64 := by omega
    rw [dif_neg h, if_neg h, ang128_eq]
    simp only [e]
theorem V78_apply (r : Fin 32) (t : Fin 4096) : (V m c main_v78 : FVec Ideal S32x4096 .f32) (ix2 r t) = Ideal.cos (ang64 t r) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
  rw [ang64_eq, mul_comm]
theorem V79_apply (r : Fin 32) (t : Fin 4096) : (V m c main_v79 : FVec Ideal S32x4096 .f32) (ix2 r t) = Ideal.sin (ang64 t r) := by
  unfold_abbrev_sides
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  pointwise []
  rw [ang64_eq, mul_comm]

end Cert.EvenInIdeal.In
end
-- ==== Proof.In.EvenPlaces.lean ====
/- The attention layer's input call over the extended reals: where its blocks lie. -/
module

public import proofs.«01_k».proof.Proof.In.EvenStaged

@[expose] public section

set_option maxRecDepth 16384

noncomputable section

namespace Cert.EvenInIdeal.In

open Cert.EvenInIdeal Cert.EvenInIdeal.Gen Cert.Out Cert.In
open Idealize.ShloMosaic Idealize.ShloMosaic.TcCoe Idealize.SL.Sem
open Cert.EvenInRefIdeal.In (ang64 ang128)

/-- Where each window's block of point `t` lies. -/
theorem places : ∀ t : Fin cfg0.N, win0_0.index t = ![(t : ℕ) / 16, (t : ℕ) % 16, 0]
    ∧ win0_1.index t = ![0, (t : ℕ) / 16, 0, 0]
    ∧ win0_2.index t = ![1, (t : ℕ) / 16, 0, 0]
    ∧ win0_3.index t = ![0, 0]
    ∧ win0_4.index t = ![0, 0]
    ∧ win0_5.index t = ![0, 0]
    ∧ win0_6.index t = ![(t : ℕ) % 16, 0]
    ∧ win0_7.index t = ![(t : ℕ) % 16, 0]
    ∧ win0_8.index t = ![(t : ℕ) % 16, 0]
    ∧ win0_9.index t = ![(t : ℕ) % 16, 0]
    ∧ win0_10.index t = ![0, 0]
    ∧ win0_11.index t = ![0, (t : ℕ) % 16]
    ∧ win0_12.index t = ![0, (t : ℕ) % 16]
    ∧ win0_13.index t = ![(t : ℕ), 0]
    ∧ win0_14.index t = ![(t : ℕ) / 16, 0, (t : ℕ) % 16]
    ∧ win0_15.index t = ![(t : ℕ), 0]
    ∧ win0_16.index t = ![(t : ℕ), 0]
    ∧ win0_17.index t = ![(t : ℕ), 0]
    ∧ win0_18.index t = ![(t : ℕ), 0]
    ∧ win0_19.index t = ![(t : ℕ), 0]
    ∧ win0_20.index t = ![(t : ℕ), 0] :=
  (by decide +kernel : ∀ t : Fin grid0.N, win0_0.index t = ![(t : ℕ) / 16, (t : ℕ) % 16, 0]
    ∧ win0_1.index t = ![0, (t : ℕ) / 16, 0, 0]
    ∧ win0_2.index t = ![1, (t : ℕ) / 16, 0, 0]
    ∧ win0_3.index t = ![0, 0]
    ∧ win0_4.index t = ![0, 0]
    ∧ win0_5.index t = ![0, 0]
    ∧ win0_6.index t = ![(t : ℕ) % 16, 0]
    ∧ win0_7.index t = ![(t : ℕ) % 16, 0]
    ∧ win0_8.index t = ![(t : ℕ) % 16, 0]
    ∧ win0_9.index t = ![(t : ℕ) % 16, 0]
    ∧ win0_10.index t = ![0, 0]
    ∧ win0_11.index t = ![0, (t : ℕ) % 16]
    ∧ win0_12.index t = ![0, (t : ℕ) % 16]
    ∧ win0_13.index t = ![(t : ℕ), 0]
    ∧ win0_14.index t = ![(t : ℕ) / 16, 0, (t : ℕ) % 16]
    ∧ win0_15.index t = ![(t : ℕ), 0]
    ∧ win0_16.index t = ![(t : ℕ), 0]
    ∧ win0_17.index t = ![(t : ℕ), 0]
    ∧ win0_18.index t = ![(t : ℕ), 0]
    ∧ win0_19.index t = ![(t : ℕ), 0]
    ∧ win0_20.index t = ![(t : ℕ), 0])

variable (m : (ℓ : Loc nD τ sig) → Buf (Elt Ideal) ℓ) (c : Dev nD)

theorem lt64 (t : Fin cfg0.N) : (t : ℕ) < 64 := t.isLt

/-- The sequence of point `t`, its block's row `i` among the sequence's tokens, -/
def seqOf (t : Fin cfg0.N) : Fin 4 := ⟨(t : ℕ) / 16, by have := lt64 t; omega⟩
def rowOf (t : Fin cfg0.N) (i : Fin 256) : Fin 4096 := ⟨256 * ((t : ℕ) % 16) + i, by omega⟩
/-- and among all tokens. -/
def rowAll (t : Fin cfg0.N) (i : Fin 256) : Fin 16384 := ⟨256 * (t : ℕ) + i, by have := lt64 t; omega⟩
theorem seq_rowAll (t : Fin cfg0.N) (i : Fin 256) : seq (rowAll t i) = seqOf t := Fin.ext (show (256 * (t : ℕ) + (i : ℕ)) / 4096 = (t : ℕ) / 16 by omega)
theorem pos_rowAll (t : Fin cfg0.N) (i : Fin 256) : pos (rowAll t i) = rowOf t i := Fin.ext (show (256 * (t : ℕ) + (i : ℕ)) % 4096 = 256 * ((t : ℕ) % 16) + (i : ℕ) by omega)

/-- The projection of token `t` of sequence `b`, -/
def projAt (y : FVec Ideal S4x4096x1024 .f32) (md : FVec Ideal S4x6144 .f32) (nw : FVec Ideal S1024 .f32) (w : FVec Ideal S1024x3596 .f32) (b : Fin 4) (t : Fin 4096) : Fin 3596 → EReal :=
  proj (fun j => y (ix3 b t j)) (fun j => nw (ix1 j)) (fun j => md (ix2 b (part 0 j))) (fun j => md (ix2 b (part 1 j))) (fun a x => w (ix2 a x))
/-- and a group of 512 of its columns. -/
def group (o : ℕ) (ho : o + 512 ≤ 3596) (b : Fin 4) (t : Fin 4096) : Fin 512 → EReal := fun x => projAt (arrY m c) (arrMod m c) (arrNw m c) (arrW m c) b t ⟨o + x, by omega⟩

abbrev cos64 (t : Fin 4096) : Fin 32 → EReal := fun f => Ideal.cos (ang64 t f)
abbrev sin64 (t : Fin 4096) : Fin 32 → EReal := fun f => Ideal.sin (ang64 t f)
abbrev cos128 (t : Fin 4096) : Fin 64 → EReal := fun f => Ideal.cos (ang128 t f)
abbrev sin128 (t : Fin 4096) : Fin 64 → EReal := fun f => Ideal.sin (ang128 t f)

/-- The arrays of results: the windowed queries, keys and values, -/
def resultQa : FVec Ideal S16384x512 .f32 := fun y => turnT (group m c 0 (by decide) (seq (y 0)) (pos (y 0))) (cos64 (pos (y 0))) (sin64 (pos (y 0))) (y 1)
def resultKa : FVec Ideal S4x512x4096 .f32 := fun y => turnT (group m c 512 (by decide) (y 0) (y 2)) (cos64 (y 2)) (sin64 (y 2)) (y 1)
def resultVa : FVec Ideal S16384x512 .f32 := fun y => group m c 1024 (by decide) (seq (y 0)) (pos (y 0)) (y 1)
/-- the sparse queries, -/
def resultQb : FVec Ideal S16384x512 .f32 := fun y => turnU (group m c 1536 (by decide) (seq (y 0)) (pos (y 0))) (cos128 (pos (y 0))) (sin128 (pos (y 0))) (y 1)
/-- the three branches' keys and values -/
def resultKv (o : ℕ) (ho : o + 512 ≤ 3596) : FVec Ideal S16384x512 .f32 := fun y => turnUv (group m c o ho (seq (y 0)) (pos (y 0))) (cos128 (pos (y 0))) (sin128 (pos (y 0))) (y 1)
/-- and the gates, in columns the weights are padded to. -/
def resultG : FVec Ideal S16384x128 .f32 := fun y => Ideal.logistic (proj (fun j => arrY m c (ix3 (seq (y 0)) (pos (y 0)) j)) (fun j => arrNw m c (ix1 j)) (fun j => arrMod m c (ix2 (seq (y 0)) (part 0 j)))
  (fun j => arrMod m c (ix2 (seq (y 0)) (part 1 j))) (fun a (x : Fin 128) => if h : (x : ℕ) < 12 then arrW m c (ix2 a ⟨3584 + x, by omega⟩) else 0) (y 1))

/-! A block's row is the array's. -/

theorem blk0 (t : Fin cfg0.N) (i : Fin 256) (j : Fin 1024) : (iblk m c 0 t : Vec Ideal S1x256x1024 .f32) (ix3 0 i j) = arrY m c (ix3 (seqOf t) (rowOf t i) j) := by
  blk_ext [iblk, V_main_arg0, places t, seqOf, rowOf]
theorem blk1 (t : Fin cfg0.N) (j : Fin 1024) : (iblk m c 1 t : Vec Ideal S1x1x1x1024 .f32) (ix4 0 0 0 j) = arrMod m c (ix2 (seqOf t) (part 0 j)) := by
  refine Eq.trans (b := (V m c main_v82 : FVec Ideal S6x4x1x1024 .f32) (ix4 0 (seqOf t) 0 j)) ?_ (V82_apply m c 0 (seqOf t) j)
  unfold iblk
  generalize V m c = X
  blk_ext [places t, seqOf, rowOf]
theorem blk2 (t : Fin cfg0.N) (j : Fin 1024) : (iblk m c 2 t : Vec Ideal S1x1x1x1024 .f32) (ix4 0 0 0 j) = arrMod m c (ix2 (seqOf t) (part 1 j)) := by
  refine Eq.trans (b := (V m c main_v82 : FVec Ideal S6x4x1x1024 .f32) (ix4 1 (seqOf t) 0 j)) ?_ (V82_apply m c 1 (seqOf t) j)
  unfold iblk
  generalize V m c = X
  blk_ext [places t, seqOf, rowOf]
theorem blk3 (t : Fin cfg0.N) (j : Fin 1024) : (iblk m c 3 t : Vec Ideal S1x1024 .f32) (ix2 0 j) = arrNw m c (ix1 j) := by
  refine Eq.trans (b := (V m c main_v83 : FVec Ideal S1x1024 .f32) (ix2 0 j)) ?_ (V83_apply m c j)
  unfold iblk
  generalize V m c = X
  blk_ext [places t, seqOf, rowOf]
theorem blk4 (t : Fin cfg0.N) (a : Fin 1024) (x : Fin 3584) : (iblk m c 4 t : Vec Ideal S1024x3584 .bf16) (ix2 a x) = arrW m c (ix2 a ⟨x, by omega⟩) := by
  refine Eq.trans (b := (V m c main_v1 : FVec Ideal S1024x3584 .bf16) (ix2 a x)) ?_ (V1_apply m c a x)
  unfold iblk
  generalize V m c = X
  blk_ext [places t, seqOf, rowOf]
theorem blk5 (t : Fin cfg0.N) (a : Fin 1024) (g : Fin 128) : (iblk m c 5 t : Vec Ideal S1024x128 .bf16) (ix2 a g) = if h : (g : ℕ) < 12 then arrW m c (ix2 a ⟨3584 + g, by omega⟩) else 0 := by
  refine Eq.trans (b := (V m c main_v4 : FVec Ideal S1024x128 .bf16) (ix2 a g)) ?_ (V4_apply m c a g)
  unfold iblk
  generalize V m c = X
  blk_ext [places t, seqOf, rowOf]
theorem blk6 (t : Fin cfg0.N) (i : Fin 256) (l : Fin 128) : (iblk m c 6 t : Vec Ideal S256x128 .f32) (ix2 i l) = cos64 (rowOf t i) ⟨l % 32, Nat.mod_lt _ (by decide)⟩ := by
  refine Eq.trans (b := (V m c main_v27 : FVec Ideal S4096x128 .f32) (ix2 (rowOf t i) l)) ?_ (V27_apply m c (rowOf t i) l)
  unfold iblk
  generalize V m c = X
  blk_ext [places t, seqOf, rowOf]
theorem blk7 (t : Fin cfg0.N) (i : Fin 256) (l : Fin 128) : (iblk m c 7 t : Vec Ideal S256x128 .f32) (ix2 i l) = if (l : ℕ) % 64 < 32 then -sin64 (rowOf t i) ⟨l % 32, Nat.mod_lt _ (by decide)⟩ else sin64 (rowOf t i) ⟨l % 32, Nat.mod_lt _ (by decide)⟩ := by
  refine Eq.trans (b := (V m c main_v32 : FVec Ideal S4096x128 .f32) (ix2 (rowOf t i) l)) ?_ (V32_apply m c (rowOf t i) l)
  unfold iblk
  generalize V m c = X
  blk_ext [places t, seqOf, rowOf]
theorem blk8 (t : Fin cfg0.N) (i : Fin 256) (l : Fin 128) : (iblk m c 8 t : Vec Ideal S256x128 .f32) (ix2 i l) = cos128 (rowOf t i) ⟨l % 64, Nat.mod_lt _ (by decide)⟩ := by
  refine Eq.trans (b := (V m c main_v55 : FVec Ideal S4096x128 .f32) (ix2 (rowOf t i) l)) ?_ (V55_apply m c (rowOf t i) l)
  unfold iblk
  generalize V m c = X
  blk_ext [places t, seqOf, rowOf]
theorem blk9 (t : Fin cfg0.N) (i : Fin 256) (l : Fin 128) : (iblk m c 9 t : Vec Ideal S256x128 .f32) (ix2 i l) = if (l : ℕ) < 64 then -sin128 (rowOf t i) ⟨l % 64, Nat.mod_lt _ (by decide)⟩ else sin128 (rowOf t i) ⟨l % 64, Nat.mod_lt _ (by decide)⟩ := by
  refine Eq.trans (b := (V m c main_v60 : FVec Ideal S4096x128 .f32) (ix2 (rowOf t i) l)) ?_ (V60_apply m c (rowOf t i) l)
  unfold iblk
  generalize V m c = X
  blk_ext [places t, seqOf, rowOf]
theorem blk10 (t : Fin cfg0.N) (x : Fin 512) (a : Fin 1024) : (iblk m c 10 t : Vec Ideal S512x1024 .bf16) (ix2 x a) = arrW m c (ix2 a ⟨512 + x, by omega⟩) := by
  refine Eq.trans (b := (V m c main_v85 : FVec Ideal S512x1024 .bf16) (ix2 x a)) ?_ (V85_apply m c x a)
  unfold iblk
  generalize V m c = X
  blk_ext [places t, seqOf, rowOf]
theorem blk11 (t : Fin cfg0.N) (r : Fin 32) (i : Fin 256) : (iblk m c 11 t : Vec Ideal S32x256 .f32) (ix2 r i) = cos64 (rowOf t i) r := by
  refine Eq.trans (b := (V m c main_v78 : FVec Ideal S32x4096 .f32) (ix2 r (rowOf t i))) ?_ (V78_apply m c r (rowOf t i))
  unfold iblk
  generalize V m c = X
  blk_ext [places t, seqOf, rowOf]
theorem blk12 (t : Fin cfg0.N) (r : Fin 32) (i : Fin 256) : (iblk m c 12 t : Vec Ideal S32x256 .f32) (ix2 r i) = sin64 (rowOf t i) r := by
  refine Eq.trans (b := (V m c main_v79 : FVec Ideal S32x4096 .f32) (ix2 r (rowOf t i))) ?_ (V79_apply m c r (rowOf t i))
  unfold iblk
  generalize V m c = X
  blk_ext [places t, seqOf, rowOf]

end Cert.EvenInIdeal.In
end
-- ==== Proof.In.EvenWindowed.lean ====
/- The attention layer's input call over the extended reals: its windowed queries, keys, values and gates. -/
module

public import proofs.«01_k».proof.Proof.In.EvenPlaces

@[expose] public section

set_option maxRecDepth 16384

noncomputable section

namespace Cert.EvenInIdeal.In

open Cert.EvenInIdeal Cert.EvenInIdeal.Gen Cert.Out Cert.In
open Idealize.ShloMosaic Idealize.ShloMosaic.TcCoe Idealize.SL.Sem
open Cert.EvenInRefIdeal.In (ang64 ang128)

variable (m : (ℓ : Loc nD τ sig) → Buf (Elt Ideal) ℓ) (c : Dev nD)

/-- The call's array of windowed queries, -/
theorem resultQa_eq : (dats m 0 c).arrAt 13 cfg0.N = resultQa m c := by
  refine (dats m 0 c).arrAt_eq_of_covers 13 _ (by decide +kernel) fun t hf y => ?_
  have ht := lt64 t
  rw [after0_13]
  have hX := fun i j => out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S256x512.Idx at y
  idx_vars y
  have ez : (((cfg0.win 13).blk t).view.emb (ix2 y0 y1) : S16384x512.Idx) = ix2 (rowAll t y0) y1 := by
    blk_ext [places t, rowAll]
  refine Eq.trans ?_ (congrArg (resultQa m c) ez).symm
  refine Eq.trans (b := X (ix2 y0 y1)) rfl ?_
  rw [hX]
  refine (turnA_eq _ (cos64 (rowOf t y0)) (sin64 (rowOf t y0)) y1).trans ?_
  change _ = turnT (group m c 0 _ (seq (rowAll t y0)) (pos (rowAll t y0))) (cos64 (pos (rowAll t y0))) (sin64 (pos (rowAll t y0))) y1
  rw [seq_rowAll, pos_rowAll]
  refine congrArg (fun P => turnT P (cos64 (rowOf t y0)) (sin64 (rowOf t y0)) y1) (funext fun x => ?_)
  exact congrArg (projAt (arrY m c) (arrMod m c) (arrNw m c) (arrW m c) (seqOf t) (rowOf t y0)) (Fin.ext (Nat.zero_add (x : ℕ)).symm)

/-- of their keys, -/
theorem resultKa_eq : (dats m 0 c).arrAt 14 cfg0.N = resultKa m c := by
  refine (dats m 0 c).arrAt_eq_of_covers 14 _ (by decide +kernel) fun t hf y => ?_
  have ht := lt64 t
  rw [after0_14]
  have hX := fun i j => out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S1x512x256.Idx at y
  idx_vars y
  have e0 : y0 = 0 := Fin.ext (by omega)
  subst e0
  have ez : (((cfg0.win 14).blk t).view.emb (ix3 0 y1 y2) : S4x512x4096.Idx) = ix3 (seqOf t) y1 (rowOf t y2) := by
    blk_ext [places t, seqOf, rowOf]
  refine Eq.trans ?_ (congrArg (resultKa m c) ez).symm
  refine Eq.trans (b := X (ix3 0 y1 y2)) rfl ?_
  rw [hX]
  rfl

/-- of their values -/
theorem resultVa_eq : (dats m 0 c).arrAt 15 cfg0.N = resultVa m c := by
  refine (dats m 0 c).arrAt_eq_of_covers 15 _ (by decide +kernel) fun t hf y => ?_
  have ht := lt64 t
  rw [after0_15]
  have hX := fun i j => out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S256x512.Idx at y
  idx_vars y
  have ez : (((cfg0.win 15).blk t).view.emb (ix2 y0 y1) : S16384x512.Idx) = ix2 (rowAll t y0) y1 := by
    blk_ext [places t, rowAll]
  refine Eq.trans ?_ (congrArg (resultVa m c) ez).symm
  refine Eq.trans (b := X (ix2 y0 y1)) rfl ?_
  rw [hX]
  change _ = group m c 1024 _ (seq (rowAll t y0)) (pos (rowAll t y0)) y1
  rw [seq_rowAll, pos_rowAll]
  rfl

/-- and of gates. -/
theorem resultG_eq : (dats m 0 c).arrAt 20 cfg0.N = resultG m c := by
  refine (dats m 0 c).arrAt_eq_of_covers 20 _ (by decide +kernel) fun t hf y => ?_
  have ht := lt64 t
  rw [after0_20]
  have hX := fun i j => out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S256x128.Idx at y
  idx_vars y
  have ez : (((cfg0.win 20).blk t).view.emb (ix2 y0 y1) : S16384x128.Idx) = ix2 (rowAll t y0) y1 := by
    blk_ext [places t, rowAll]
  refine Eq.trans ?_ (congrArg (resultG m c) ez).symm
  refine Eq.trans (b := X (ix2 y0 y1)) rfl ?_
  rw [hX]
  change _ = Ideal.logistic (proj (fun j => arrY m c (ix3 (seq (rowAll t y0)) (pos (rowAll t y0)) j)) _ (fun j => arrMod m c (ix2 (seq (rowAll t y0)) _)) (fun j => arrMod m c (ix2 (seq (rowAll t y0)) _)) _ _)
  rw [seq_rowAll, pos_rowAll]
  rfl

end Cert.EvenInIdeal.In
end
-- ==== Proof.In.EvenSparse.lean ====
/- The attention layer's input call over the extended reals: its sparse queries, keys and values. -/
module

public import proofs.«01_k».proof.Proof.In.EvenPlaces

@[expose] public section

set_option maxRecDepth 16384

noncomputable section

namespace Cert.EvenInIdeal.In

open Cert.EvenInIdeal Cert.EvenInIdeal.Gen Cert.Out Cert.In
open Idealize.ShloMosaic Idealize.ShloMosaic.TcCoe Idealize.SL.Sem
open Cert.EvenInRefIdeal.In (ang64 ang128)

variable (m : (ℓ : Loc nD τ sig) → Buf (Elt Ideal) ℓ) (c : Dev nD)

/-- The call's array of sparse queries, -/
theorem resultQb_eq : (dats m 0 c).arrAt 16 cfg0.N = resultQb m c := by
  refine (dats m 0 c).arrAt_eq_of_covers 16 _ (by decide +kernel) fun t hf y => ?_
  have ht := lt64 t
  rw [after0_16]
  have hX := fun i j => out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S256x512.Idx at y
  idx_vars y
  have ez : (((cfg0.win 16).blk t).view.emb (ix2 y0 y1) : S16384x512.Idx) = ix2 (rowAll t y0) y1 := by
    blk_ext [places t, rowAll]
  refine Eq.trans ?_ (congrArg (resultQb m c) ez).symm
  refine Eq.trans (b := X (ix2 y0 y1)) rfl ?_
  rw [hX]
  refine (turnB_eq _ (cos128 (rowOf t y0)) (sin128 (rowOf t y0)) y1).trans ?_
  change _ = turnU (group m c 1536 _ (seq (rowAll t y0)) (pos (rowAll t y0))) (cos128 (pos (rowAll t y0))) (sin128 (pos (rowAll t y0))) y1
  rw [seq_rowAll, pos_rowAll]
  rfl

/-- of compressed, -/
theorem resultCmp_eq : (dats m 0 c).arrAt 17 cfg0.N = resultKv m c 2048 (by decide) := by
  refine (dats m 0 c).arrAt_eq_of_covers 17 _ (by decide +kernel) fun t hf y => ?_
  have ht := lt64 t
  rw [after0_17]
  have hX := fun i j => out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S256x512.Idx at y
  idx_vars y
  have ez : (((cfg0.win 17).blk t).view.emb (ix2 y0 y1) : S16384x512.Idx) = ix2 (rowAll t y0) y1 := by
    blk_ext [places t, rowAll]
  refine Eq.trans ?_ (congrArg (resultKv m c 2048 (by decide)) ez).symm
  refine Eq.trans (b := X (ix2 y0 y1)) rfl ?_
  rw [hX]
  refine (turnKv_eq _ (cos128 (rowOf t y0)) (sin128 (rowOf t y0)) y1).trans ?_
  change _ = turnUv (group m c 2048 _ (seq (rowAll t y0)) (pos (rowAll t y0))) (cos128 (pos (rowAll t y0))) (sin128 (pos (rowAll t y0))) y1
  rw [seq_rowAll, pos_rowAll]
  rfl

/-- selected -/
theorem resultSel_eq : (dats m 0 c).arrAt 18 cfg0.N = resultKv m c 2560 (by decide) := by
  refine (dats m 0 c).arrAt_eq_of_covers 18 _ (by decide +kernel) fun t hf y => ?_
  have ht := lt64 t
  rw [after0_18]
  have hX := fun i j => out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S256x512.Idx at y
  idx_vars y
  have ez : (((cfg0.win 18).blk t).view.emb (ix2 y0 y1) : S16384x512.Idx) = ix2 (rowAll t y0) y1 := by
    blk_ext [places t, rowAll]
  refine Eq.trans ?_ (congrArg (resultKv m c 2560 (by decide)) ez).symm
  refine Eq.trans (b := X (ix2 y0 y1)) rfl ?_
  rw [hX]
  refine (turnKv_eq _ (cos128 (rowOf t y0)) (sin128 (rowOf t y0)) y1).trans ?_
  change _ = turnUv (group m c 2560 _ (seq (rowAll t y0)) (pos (rowAll t y0))) (cos128 (pos (rowAll t y0))) (sin128 (pos (rowAll t y0))) y1
  rw [seq_rowAll, pos_rowAll]
  rfl

/-- and windowed keys and values. -/
theorem resultWin_eq : (dats m 0 c).arrAt 19 cfg0.N = resultKv m c 3072 (by decide) := by
  refine (dats m 0 c).arrAt_eq_of_covers 19 _ (by decide +kernel) fun t hf y => ?_
  have ht := lt64 t
  rw [after0_19]
  have hX := fun i j => out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j
  simp only [projRow, blk0, blk1, blk2, blk3, blk4, blk5, blk6, blk7, blk8, blk9, blk10, blk11, blk12] at hX
  generalize out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = X at hX ⊢
  change S256x512.Idx at y
  idx_vars y
  have ez : (((cfg0.win 19).blk t).view.emb (ix2 y0 y1) : S16384x512.Idx) = ix2 (rowAll t y0) y1 := by
    blk_ext [places t, rowAll]
  refine Eq.trans ?_ (congrArg (resultKv m c 3072 (by decide)) ez).symm
  refine Eq.trans (b := X (ix2 y0 y1)) rfl ?_
  rw [hX]
  refine (turnKv_eq _ (cos128 (rowOf t y0)) (sin128 (rowOf t y0)) y1).trans ?_
  change _ = turnUv (group m c 3072 _ (seq (rowAll t y0)) (pos (rowAll t y0))) (cos128 (pos (rowAll t y0))) (sin128 (pos (rowAll t y0))) y1
  rw [seq_rowAll, pos_rowAll]
  rfl

end Cert.EvenInIdeal.In
end
-- ==== Proof.In.EvenTail.lean ====
/- The attention layer's input call over the extended reals: what the host makes of its result arrays. -/
module

public import proofs.«01_k».proof.Proof.In.EvenRun
public import proofs.«01_k».proof.Proof.In.Row
public import Idealize.ShloMosaic.Lib.Pipeline.ValueKit

@[expose] public section

set_option maxRecDepth 16384

noncomputable section

namespace Cert.EvenInIdeal.In

open Cert.EvenInIdeal Cert.EvenInIdeal.Gen Cert.Out Cert.In
open Idealize.ShloMosaic Idealize.ShloMosaic.TcCoe Idealize.SL.Sem

variable (m : (ℓ : Loc nD τ sig) → Buf (Elt Ideal) ℓ) (c : Dev nD)

/-- Equal rows and columns read equal values. -/
theorem at2 {n k : ℕ} (f : Fin n → Fin k → EReal) {a a' b b' : ℕ} (ha : a < n) (ha' : a' < n) (hb : b < k) (hb' : b' < k) (h : a = a') (g : b = b') : f ⟨a, ha⟩ ⟨b, hb⟩ = f ⟨a', ha'⟩ ⟨b', hb'⟩ := by
  subst h g
  rfl

/-- Token `t` of sequence `b` among all tokens. -/
def tokenOf (b : Fin 4) (t : Fin 4096) : Fin 16384 := ⟨4096 * (b : ℕ) + t, by omega⟩
theorem seq_tokenOf (b : Fin 4) (t : Fin 4096) : seq (tokenOf b t) = b := Fin.ext (show (4096 * (b : ℕ) + (t : ℕ)) / 4096 = (b : ℕ) by omega)
theorem pos_tokenOf (b : Fin 4) (t : Fin 4096) : pos (tokenOf b t) = t := Fin.ext (show (4096 * (b : ℕ) + (t : ℕ)) % 4096 = (t : ℕ) by omega)

/-- Rows of tokens taken apart by sequence, -/
theorem split_apply (R : FVec Ideal S16384x512 .f32) (b : Fin 4) (t : Fin 4096) (x : Fin 512) : shapeCast S4x4096x512 R shapeCasts_S16384x512_S4x4096x512 (ix3 b t x) = R (ix2 (tokenOf b t) x) := by
  pointwise []
  refine congrArg (fun r : Fin 16384 => R (ix2 r x)) (Fin.ext ?_)
  dsimp only [tokenOf]
  omega
/-- then by head, -/
theorem heads_apply (R : FVec Ideal S16384x512 .f32) (b h : Fin 4) (t : Fin 4096) (d : Fin 128) :
    shapeCast S4x4096x4x128 (shapeCast S4x4096x512 R shapeCasts_S16384x512_S4x4096x512) shapeCasts_S4x4096x512_S4x4096x4x128 (ix4 b t h d) = R (ix2 (tokenOf b t) ⟨128 * (h : ℕ) + d, by omega⟩) := by
  have hq := split_apply R b t
  generalize shapeCast S4x4096x512 R _ = Q at hq ⊢
  pointwise []
  rw [hq]
  refine congrArg (fun x : Fin 512 => R (ix2 (tokenOf b t) x)) (Fin.ext ?_)
  dsimp only
  omega
/-- or by keys and values and head. -/
theorem pairs_apply (R : FVec Ideal S16384x512 .f32) (b : Fin 4) (t : Fin 4096) (e h : Fin 2) (d : Fin 128) :
    shapeCast S4x4096x2x2x128 (shapeCast S4x4096x512 R shapeCasts_S16384x512_S4x4096x512) shapeCasts_S4x4096x512_S4x4096x2x2x128 (ix5 b t e h d) = R (ix2 (tokenOf b t) ⟨256 * (e : ℕ) + 128 * (h : ℕ) + d, by omega⟩) := by
  have hq := split_apply R b t
  generalize shapeCast S4x4096x512 R _ = Q at hq ⊢
  pointwise []
  rw [hq]
  refine congrArg (fun x : Fin 512 => R (ix2 (tokenOf b t) x)) (Fin.ext ?_)
  dsimp only
  omega

/-- Windowed keys, feature by token, become token by head by feature; -/
theorem tail88 (R : FVec Ideal S4x512x4096 .f32) (hR : (dats m 0 c).arrAt 14 cfg0.N = R) (b h : Fin 4) (t : Fin 4096) (e : Fin 2) (d : Fin 64) :
    (Pipeline.afterTail₀ cfgs (dats m) 0 (V0 m) [hostOps1] c main_v88 : FVec Ideal S4x4096x4x2x64 .f32) (ix5 b t h e d) = R (ix3 b ⟨128 * (h : ℕ) + 64 * (e : ℕ) + d, by omega⟩ t) := by
  have hw : Pipeline.withArrays (cfgs 0).spec c (V0 m c) (fun w => (dats m 0 c).arrAt w (cfgs 0).N) (Proc.devRef .tc main_v86_1) = R :=
    ((dats m 0 c).withArrays_arrAt sharedIn0 (V0 m c) (A_eq m c) 14).trans hR
  unfold Pipeline.afterTail₀
  generalize Pipeline.withArrays _ c _ _ = U at hw ⊢
  simp only [hostOps1, List.flatten_cons, List.flatten_nil, List.append_nil, List.cons_append, List.nil_append]
  after_results
  rw [hw]
  pointwise []
  exact at2 (fun (x : Fin 512) (_ : Fin 1) => R (ix3 b x t)) _ _ (by decide : 0 < 1) (by decide : 0 < 1) (by omega) rfl

/-- their values, sequence by token by head; -/
theorem tail90 (R : FVec Ideal S16384x512 .f32) (hR : (dats m 0 c).arrAt 15 cfg0.N = R) (b h : Fin 4) (t : Fin 4096) (d : Fin 128) :
    (Pipeline.afterTail₀ cfgs (dats m) 0 (V0 m) [hostOps1] c main_v90 : FVec Ideal S4x4096x4x128 .f32) (ix4 b t h d) = R (ix2 (tokenOf b t) ⟨128 * (h : ℕ) + d, by omega⟩) := by
  have hw : Pipeline.withArrays (cfgs 0).spec c (V0 m c) (fun w => (dats m 0 c).arrAt w (cfgs 0).N) (Proc.devRef .tc main_v86_2) = R :=
    ((dats m 0 c).withArrays_arrAt sharedIn0 (V0 m c) (A_eq m c) 15).trans hR
  unfold Pipeline.afterTail₀
  generalize Pipeline.withArrays _ c _ _ = U at hw ⊢
  simp only [hostOps1, List.flatten_cons, List.flatten_nil, List.append_nil, List.cons_append, List.nil_append]
  after_results
  rw [hw]
  exact heads_apply R b h t d

/-- the compressed branch's keys and values -/
theorem tail92 (R : FVec Ideal S16384x512 .f32) (hR : (dats m 0 c).arrAt 17 cfg0.N = R) (b : Fin 4) (t : Fin 4096) (e h : Fin 2) (d : Fin 128) :
    (Pipeline.afterTail₀ cfgs (dats m) 0 (V0 m) [hostOps1] c main_v92 : FVec Ideal S4x4096x2x2x128 .f32) (ix5 b t e h d) = R (ix2 (tokenOf b t) ⟨256 * (e : ℕ) + 128 * (h : ℕ) + d, by omega⟩) := by
  have hw : Pipeline.withArrays (cfgs 0).spec c (V0 m c) (fun w => (dats m 0 c).arrAt w (cfgs 0).N) (Proc.devRef .tc main_v86_4) = R :=
    ((dats m 0 c).withArrays_arrAt sharedIn0 (V0 m c) (A_eq m c) 17).trans hR
  unfold Pipeline.afterTail₀
  generalize Pipeline.withArrays _ c _ _ = U at hw ⊢
  simp only [hostOps1, List.flatten_cons, List.flatten_nil, List.append_nil, List.cons_append, List.nil_append]
  after_results
  rw [hw]
  exact pairs_apply R b t e h d

/-- and the selected branch's likewise; -/
theorem tail94 (R : FVec Ideal S16384x512 .f32) (hR : (dats m 0 c).arrAt 18 cfg0.N = R) (b : Fin 4) (t : Fin 4096) (e h : Fin 2) (d : Fin 128) :
    (Pipeline.afterTail₀ cfgs (dats m) 0 (V0 m) [hostOps1] c main_v94 : FVec Ideal S4x4096x2x2x128 .f32) (ix5 b t e h d) = R (ix2 (tokenOf b t) ⟨256 * (e : ℕ) + 128 * (h : ℕ) + d, by omega⟩) := by
  have hw : Pipeline.withArrays (cfgs 0).spec c (V0 m c) (fun w => (dats m 0 c).arrAt w (cfgs 0).N) (Proc.devRef .tc main_v86_5) = R :=
    ((dats m 0 c).withArrays_arrAt sharedIn0 (V0 m c) (A_eq m c) 18).trans hR
  unfold Pipeline.afterTail₀
  generalize Pipeline.withArrays _ c _ _ = U at hw ⊢
  simp only [hostOps1, List.flatten_cons, List.flatten_nil, List.append_nil, List.cons_append, List.nil_append]
  after_results
  rw [hw]
  exact pairs_apply R b t e h d

/-- the windowed branch's last tokens; -/
theorem tail97 (R : FVec Ideal S16384x512 .f32) (hR : (dats m 0 c).arrAt 19 cfg0.N = R) (b : Fin 4) (t : Fin 512) (e h : Fin 2) (d : Fin 128) :
    (Pipeline.afterTail₀ cfgs (dats m) 0 (V0 m) [hostOps1] c main_v97 : FVec Ideal S4x512x2x2x128 .f32) (ix5 b t e h d) = R (ix2 (tokenOf b ⟨3584 + t, by omega⟩) ⟨256 * (e : ℕ) + 128 * (h : ℕ) + d, by omega⟩) := by
  have hw : Pipeline.withArrays (cfgs 0).spec c (V0 m c) (fun w => (dats m 0 c).arrAt w (cfgs 0).N) (Proc.devRef .tc main_v86_6) = R :=
    ((dats m 0 c).withArrays_arrAt sharedIn0 (V0 m c) (A_eq m c) 19).trans hR
  unfold Pipeline.afterTail₀
  generalize Pipeline.withArrays _ c _ _ = U at hw ⊢
  simp only [hostOps1, List.flatten_cons, List.flatten_nil, List.append_nil, List.cons_append, List.nil_append]
  after_results
  rw [hw]
  pointwise []
  refine congrArg₂ (fun (x : Fin 16384) (y : Fin 512) => R (ix2 x y)) (Fin.ext ?_) (Fin.ext ?_)
  · dsimp only [tokenOf]
    omega
  · dsimp only
    omega

/-- and the gates' own columns. -/
theorem tail98 (R : FVec Ideal S16384x128 .f32) (hR : (dats m 0 c).arrAt 20 cfg0.N = R) (r : Fin 16384) (g : Fin 12) :
    (Pipeline.afterTail₀ cfgs (dats m) 0 (V0 m) [hostOps1] c main_v98 : FVec Ideal S16384x12 .f32) (ix2 r g) = R (ix2 r ⟨g, by omega⟩) := by
  have hw : Pipeline.withArrays (cfgs 0).spec c (V0 m c) (fun w => (dats m 0 c).arrAt w (cfgs 0).N) (Proc.devRef .tc main_v86_7) = R :=
    ((dats m 0 c).withArrays_arrAt sharedIn0 (V0 m c) (A_eq m c) 20).trans hR
  unfold Pipeline.afterTail₀
  generalize Pipeline.withArrays _ c _ _ = U at hw ⊢
  simp only [hostOps1, List.flatten_cons, List.flatten_nil, List.append_nil, List.cons_append, List.nil_append]
  after_results
  rw [hw]
  pointwise []

end Cert.EvenInIdeal.In
end
-- ==== Proof.In.EvenClaims.lean ====
/- The attention layer's input call: kernel and reference agree. -/
module

public import proofs.«01_k».proof.Defs
public import proofs.«01_k».proof.Proof.Gen.EvenIn
public import proofs.«01_k».proof.Proof.Gen.EvenInRefIdeal.Run
public import proofs.«01_k».proof.Proof.In.EvenWindowed
public import proofs.«01_k».proof.Proof.In.EvenSparse
public import proofs.«01_k».proof.Proof.In.EvenTail
public import proofs.«01_k».proof.Proof.In.EvenRef

@[expose] public section

set_option maxRecDepth 16384

noncomputable section

namespace Cert.Proof.EvenIn

open Idealize.ShloMosaic Idealize.ShloMosaic.TcCoe Idealize.SL.Sem
open Cert.EvenInIdeal.In Cert.EvenInIdeal.Gen Cert.Out Cert.In
open Cert.EvenInRefIdeal.In (projected queriesA keysA valuesA queriesB kvCmp kvSel kvWin winRows winTail gates projected_apply queriesA_apply keysA_apply valuesA_apply queriesB_apply kvCmp_apply kvSel_apply kvWin_apply
  winRows_apply winTail_apply)

variable (m : (ℓ : Loc Cert.EvenInIdeal.nD Cert.EvenInIdeal.τ Cert.EvenInIdeal.sig) → Buf (Elt Ideal) ℓ) (c : Dev Cert.EvenInIdeal.nD)

/-- The reference's projection of the kernel's arguments. -/
abbrev proj0 : FVec Ideal Cert.EvenInRefIdeal.S4x4096x3596 .f32 := projected (arrY m c) (arrMod m c) (arrNw m c) (arrW m c)

/-! The kernel's arrays are the reference's. -/

theorem qa_eq : resultQa m c = queriesA (proj0 m c) := by
  funext y
  idx_vars y
  rw [queriesA_apply]
  simp only [projected_apply]
  change turnT (group m c 0 _ (seq y0) (pos y0)) (cos64 (pos y0)) (sin64 (pos y0)) y1 = _
  refine congrArg (fun P => turnT P (cos64 (pos y0)) (sin64 (pos y0)) y1) (funext fun x => ?_)
  exact congrArg (projAt (arrY m c) (arrMod m c) (arrNw m c) (arrW m c) (seq y0) (pos y0)) (Fin.ext (Nat.zero_add (x : ℕ)))
theorem qb_eq : resultQb m c = queriesB (proj0 m c) := by
  funext y
  idx_vars y
  rw [queriesB_apply]
  simp only [projected_apply]
  rfl
theorem win_eq : resultKv m c 3072 (by decide) = winRows (proj0 m c) := by
  funext y
  idx_vars y
  rw [winRows_apply]
  simp only [projected_apply]
  rfl

/-- What the host leaves in a buffer after the call. -/
abbrev left (b : Ref Cert.EvenInIdeal.sig .tc) := Pipeline.afterTail₀ Cert.EvenInIdeal.cfgs (dats m) 0 (V0 m) [hostOps1] c b

theorem ka_eq : left m c Cert.EvenInIdeal.main_v88 = keysA (proj0 m c) := by
  funext y
  change Cert.EvenInIdeal.S4x4096x4x2x64.Idx at y
  idx_vars y
  refine (tail88 m c _ (resultKa_eq m c) y0 y2 y1 y3 y4).trans ?_
  rw [keysA_apply]
  simp only [projected_apply]
  rfl
theorem va_eq : left m c Cert.EvenInIdeal.main_v90 = valuesA (proj0 m c) := by
  funext y
  change Cert.EvenInIdeal.S4x4096x4x128.Idx at y
  idx_vars y
  refine (tail90 m c _ (resultVa_eq m c) y0 y2 y1 y3).trans ?_
  rw [valuesA_apply]
  simp only [projected_apply]
  change group m c 1024 _ (seq (tokenOf y0 y1)) (pos (tokenOf y0 y1)) _ = _
  rw [seq_tokenOf, pos_tokenOf]
  rfl
theorem cmp_eq : left m c Cert.EvenInIdeal.main_v92 = kvCmp (proj0 m c) := by
  funext y
  change Cert.EvenInIdeal.S4x4096x2x2x128.Idx at y
  idx_vars y
  refine (tail92 m c _ (resultCmp_eq m c) y0 y1 y2 y3 y4).trans ?_
  rw [kvCmp_apply]
  simp only [projected_apply]
  change turnUv (group m c 2048 _ (seq (tokenOf y0 y1)) (pos (tokenOf y0 y1))) (cos128 (pos (tokenOf y0 y1))) (sin128 (pos (tokenOf y0 y1))) _ = _
  rw [seq_tokenOf, pos_tokenOf]
  rfl
theorem sel_eq : left m c Cert.EvenInIdeal.main_v94 = kvSel (proj0 m c) := by
  funext y
  change Cert.EvenInIdeal.S4x4096x2x2x128.Idx at y
  idx_vars y
  refine (tail94 m c _ (resultSel_eq m c) y0 y1 y2 y3 y4).trans ?_
  rw [kvSel_apply]
  simp only [projected_apply]
  change turnUv (group m c 2560 _ (seq (tokenOf y0 y1)) (pos (tokenOf y0 y1))) (cos128 (pos (tokenOf y0 y1))) (sin128 (pos (tokenOf y0 y1))) _ = _
  rw [seq_tokenOf, pos_tokenOf]
  rfl
theorem last_eq : left m c Cert.EvenInIdeal.main_v97 = winTail (proj0 m c) := by
  funext y
  change Cert.EvenInIdeal.S4x512x2x2x128.Idx at y
  idx_vars y
  refine (tail97 m c _ (resultWin_eq m c) y0 y1 y2 y3 y4).trans ?_
  rw [winTail_apply, kvWin_apply]
  simp only [projected_apply]
  change turnUv (group m c 3072 _ (seq (tokenOf y0 _)) (pos (tokenOf y0 _))) (cos128 (pos (tokenOf y0 _))) (sin128 (pos (tokenOf y0 _))) _ = _
  rw [seq_tokenOf, pos_tokenOf]
  rfl
theorem gates_eq : left m c Cert.EvenInIdeal.main_v98 = gates (proj0 m c) := by
  funext y
  change Cert.EvenInIdeal.S16384x12.Idx at y
  idx_vars y
  refine (tail98 m c _ (resultG_eq m c) y0 y1).trans ?_
  rw [Cert.EvenInRefIdeal.In.gates_apply]
  simp only [projected_apply]
  refine congrArg Ideal.logistic ?_
  unfold proj
  exact Finset.sum_congr rfl fun a _ => congrArg _ (dif_pos y1.isLt)

set_option maxHeartbeats 4000000 in
/-- From equal arguments, the kernel's projections, rotations and gates are the reference's. -/
theorem algebraic : Cert.algebraic_EvenInIdeal_EvenInRefIdeal := by
  intro m g m' g' hpre hargs
  refine ⟨fun c => queriesA (proj0 m c), fun c => keysA (proj0 m c), fun c => valuesA (proj0 m c), fun c => queriesB (proj0 m c), fun c => kvCmp (proj0 m c), fun c => kvSel (proj0 m c),
    fun c => winRows (proj0 m c), fun c => winTail (proj0 m c), fun c => gates (proj0 m c), ?_, ?_⟩
  · refine (θ_run Cert.EvenInIdeal.defs _ _).mono (fun r h c => ?_) (θ_run_and (Cert.EvenInIdeal.Gen.run_main (F := Ideal) m g) (Cert.EvenInIdeal.Gen.unchanged m g))
    obtain ⟨h1, h2⟩ := h.1 c
    have hk := h.2 c
    refine ⟨?_, ?_, ?_, ?_, ?_, ?_, ?_, ?_, ?_, hk⟩
    · exact (h1 13).trans ((resultQa_eq m c).trans (qa_eq m c))
    · exact (h2 Cert.EvenInIdeal.main_v88 (Pipeline.mem_restRefs_of Cert.EvenInIdeal.main_v88 (by decide) (by decide))).trans (ka_eq m c)
    · exact (h2 Cert.EvenInIdeal.main_v90 (Pipeline.mem_restRefs_of Cert.EvenInIdeal.main_v90 (by decide) (by decide))).trans (va_eq m c)
    · exact (h1 16).trans ((resultQb_eq m c).trans (qb_eq m c))
    · exact (h2 Cert.EvenInIdeal.main_v92 (Pipeline.mem_restRefs_of Cert.EvenInIdeal.main_v92 (by decide) (by decide))).trans (cmp_eq m c)
    · exact (h2 Cert.EvenInIdeal.main_v94 (Pipeline.mem_restRefs_of Cert.EvenInIdeal.main_v94 (by decide) (by decide))).trans (sel_eq m c)
    · exact (h1 19).trans ((resultWin_eq m c).trans (win_eq m c))
    · exact (h2 Cert.EvenInIdeal.main_v97 (Pipeline.mem_restRefs_of Cert.EvenInIdeal.main_v97 (by decide) (by decide))).trans (last_eq m c)
    · exact (h2 Cert.EvenInIdeal.main_v98 (Pipeline.mem_restRefs_of Cert.EvenInIdeal.main_v98 (by decide) (by decide))).trans (gates_eq m c)
  · refine (θ_run Cert.EvenInRefIdeal.defs _ _).mono (fun r h c => ?_) (Cert.EvenInRefIdeal.Value.run (F := Ideal) m' g')
    obtain ⟨h0, h1, h2, h3, h4, h5, h6, h7, h8, hk⟩ := h c
    obtain ⟨e0, e1, e2, e3⟩ := hargs c
    have e : projected (m' ((c.tc : Thread Cert.EvenInRefIdeal.nD Cert.EvenInRefIdeal.τ).loc Cert.EvenInRefIdeal.main_arg0))
      (m' ((c.tc : Thread Cert.EvenInRefIdeal.nD Cert.EvenInRefIdeal.τ).loc Cert.EvenInRefIdeal.main_arg1)) (m' ((c.tc : Thread Cert.EvenInRefIdeal.nD Cert.EvenInRefIdeal.τ).loc Cert.EvenInRefIdeal.main_arg2))
      (m' ((c.tc : Thread Cert.EvenInRefIdeal.nD Cert.EvenInRefIdeal.τ).loc Cert.EvenInRefIdeal.main_arg3)) = proj0 m c := by rw [e0, e1, e2, e3]
    refine ⟨?_, ?_, ?_, ?_, ?_, ?_, ?_, ?_, ?_, hk⟩
    · exact h0.trans (Eq.trans rfl (congrArg queriesA e))
    · exact h1.trans (Eq.trans rfl (congrArg keysA e))
    · exact h2.trans (Eq.trans rfl (congrArg valuesA e))
    · exact h3.trans (Eq.trans rfl (congrArg queriesB e))
    · exact h4.trans (Eq.trans rfl (congrArg kvCmp e))
    · exact h5.trans (Eq.trans rfl (congrArg kvSel e))
    · exact h6.trans (Eq.trans rfl (congrArg winRows e))
    · exact h7.trans (Eq.trans rfl (congrArg winTail e))
    · exact h8.trans (Eq.trans rfl (congrArg gates e))

end Cert.Proof.EvenIn
end
-- ==== Proof.In.GlaBlock.lean ====
/- What the recurrence's input call leaves in a block, over the extended reals. -/
module

public import proofs.«01_k».proof.Proof.Gen.GlaInIdeal.Value
public import proofs.«01_k».proof.Proof.In.Row
public import Idealize.ShloMosaic.Lib.Pipeline.ValueKit

@[expose] public section

set_option maxRecDepth 16384

noncomputable section

namespace Cert.GlaInIdeal.In

open Cert.GlaInIdeal Cert.GlaInIdeal.Gen Cert.Out Cert.In
open Idealize.ShloMosaic Idealize.ShloMosaic.TcCoe Idealize.SL.Sem

/-- The projections' input row. -/
theorem modulated_apply (y : Vec Ideal S1x256x1024 .f32) (nw : Vec Ideal S1x1024 .f32) (sh sc : Vec Ideal S1x1x1x1024 .f32) (i : Fin 256) (j : Fin 1024) :
    k0_pay2 y nw sh sc (ix2 i j) = modulated (fun j => y (ix3 0 i j)) (fun j => nw (ix2 0 j)) (fun j => sh (ix4 0 0 0 j)) (fun j => sc (ix4 0 0 0 j)) j := by
  pointwise [k0_pay2, modulated, rms]
/-- The scaled queries, -/
theorem q_apply (y : Vec Ideal S1x256x1024 .f32) (nw : Vec Ideal S1x1024 .f32) (sh sc : Vec Ideal S1x1x1x1024 .f32) (w : Vec Ideal S1024x512 .bf16) (i : Fin 256) (j : Fin 512) :
    k0_pay3 y nw sh sc w (ix2 i j) = (∑ a, (k0_pay2 y nw sh sc (ix2 i a) : EReal) * w (ix2 a j)) * qScale := by
  unfold k0_pay3
  generalize k0_pay2 y nw sh sc = H
  pointwise []
/-- the keys, -/
theorem k_apply (h : FVec Ideal S256x1024 .bf16) (w : Vec Ideal S1024x512 .bf16) (i : Fin 256) (j : Fin 512) :
    k0_pay4 h w (ix2 i j) = ∑ a, (h (ix2 i a) : EReal) * w (ix2 a j) := by
  pointwise [k0_pay4]
/-- the values, -/
theorem v_apply (h : FVec Ideal S256x1024 .bf16) (w : Vec Ideal S1024x1024 .bf16) (i : Fin 256) (j : Fin 1024) :
    k0_pay5 h w (ix2 i j) = ∑ a, (h (ix2 i a) : EReal) * w (ix2 a j) := by
  pointwise [k0_pay5]
/-- the output gate, -/
theorem r_apply (h : FVec Ideal S256x1024 .bf16) (w : Vec Ideal S1024x1024 .bf16) (i : Fin 256) (j : Fin 1024) :
    k0_pay6 h w (ix2 i j) = ∑ a, (h (ix2 i a) : EReal) * w (ix2 a j) := by
  pointwise [k0_pay6]
/-- and the log decays. -/
theorem la_apply (h : FVec Ideal S256x1024 .bf16) (w : Vec Ideal S1024x128 .bf16) (wg : Vec Ideal S128x512 .bf16) (b : Vec Ideal S1x512 .f32) (i : Fin 256) (j : Fin 512) :
    k0_pay1 (k0_pay7 h w wg b) (Scalar.ofBits .f32 0x41800000#32) (ix2 i j)
      = Ideal.div (logSigmoid ((∑ g, (∑ a, (h (ix2 i a) : EReal) * w (ix2 a g)) * wg (ix2 g j)) + b (ix2 0 j))) tau := by
  pointwise [k0_pay1, k0_pay7, logSigmoid]
  rfl

variable (x0 : Vec Ideal S1x256x1024 .f32) (x1 x2 : Vec Ideal S1x1x1x1024 .f32) (x3 : Vec Ideal S1x1024 .f32) (x4 : Vec Ideal S1024x3072 .bf16) (x5 : Vec Ideal S1024x128 .bf16)
  (x6 : Vec Ideal S128x512 .bf16) (x7 : Vec Ideal S1x512 .f32)

/-- The block's rows of projections. -/
abbrev projRow (i : Fin 256) : Fin 3072 → EReal :=
  proj (fun j => x0 (ix3 0 i j)) (fun j => x3 (ix2 0 j)) (fun j => x1 (ix4 0 0 0 j)) (fun j => x2 (ix4 0 0 0 j)) (fun a x => x4 (ix2 a x))

theorem out8_apply (i : Fin 256) (j : Fin 512) : out0_8 x0 x1 x2 x3 x4 x5 x6 x7 (ix2 i j) = projRow x0 x1 x2 x3 x4 i ⟨j, by omega⟩ * qScale := by
  unfold out0_8
  have e : (ix2 i j : S256x512.Idx) = r0_4.emb (ix2 i j) := by blk_ext [r0_4]
  rw [e]
  refine (View.canon_cons_emb r0_4 _ [] _).trans ?_
  rw [q_apply]
  simp only [modulated_apply]
  pointwise [proj]
theorem out9_apply (i : Fin 256) (j : Fin 512) : out0_9 x0 x1 x2 x3 x4 x5 x6 x7 (ix2 i j) = projRow x0 x1 x2 x3 x4 i ⟨512 + j, by omega⟩ := by
  unfold out0_9
  have e : (ix2 i j : S256x512.Idx) = r0_4.emb (ix2 i j) := by blk_ext [r0_4]
  rw [e]
  refine (View.canon_cons_emb r0_4 _ [] _).trans ?_
  rw [k_apply]
  simp only [k0_pay8, modulated_apply]
  pointwise [proj]
theorem out10_apply (i : Fin 256) (j : Fin 1024) : out0_10 x0 x1 x2 x3 x4 x5 x6 x7 (ix2 i j) = projRow x0 x1 x2 x3 x4 i ⟨1024 + j, by omega⟩ := by
  unfold out0_10
  have e : (ix2 i j : S256x1024.Idx) = r0_7.emb (ix2 i j) := by blk_ext [r0_7]
  rw [e]
  refine (View.canon_cons_emb r0_7 _ [] _).trans ?_
  rw [v_apply]
  simp only [k0_pay8, modulated_apply]
  pointwise [proj]
theorem out11_apply (i : Fin 256) (j : Fin 1024) : out0_11 x0 x1 x2 x3 x4 x5 x6 x7 (ix2 i j) = projRow x0 x1 x2 x3 x4 i ⟨2048 + j, by omega⟩ := by
  unfold out0_11
  have e : (ix2 i j : S256x1024.Idx) = r0_7.emb (ix2 i j) := by blk_ext [r0_7]
  rw [e]
  refine (View.canon_cons_emb r0_7 _ [] _).trans ?_
  rw [r_apply]
  simp only [k0_pay8, modulated_apply]
  pointwise [proj]
theorem out12_apply (i : Fin 256) (j : Fin 512) : out0_12 x0 x1 x2 x3 x4 x5 x6 x7 (ix2 i j)
    = Ideal.div (logSigmoid ((∑ g, proj (fun j => x0 (ix3 0 i j)) (fun j => x3 (ix2 0 j)) (fun j => x1 (ix4 0 0 0 j)) (fun j => x2 (ix4 0 0 0 j)) (fun a x => x5 (ix2 a x)) g * x6 (ix2 g j))
        + x7 (ix2 0 j))) tau := by
  unfold out0_12
  have e : (ix2 i j : S256x512.Idx) = r0_4.emb (ix2 i j) := by blk_ext [r0_4]
  rw [e]
  refine (View.canon_cons_emb r0_4 _ [] _).trans ?_
  rw [la_apply]
  simp only [k0_pay8, modulated_apply]
  pointwise [proj]

end Cert.GlaInIdeal.In
end
-- ==== Proof.In.GlaArray.lean ====
/- The recurrence's input call over the extended reals: its result arrays. -/
module

public import proofs.«01_k».proof.Proof.In.GlaBlock

@[expose] public section

set_option maxRecDepth 16384

noncomputable section

namespace Cert.GlaInIdeal.In

open Cert.GlaInIdeal Cert.GlaInIdeal.Gen Cert.Out Cert.In
open Idealize.ShloMosaic Idealize.ShloMosaic.TcCoe Idealize.SL.Sem

/-- Where each window's block of point `t` lies. -/
theorem places : ∀ t : Fin cfg0.N, win0_0.index t = ![(t : ℕ) / 16, (t : ℕ) % 16, 0] ∧ win0_1.index t = ![0, (t : ℕ) / 16, 0, 0] ∧ win0_2.index t = ![1, (t : ℕ) / 16, 0, 0]
    ∧ win0_3.index t = ![0, 0] ∧ win0_4.index t = ![0, 0] ∧ win0_5.index t = ![0, 0] ∧ win0_6.index t = ![0, 0] ∧ win0_7.index t = ![0, 0]
    ∧ win0_8.index t = ![(t : ℕ), 0] ∧ win0_9.index t = ![(t : ℕ), 0] ∧ win0_10.index t = ![(t : ℕ), 0] ∧ win0_11.index t = ![(t : ℕ), 0] ∧ win0_12.index t = ![(t : ℕ), 0] :=
  (by decide +kernel : ∀ t : Fin grid0.N, win0_0.index t = ![(t : ℕ) / 16, (t : ℕ) % 16, 0] ∧ win0_1.index t = ![0, (t : ℕ) / 16, 0, 0] ∧ win0_2.index t = ![1, (t : ℕ) / 16, 0, 0]
    ∧ win0_3.index t = ![0, 0] ∧ win0_4.index t = ![0, 0] ∧ win0_5.index t = ![0, 0] ∧ win0_6.index t = ![0, 0] ∧ win0_7.index t = ![0, 0]
    ∧ win0_8.index t = ![(t : ℕ), 0] ∧ win0_9.index t = ![(t : ℕ), 0] ∧ win0_10.index t = ![(t : ℕ), 0] ∧ win0_11.index t = ![(t : ℕ), 0] ∧ win0_12.index t = ![(t : ℕ), 0])

variable (m : (ℓ : Loc nD τ sig) → Buf (Elt Ideal) ℓ) (c : Dev nD)

abbrev arrY : FVec Ideal S4x4096x1024 .f32 := m ((c.tc : Thread nD τ).loc main_arg0)
abbrev arrMod : FVec Ideal S4x6144 .f32 := m ((c.tc : Thread nD τ).loc main_arg1)
abbrev arrNw : FVec Ideal S1024 .f32 := m ((c.tc : Thread nD τ).loc main_arg2)
abbrev arrW : FVec Ideal S1024x3088 .f32 := m ((c.tc : Thread nD τ).loc main_arg3)
abbrev arrG : FVec Ideal S16x512 .f32 := m ((c.tc : Thread nD τ).loc main_arg4)
abbrev arrB : FVec Ideal S512 .f32 := m ((c.tc : Thread nD τ).loc main_arg5)

/-! The arrays the call stages, as the host hands them over. -/

/-- The integer zero the weights are padded with, as a float. -/
theorem pad_zero : (FloatOps.sitofp .f32 0#32 : Ideal .f32) = (0 : EReal) := by
  show ((((0#32 : BitVec 32).toInt : ℝ)) : EReal) = 0
  simp
theorem V1_apply (a : Fin 1024) (x : Fin 3072) : (V m c main_v1 : FVec Ideal S1024x3072 .bf16) (ix2 a x) = arrW m c (ix2 a ⟨x, by omega⟩) := by
  unfold_abbrev_sides
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise []
theorem V4_apply (a : Fin 1024) (g : Fin 128) : (V m c main_v4 : FVec Ideal S1024x128 .bf16) (ix2 a g)
    = if h : (g : ℕ) < 16 then arrW m c (ix2 a ⟨3072 + g, by omega⟩) else 0 := by
  unfold_abbrev_sides
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise []
  rw [pad_zero]
theorem V6_apply (g : Fin 128) (j : Fin 512) : (V m c main_v6 : FVec Ideal S128x512 .bf16) (ix2 g j)
    = if h : (g : ℕ) < 16 then arrG m c (ix2 ⟨g, h⟩ j) else 0 := by
  unfold_abbrev_sides
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise []
  rw [pad_zero]
theorem V9_apply (k : Fin 6) (b : Fin 4) (j : Fin 1024) : (V m c main_v9 : FVec Ideal S6x4x1x1024 .f32) (ix4 k b 0 j) = arrMod m c (ix2 b (part k j)) := by
  unfold_abbrev_sides
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise [part]
theorem V10_apply (j : Fin 1024) : (V m c main_v10 : FVec Ideal S1x1024 .f32) (ix2 0 j) = arrNw m c (ix1 j) := by
  unfold_abbrev_sides
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise []
theorem V11_apply (j : Fin 512) : (V m c main_v11 : FVec Ideal S1x512 .f32) (ix2 0 j) = arrB m c (ix1 j) := by
  unfold_abbrev_sides
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  pointwise []

theorem lt64 (t : Fin cfg0.N) : (t : ℕ) < 64 := t.isLt

/-- The sequence of point `t`, its block's row `i` among the sequence's tokens, -/
def seqOf (t : Fin cfg0.N) : Fin 4 := ⟨(t : ℕ) / 16, by have := lt64 t; omega⟩
def rowOf (t : Fin cfg0.N) (i : Fin 256) : Fin 4096 := ⟨256 * ((t : ℕ) % 16) + i, by omega⟩
/-- and among all tokens. -/
def rowAll (t : Fin cfg0.N) (i : Fin 256) : Fin 16384 := ⟨256 * (t : ℕ) + i, by have := lt64 t; omega⟩
theorem seq_rowAll (t : Fin cfg0.N) (i : Fin 256) : seq (rowAll t i) = seqOf t := Fin.ext (show (256 * (t : ℕ) + (i : ℕ)) / 4096 = (t : ℕ) / 16 by omega)
theorem pos_rowAll (t : Fin cfg0.N) (i : Fin 256) : pos (rowAll t i) = rowOf t i := Fin.ext (show (256 * (t : ℕ) + (i : ℕ)) % 4096 = 256 * ((t : ℕ) % 16) + (i : ℕ) by omega)

/-- Where the queries', the keys', the values' and the output gate's columns lie in the projection. -/
def colQ (j : Fin 512) : Fin 3088 := ⟨j, by omega⟩
def colK (j : Fin 512) : Fin 3088 := ⟨512 + j, by omega⟩
def colV (j : Fin 1024) : Fin 3088 := ⟨1024 + j, by omega⟩
def colR (j : Fin 1024) : Fin 3088 := ⟨2048 + j, by omega⟩

/-- Row `r` of the projection, -/
def projAt (y : FVec Ideal S4x4096x1024 .f32) (md : FVec Ideal S4x6144 .f32) (nw : FVec Ideal S1024 .f32) (w : FVec Ideal S1024x3088 .f32) (r : Fin 16384) : Fin 3088 → EReal :=
  proj (fun j => y (ix3 (seq r) (pos r) j)) (fun j => nw (ix1 j)) (fun j => md (ix2 (seq r) (part 0 j))) (fun j => md (ix2 (seq r) (part 1 j))) (fun a x => w (ix2 a x))
/-- and its log decays. -/
def decayAt (y : FVec Ideal S4x4096x1024 .f32) (md : FVec Ideal S4x6144 .f32) (nw : FVec Ideal S1024 .f32) (w : FVec Ideal S1024x3088 .f32) (g : FVec Ideal S16x512 .f32) (b : FVec Ideal S512 .f32)
    (r : Fin 16384) : Fin 512 → EReal :=
  logDecay (fun k => projAt y md nw w r ⟨3072 + k, by omega⟩) (fun k j => g (ix2 k j)) (fun j => b (ix1 j))

/-- The arrays of results: the scaled queries, the keys, the values, the output gate and the log decays. -/
def resultQ : FVec Ideal S16384x512 .f32 := fun y => projAt (arrY m c) (arrMod m c) (arrNw m c) (arrW m c) (y 0) (colQ (y 1)) * qScale
def resultK : FVec Ideal S16384x512 .f32 := fun y => projAt (arrY m c) (arrMod m c) (arrNw m c) (arrW m c) (y 0) (colK (y 1))
def resultV : FVec Ideal S16384x1024 .f32 := fun y => projAt (arrY m c) (arrMod m c) (arrNw m c) (arrW m c) (y 0) (colV (y 1))
def resultR : FVec Ideal S16384x1024 .f32 := fun y => projAt (arrY m c) (arrMod m c) (arrNw m c) (arrW m c) (y 0) (colR (y 1))
def resultLa : FVec Ideal S16384x512 .f32 := fun y => decayAt (arrY m c) (arrMod m c) (arrNw m c) (arrW m c) (arrG m c) (arrB m c) (y 0) (y 1)

/-! A block's row is the array's. -/

theorem blk0 (t : Fin cfg0.N) (i : Fin 256) (j : Fin 1024) : (iblk m c 0 t : Vec Ideal S1x256x1024 .f32) (ix3 0 i j) = arrY m c (ix3 (seqOf t) (rowOf t i) j) := by
  blk_ext [iblk, V_main_arg0, places t, seqOf, rowOf]
theorem blk1 (t : Fin cfg0.N) (j : Fin 1024) : (iblk m c 1 t : Vec Ideal S1x1x1x1024 .f32) (ix4 0 0 0 j) = arrMod m c (ix2 (seqOf t) (part 0 j)) := by
  rw [← V9_apply]
  unfold iblk
  generalize V m c = X
  blk_ext [places t, seqOf]
theorem blk2 (t : Fin cfg0.N) (j : Fin 1024) : (iblk m c 2 t : Vec Ideal S1x1x1x1024 .f32) (ix4 0 0 0 j) = arrMod m c (ix2 (seqOf t) (part 1 j)) := by
  rw [← V9_apply]
  unfold iblk
  generalize V m c = X
  blk_ext [places t, seqOf]
theorem blk3 (t : Fin cfg0.N) (j : Fin 1024) : (iblk m c 3 t : Vec Ideal S1x1024 .f32) (ix2 0 j) = arrNw m c (ix1 j) := by
  rw [← V10_apply]
  unfold iblk
  generalize V m c = X
  blk_ext [places t, seqOf]
theorem blk4 (t : Fin cfg0.N) (a : Fin 1024) (x : Fin 3072) : (iblk m c 4 t : Vec Ideal S1024x3072 .bf16) (ix2 a x) = arrW m c (ix2 a ⟨x, by omega⟩) := by
  rw [← V1_apply]
  unfold iblk
  generalize V m c = X
  blk_ext [places t, seqOf]
theorem blk5 (t : Fin cfg0.N) (a : Fin 1024) (g : Fin 128) : (iblk m c 5 t : Vec Ideal S1024x128 .bf16) (ix2 a g) = if h : (g : ℕ) < 16 then arrW m c (ix2 a ⟨3072 + g, by omega⟩) else 0 := by
  rw [← V4_apply]
  unfold iblk
  generalize V m c = X
  blk_ext [places t, seqOf]
theorem blk6 (t : Fin cfg0.N) (g : Fin 128) (j : Fin 512) : (iblk m c 6 t : Vec Ideal S128x512 .bf16) (ix2 g j) = if h : (g : ℕ) < 16 then arrG m c (ix2 ⟨g, h⟩ j) else 0 := by
  rw [← V6_apply]
  unfold iblk
  generalize V m c = X
  blk_ext [places t, seqOf]
theorem blk7 (t : Fin cfg0.N) (j : Fin 512) : (iblk m c 7 t : Vec Ideal S1x512 .f32) (ix2 0 j) = arrB m c (ix1 j) := by
  rw [← V11_apply]
  unfold iblk
  generalize V m c = X
  blk_ext [places t, seqOf]

/-- The call's arrays hold the results: the queries, -/
theorem resultQ_eq : (dats m 0 c).arrAt 8 cfg0.N = resultQ m c := by
  refine (dats m 0 c).arrAt_eq_of_covers 8 _ (by decide +kernel) fun t hf y => ?_
  have ht := lt64 t
  rw [after0_8]
  have hX := fun i j => out8_apply (iblk m c 0 t) (iblk m c 1 t) (iblk m c 2 t) (iblk m c 3 t) (iblk m c 4 t) (iblk m c 5 t) (iblk m c 6 t) (iblk m c 7 t) i j
  simp only [projRow, blk0, blk1, blk2, blk3, blk4, blk5, blk6, blk7] at hX
  generalize out0_8 (iblk m c 0 t) (iblk m c 1 t) (iblk m c 2 t) (iblk m c 3 t) (iblk m c 4 t) (iblk m c 5 t) (iblk m c 6 t) (iblk m c 7 t) = X at hX ⊢
  change S256x512.Idx at y
  idx_vars y
  have ez : (((cfg0.win 8).blk t).view.emb (ix2 y0 y1) : S16384x512.Idx) = ix2 (rowAll t y0) y1 := by
    blk_ext [places t, rowAll]
  refine Eq.trans ?_ (congrArg (resultQ m c) ez).symm
  refine Eq.trans (b := X (ix2 y0 y1)) rfl ?_
  rw [hX]
  unfold resultQ projAt
  change _ = proj (fun j => arrY m c (ix3 (seq (rowAll t y0)) (pos (rowAll t y0)) j)) _ (fun j => arrMod m c (ix2 (seq (rowAll t y0)) _)) (fun j => arrMod m c (ix2 (seq (rowAll t y0)) _)) _ _ * qScale
  rw [seq_rowAll, pos_rowAll]
  rfl

/-- the keys, -/
theorem resultK_eq : (dats m 0 c).arrAt 9 cfg0.N = resultK m c := by
  refine (dats m 0 c).arrAt_eq_of_covers 9 _ (by decide +kernel) fun t hf y => ?_
  have ht := lt64 t
  rw [after0_9]
  have hX := fun i j => out9_apply (iblk m c 0 t) (iblk m c 1 t) (iblk m c 2 t) (iblk m c 3 t) (iblk m c 4 t) (iblk m c 5 t) (iblk m c 6 t) (iblk m c 7 t) i j
  simp only [projRow, blk0, blk1, blk2, blk3, blk4, blk5, blk6, blk7] at hX
  generalize out0_9 (iblk m c 0 t) (iblk m c 1 t) (iblk m c 2 t) (iblk m c 3 t) (iblk m c 4 t) (iblk m c 5 t) (iblk m c 6 t) (iblk m c 7 t) = X at hX ⊢
  change S256x512.Idx at y
  idx_vars y
  have ez : (((cfg0.win 9).blk t).view.emb (ix2 y0 y1) : S16384x512.Idx) = ix2 (rowAll t y0) y1 := by
    blk_ext [places t, rowAll]
  refine Eq.trans ?_ (congrArg (resultK m c) ez).symm
  refine Eq.trans (b := X (ix2 y0 y1)) rfl ?_
  rw [hX]
  unfold resultK projAt
  change _ = proj (fun j => arrY m c (ix3 (seq (rowAll t y0)) (pos (rowAll t y0)) j)) _ (fun j => arrMod m c (ix2 (seq (rowAll t y0)) _)) (fun j => arrMod m c (ix2 (seq (rowAll t y0)) _)) _ _
  rw [seq_rowAll, pos_rowAll]
  rfl

/-- the values, -/
theorem resultV_eq : (dats m 0 c).arrAt 10 cfg0.N = resultV m c := by
  refine (dats m 0 c).arrAt_eq_of_covers 10 _ (by decide +kernel) fun t hf y => ?_
  have ht := lt64 t
  rw [after0_10]
  have hX := fun i j => out10_apply (iblk m c 0 t) (iblk m c 1 t) (iblk m c 2 t) (iblk m c 3 t) (iblk m c 4 t) (iblk m c 5 t) (iblk m c 6 t) (iblk m c 7 t) i j
  simp only [projRow, blk0, blk1, blk2, blk3, blk4, blk5, blk6, blk7] at hX
  generalize out0_10 (iblk m c 0 t) (iblk m c 1 t) (iblk m c 2 t) (iblk m c 3 t) (iblk m c 4 t) (iblk m c 5 t) (iblk m c 6 t) (iblk m c 7 t) = X at hX ⊢
  change S256x1024.Idx at y
  idx_vars y
  have ez : (((cfg0.win 10).blk t).view.emb (ix2 y0 y1) : S16384x1024.Idx) = ix2 (rowAll t y0) y1 := by
    blk_ext [places t, rowAll]
  refine Eq.trans ?_ (congrArg (resultV m c) ez).symm
  refine Eq.trans (b := X (ix2 y0 y1)) rfl ?_
  rw [hX]
  unfold resultV projAt
  change _ = proj (fun j => arrY m c (ix3 (seq (rowAll t y0)) (pos (rowAll t y0)) j)) _ (fun j => arrMod m c (ix2 (seq (rowAll t y0)) _)) (fun j => arrMod m c (ix2 (seq (rowAll t y0)) _)) _ _
  rw [seq_rowAll, pos_rowAll]
  rfl

/-- the output gate, -/
theorem resultR_eq : (dats m 0 c).arrAt 11 cfg0.N = resultR m c := by
  refine (dats m 0 c).arrAt_eq_of_covers 11 _ (by decide +kernel) fun t hf y => ?_
  have ht := lt64 t
  rw [after0_11]
  have hX := fun i j => out11_apply (iblk m c 0 t) (iblk m c 1 t) (iblk m c 2 t) (iblk m c 3 t) (iblk m c 4 t) (iblk m c 5 t) (iblk m c 6 t) (iblk m c 7 t) i j
  simp only [projRow, blk0, blk1, blk2, blk3, blk4, blk5, blk6, blk7] at hX
  generalize out0_11 (iblk m c 0 t) (iblk m c 1 t) (iblk m c 2 t) (iblk m c 3 t) (iblk m c 4 t) (iblk m c 5 t) (iblk m c 6 t) (iblk m c 7 t) = X at hX ⊢
  change S256x1024.Idx at y
  idx_vars y
  have ez : (((cfg0.win 11).blk t).view.emb (ix2 y0 y1) : S16384x1024.Idx) = ix2 (rowAll t y0) y1 := by
    blk_ext [places t, rowAll]
  refine Eq.trans ?_ (congrArg (resultR m c) ez).symm
  refine Eq.trans (b := X (ix2 y0 y1)) rfl ?_
  rw [hX]
  unfold resultR projAt
  change _ = proj (fun j => arrY m c (ix3 (seq (rowAll t y0)) (pos (rowAll t y0)) j)) _ (fun j => arrMod m c (ix2 (seq (rowAll t y0)) _)) (fun j => arrMod m c (ix2 (seq (rowAll t y0)) _)) _ _
  rw [seq_rowAll, pos_rowAll]
  rfl

/-- and the log decays. -/
theorem resultLa_eq : (dats m 0 c).arrAt 12 cfg0.N = resultLa m c := by
  refine (dats m 0 c).arrAt_eq_of_covers 12 _ (by decide +kernel) fun t hf y => ?_
  have ht := lt64 t
  rw [after0_12]
  have hX := fun i j => out12_apply (iblk m c 0 t) (iblk m c 1 t) (iblk m c 2 t) (iblk m c 3 t) (iblk m c 4 t) (iblk m c 5 t) (iblk m c 6 t) (iblk m c 7 t) i j
  simp only [projRow, blk0, blk1, blk2, blk3, blk4, blk5, blk6, blk7] at hX
  generalize out0_12 (iblk m c 0 t) (iblk m c 1 t) (iblk m c 2 t) (iblk m c 3 t) (iblk m c 4 t) (iblk m c 5 t) (iblk m c 6 t) (iblk m c 7 t) = X at hX ⊢
  change S256x512.Idx at y
  idx_vars y
  have ez : (((cfg0.win 12).blk t).view.emb (ix2 y0 y1) : S16384x512.Idx) = ix2 (rowAll t y0) y1 := by
    blk_ext [places t, rowAll]
  refine Eq.trans ?_ (congrArg (resultLa m c) ez).symm
  refine Eq.trans (b := X (ix2 y0 y1)) rfl ?_
  rw [hX]
  refine congrArg (fun z => Ideal.div (logSigmoid (z + arrB m c (ix1 y1))) tau) ?_
  refine sum_padded _ (fun g => projAt (arrY m c) (arrMod m c) (arrNw m c) (arrW m c) (rowAll t y0) ⟨3072 + g, by omega⟩ * arrG m c (ix2 g y1)) fun g => ?_
  by_cases h : (g : ℕ) < 16
  · rw [dif_pos h, dif_pos h]
    refine congrArg (· * arrG m c (ix2 ⟨g, h⟩ y1)) ?_
    unfold projAt proj
    rw [seq_rowAll, pos_rowAll]
    exact Finset.sum_congr rfl fun a _ => congrArg _ (dif_pos h)
  · rw [dif_neg h, dif_neg h]
    exact mul_zero _

end Cert.GlaInIdeal.In
end
-- ==== Proof.In.GlaRef.lean ====
/- The reference of the recurrence's input call, read at an index over the extended reals. -/
module

public import proofs.«01_k».proof.Proof.Gen.GlaInRefIdeal.Run
public import proofs.«01_k».proof.Proof.Out.GlaRef
public import proofs.«01_k».proof.Proof.In.Row

@[expose] public section

set_option maxRecDepth 16384

noncomputable section

namespace Cert.GlaInRefIdeal.In

open Cert.GlaInRefIdeal Cert.GlaInRefIdeal.Gen Cert.Out Cert.In Idealize.ShloMosaic
open Cert.GlaOutRefIdeal.Out (vec modulate vec_apply modulate_apply)

/-- The projection of every token's row, -/
def projected (y : FVec Ideal S4x4096x1024 .f32) (md : FVec Ideal S4x6144 .f32) (nw : FVec Ideal S1024 .f32) (w : FVec Ideal S1024x3088 .f32) : FVec Ideal S4x4096x3088 .f32 :=
  Host.dotGeneral dot_S4x4096x1024_S1024x3088_S4x4096x3088_2_0_01_1_n_n none (modulate y nw (vec md 0 slices_S4x6x1024_S4x1x1024_0_0_0) (vec md 1 slices_S4x6x1024_S4x1x1024_0_1_0)) w
/-- the gate's rows, -/
def gates (p : FVec Ideal S4x4096x3088 .f32) (g : FVec Ideal S16x512 .f32) (b : FVec Ideal S512 .f32) : FVec Ideal S4x4096x512 .f32 :=
  addf (Host.dotGeneral dot_S4x4096x16_S16x512_S4x4096x512_2_0_01_1_n_n none (extractStridedSlice S4x4096x16 ![0, 0, 3072] p slices_S4x4096x3088_S4x4096x16_0_0_3072) g)
    (broadcastInDim S4x4096x512 ![0, 1, 2] bcast_S1x1x512_S4x4096x512_0_1_2 (broadcastInDim S1x1x512 ![2] bcast_S512_S1x1x512_2 b))
/-- the zero array, -/
def zeros : FVec Ideal S4x4096x512 .f32 := broadcastInDim S4x4096x512 ![] bcast_S_S4x4096x512 (constant S_ .f32 0x00000000#32)
/-- the soft maximum of an array and zero, -/
def softplus (n : FVec Ideal S4x4096x512 .f32) : FVec Ideal S4x4096x512 .f32 :=
  select (cmpf .une (subf n zeros) (subf n zeros)) (addf n zeros) (addf (maximumf n zeros) (Host.log1p (Host.exp (Host.negf (Host.absf (subf n zeros))))))
/-- and the log decays. -/
def decays (x : FVec Ideal S4x4096x512 .f32) : FVec Ideal S16384x512 .f32 :=
  shapeCast _ (Host.divf (Host.negf (softplus (Host.negf x))) (broadcastInDim S4x4096x512 ![] bcast_S_S4x4096x512 (constant S_ .f32 0x41800000#32))) shapeCasts_S4x4096x512_S16384x512

/-- The reference's results: the scaled queries, -/
def queries (p : FVec Ideal S4x4096x3088 .f32) : FVec Ideal S16384x512 .f32 :=
  shapeCast _ (mulf (extractStridedSlice S4x4096x512 ![0, 0, 0] p slices_S4x4096x3088_S4x4096x512_0_0_0) (broadcastInDim S4x4096x512 ![] bcast_S_S4x4096x512 (constant S_ .f32 0x3DB504F3#32)))
    shapeCasts_S4x4096x512_S16384x512
/-- the keys, -/
def keys (p : FVec Ideal S4x4096x3088 .f32) : FVec Ideal S16384x512 .f32 :=
  shapeCast _ (extractStridedSlice S4x4096x512 ![0, 0, 512] p slices_S4x4096x3088_S4x4096x512_0_0_512) shapeCasts_S4x4096x512_S16384x512
/-- the values, -/
def values (p : FVec Ideal S4x4096x3088 .f32) : FVec Ideal S16384x1024 .f32 :=
  shapeCast _ (extractStridedSlice S4x4096x1024 ![0, 0, 1024] p slices_S4x4096x3088_S4x4096x1024_0_0_1024) shapeCasts_S4x4096x1024_S16384x1024
/-- and the output gate. -/
def outGate (p : FVec Ideal S4x4096x3088 .f32) : FVec Ideal S16384x1024 .f32 :=
  shapeCast _ (extractStridedSlice S4x4096x1024 ![0, 0, 2048] p slices_S4x4096x3088_S4x4096x1024_0_0_2048) shapeCasts_S4x4096x1024_S16384x1024

theorem projected_apply (y : FVec Ideal S4x4096x1024 .f32) (md : FVec Ideal S4x6144 .f32) (nw : FVec Ideal S1024 .f32) (w : FVec Ideal S1024x3088 .f32) (b : Fin 4) (i : Fin 4096) (x : Fin 3088) :
    projected y md nw w (ix3 b i x) = proj (fun j => y (ix3 b i j)) (fun j => nw (ix1 j)) (fun j => md (ix2 b (part 0 j))) (fun j => md (ix2 b (part 1 j))) (fun a x => w (ix2 a x)) x := by
  unfold projected
  generalize hx : modulate y nw _ _ = X
  pointwise []
  subst hx
  simp only [modulate_apply, vec_apply _ 0 (by decide), vec_apply _ 1 (by decide)]
  rfl
theorem gates_apply (p : FVec Ideal S4x4096x3088 .f32) (g : FVec Ideal S16x512 .f32) (b : FVec Ideal S512 .f32) (k : Fin 4) (i : Fin 4096) (j : Fin 512) :
    gates p g b (ix3 k i j) = gateRow (fun a => p (ix3 k i ⟨3072 + a, by omega⟩)) (fun a j => g (ix2 a j)) (fun j => b (ix1 j)) j := by
  pointwise [gates, gateRow]
theorem softplus_apply (x : FVec Ideal S4x4096x512 .f32) (k : Fin 4) (i : Fin 4096) (j : Fin 512) :
    -softplus (Host.negf x) (ix3 k i j) = logSigmoid (x (ix3 k i j)) := by
  rw [← logSigmoid_eq]
  pointwise [softplus, zeros]
  rw [if_neg fun h => h rfl]
  rfl
theorem decays_apply (x : FVec Ideal S4x4096x512 .f32) (r : Fin 16384) (j : Fin 512) :
    decays x (ix2 r j) = Ideal.div (logSigmoid (x (ix3 (seq r) (pos r) j))) tau := by
  rw [← softplus_apply]
  unfold decays
  generalize softplus (Host.negf x) = Z
  pointwise [seq, pos]

theorem queries_apply (p : FVec Ideal S4x4096x3088 .f32) (r : Fin 16384) (j : Fin 512) : queries p (ix2 r j) = p (ix3 (seq r) (pos r) ⟨j, by omega⟩) * qScale := by
  pointwise [queries, seq, pos]
theorem keys_apply (p : FVec Ideal S4x4096x3088 .f32) (r : Fin 16384) (j : Fin 512) : keys p (ix2 r j) = p (ix3 (seq r) (pos r) ⟨512 + j, by omega⟩) := by
  pointwise [keys, seq, pos]
theorem values_apply (p : FVec Ideal S4x4096x3088 .f32) (r : Fin 16384) (j : Fin 1024) : values p (ix2 r j) = p (ix3 (seq r) (pos r) ⟨1024 + j, by omega⟩) := by
  pointwise [values, seq, pos]
theorem outGate_apply (p : FVec Ideal S4x4096x3088 .f32) (r : Fin 16384) (j : Fin 1024) : outGate p (ix2 r j) = p (ix3 (seq r) (pos r) ⟨2048 + j, by omega⟩) := by
  pointwise [outGate, seq, pos]

end Cert.GlaInRefIdeal.In
end
-- ==== Proof.In.GlaClaims.lean ====
/- The recurrence's input call: kernel and reference agree. -/
module

public import proofs.«01_k».proof.Defs
public import proofs.«01_k».proof.Proof.Gen.GlaIn.Frame
public import proofs.«01_k».proof.Proof.In.GlaArray
public import proofs.«01_k».proof.Proof.In.GlaRef

@[expose] public section

set_option maxRecDepth 16384

noncomputable section

namespace Cert.Proof.GlaIn

open Idealize.ShloMosaic Idealize.ShloMosaic.TcCoe Idealize.SL.Sem
open Cert.GlaInIdeal.In
open Cert.GlaInRefIdeal.In (projected gates decays queries keys values outGate projected_apply gates_apply decays_apply queries_apply keys_apply values_apply outGate_apply)

variable (m : (ℓ : Loc Cert.GlaInIdeal.nD Cert.GlaInIdeal.τ Cert.GlaInIdeal.sig) → Buf (Elt Ideal) ℓ) (c : Dev Cert.GlaInIdeal.nD)

/-! The reference's arrays are the kernel's. -/

theorem queries_eq : queries (projected (arrY m c) (arrMod m c) (arrNw m c) (arrW m c)) = resultQ m c := by
  funext y
  idx_vars y
  rw [queries_apply, projected_apply]
  rfl
theorem keys_eq : keys (projected (arrY m c) (arrMod m c) (arrNw m c) (arrW m c)) = resultK m c := by
  funext y
  idx_vars y
  rw [keys_apply, projected_apply]
  rfl
theorem values_eq : values (projected (arrY m c) (arrMod m c) (arrNw m c) (arrW m c)) = resultV m c := by
  funext y
  idx_vars y
  rw [values_apply, projected_apply]
  rfl
theorem outGate_eq : outGate (projected (arrY m c) (arrMod m c) (arrNw m c) (arrW m c)) = resultR m c := by
  funext y
  idx_vars y
  rw [outGate_apply, projected_apply]
  rfl
theorem decays_eq : decays (gates (projected (arrY m c) (arrMod m c) (arrNw m c) (arrW m c)) (arrG m c) (arrB m c)) = resultLa m c := by
  funext y
  idx_vars y
  rw [decays_apply, gates_apply]
  simp only [projected_apply]
  rfl

/-- Every execution of the call ends, its arguments unchanged and its semaphores at zero: at the machine's floats, -/
theorem frame_kernel : Cert.quiescent_GlaIn := fun m ρ _ => Cert.GlaIn.Gen.frame m ρ
/-- at the extended reals, -/
theorem frame_ideal : Cert.quiescent_GlaInIdeal := fun m ρ _ => Cert.GlaInIdeal.Gen.frame m ρ
/-- and the reference's. -/
theorem frame_ref : Cert.quiescent_GlaInRefIdeal := fun m ρ _ =>
  (θ_run Cert.GlaInRefIdeal.defs _ _).mono (fun r h => ⟨fun c => (h c).2.2.2.2.2, sem_eq_zero_of_no_sems (by decide) r.2⟩)
    (Cert.GlaInRefIdeal.Value.run (F := Ideal) m ρ)

/-- From equal arguments, the kernel's projections and log decays are the reference's. -/
theorem algebraic : Cert.algebraic_GlaInIdeal_GlaInRefIdeal := by
  intro m g m' g' hpre hargs
  refine ⟨fun c => resultQ m c, fun c => resultK m c, fun c => resultV m c, fun c => resultR m c, fun c => resultLa m c, ?_, ?_⟩
  · refine (θ_run Cert.GlaInIdeal.defs _ _).mono (fun r h c => ?_) (Cert.GlaInIdeal.Value.run_blocks (F := Ideal) m g)
    obtain ⟨h0, h1, h2, h3, h4, hk⟩ := h c
    exact ⟨h0.trans (resultQ_eq m c), h1.trans (resultK_eq m c), h2.trans (resultV_eq m c), h3.trans (resultR_eq m c), h4.trans (resultLa_eq m c), hk⟩
  · refine (θ_run Cert.GlaInRefIdeal.defs _ _).mono (fun r h c => ?_) (Cert.GlaInRefIdeal.Value.run (F := Ideal) m' g')
    obtain ⟨h0, h1, h2, h3, h4, hk⟩ := h c
    obtain ⟨e0, e1, e2, e3, e4, e5⟩ := hargs c
    rw [e0, e1, e2, e3] at h0 h1 h2 h3
    have e : Cert.GlaInRefIdeal.Value.res_main_v57 m' c = decays (gates (projected (m' ((c.tc : Thread Cert.GlaInRefIdeal.nD Cert.GlaInRefIdeal.τ).loc Cert.GlaInRefIdeal.main_arg0))
      (m' ((c.tc : Thread Cert.GlaInRefIdeal.nD Cert.GlaInRefIdeal.τ).loc Cert.GlaInRefIdeal.main_arg1)) (m' ((c.tc : Thread Cert.GlaInRefIdeal.nD Cert.GlaInRefIdeal.τ).loc Cert.GlaInRefIdeal.main_arg2))
      (m' ((c.tc : Thread Cert.GlaInRefIdeal.nD Cert.GlaInRefIdeal.τ).loc Cert.GlaInRefIdeal.main_arg3))) (m' ((c.tc : Thread Cert.GlaInRefIdeal.nD Cert.GlaInRefIdeal.τ).loc Cert.GlaInRefIdeal.main_arg4))
      (m' ((c.tc : Thread Cert.GlaInRefIdeal.nD Cert.GlaInRefIdeal.τ).loc Cert.GlaInRefIdeal.main_arg5))) := rfl
    rw [e, e0, e1, e2, e3, e4, e5] at h4
    exact ⟨h0.trans (queries_eq m c), h1.trans (keys_eq m c), h2.trans (values_eq m c), h3.trans (outGate_eq m c), h4.trans (decays_eq m c), hk⟩

end Cert.Proof.GlaIn
end
-- ==== Proof.lean ====
/- The proof of the certificate's claim: the recurrence's claims (Gla/), those of the two output calls (Out/) and those of the two input calls (In/). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.GlaOut
public import proofs.«01_k».proof.Proof.Gen.GlaOutIdeal
public import proofs.«01_k».proof.Proof.Gen.GlaOutRefIdeal
public import proofs.«01_k».proof.Proof.Gen.EvenOut
public import proofs.«01_k».proof.Proof.Gen.EvenOutIdeal
public import proofs.«01_k».proof.Proof.Gen.EvenOutRefIdeal
public import proofs.«01_k».proof.Proof.Gen.EvenIn
public import proofs.«01_k».proof.Proof.Gen.EvenInIdeal
public import proofs.«01_k».proof.Proof.Gen.EvenInRefIdeal
public import proofs.«01_k».proof.Proof.Gen.EvenInRefIdeal.Run
public import proofs.«01_k».proof.Proof.Gen.GlaIn
public import proofs.«01_k».proof.Proof.Gen.GlaInIdeal
public import proofs.«01_k».proof.Proof.Gen.GlaInRefIdeal
public import proofs.«01_k».proof.Proof.Gen.Pre_log_decays
public import proofs.«01_k».proof.Proof.Gla.Claims
public import proofs.«01_k».proof.Proof.Out.GlaClaims
public import proofs.«01_k».proof.Proof.Out.EvenClaims
public import proofs.«01_k».proof.Proof.In.EvenFrames
public import proofs.«01_k».proof.Proof.In.EvenClaims
public import proofs.«01_k».proof.Proof.In.GlaClaims

@[expose] public section

namespace Cert.Proof

/-- The certificate's claim. -/
theorem claim : Cert.Claim :=
  ⟨Cert.Kernel.Gen.facts, Cert.KernelIdeal.Gen.facts, Cert.ReferenceIdeal.Gen.facts, Cert.GlaOut.Gen.facts, Cert.GlaOutIdeal.Gen.facts, Cert.GlaOutRefIdeal.Gen.facts, Cert.EvenOut.Gen.facts, Cert.EvenOutIdeal.Gen.facts, Cert.EvenOutRefIdeal.Gen.facts,
    Cert.EvenIn.Gen.facts, Cert.EvenInIdeal.Gen.facts, Cert.EvenInRefIdeal.Gen.facts, Cert.GlaIn.Gen.facts, Cert.GlaInIdeal.Gen.facts, Cert.GlaInRefIdeal.Gen.facts, Cert.Pre_log_decays.Gen.facts,
    Gla.frame_kernel, Gla.frame_ideal, Gla.frame_ideal_pre, Gla.frame_ref, Gla.frame_ref_pre,
    GlaOut.frame_kernel, GlaOut.frame_ideal, GlaOut.frame_ref, EvenOut.frame_kernel, EvenOut.frame_ideal, EvenOut.frame_ref,
    EvenIn.frame_kernel, EvenIn.frame_ideal, EvenIn.frame_ref, GlaIn.frame_kernel, GlaIn.frame_ideal, GlaIn.frame_ref,
    trivial, Gla.algebraic, trivial, GlaOut.algebraic, trivial, EvenOut.algebraic, trivial, EvenIn.algebraic, trivial, GlaIn.algebraic⟩

end Cert.Proof
